-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v170) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel : Cert.Kernel.Facts) (hKernelIdeal : Cert.KernelIdeal.Facts) (hReferenceIdeal : Cert.ReferenceIdeal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel (hKernel := hKernel)
    ∧ quiescent_KernelIdeal (hKernelIdeal := hKernelIdeal)
    ∧ quiescent_ReferenceIdeal (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel_KernelIdeal
    ∧ algebraic_KernelIdeal_ReferenceIdeal (hKernelIdeal := hKernelIdeal) (hReferenceIdeal := hReferenceIdeal)
-- ==== Kernel2.lean ====
abbrev S8x4096x1024 : Shape := ⟨3, ![8, 4096, 1024]⟩
abbrev S16x6x1024 : Shape := ⟨3, ![16, 6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x6x1024 : Shape := ⟨3, ![1, 6, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x4096x1024 : Shape := ⟨3, ![8, 4096, 1024]⟩
abbrev S16x6x1024 : Shape := ⟨3, ![16, 6, 1024]⟩
abbrev S1024 : Shape := ⟨1, ![1024]⟩
abbrev S1024x2816 : Shape := ⟨2, ![1024, 2816]⟩
abbrev S2816x1024 : Shape := ⟨2, ![2816, 1024]⟩
abbrev S8x2x6x1024 : Shape := ⟨4, ![8, 2, 6, 1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8x2x6x1024, .f32⟩
  | .hbm, ⟨8, _⟩ => ⟨S8x1x1x1024, .f32⟩
  | .hbm, ⟨9, _⟩ => ⟨S8x1x1024, .f32⟩
  | .hbm, ⟨10, _⟩ => ⟨S8x2x6x1024, .f32⟩
  | .hbm, ⟨11, _⟩ => ⟨S8x1x1x1024, .f32⟩
  | .hbm, ⟨12, _⟩ => ⟨S8x1x1024, .f32⟩
  | .hbm, ⟨13, _⟩ => ⟨S8x2x6x1024, .f32⟩
  | .hbm, ⟨14, _⟩ => ⟨S8x1x1x1024, .f32⟩
  | .hbm, ⟨15, _⟩ => ⟨S8x1x1024, .f32⟩
  | .hbm, ⟨16, _⟩ => ⟨S8x2x6x1024, .f32⟩
  | .hbm, ⟨17, _⟩ => ⟨S8x1x1x1024, .f32⟩
  | .hbm, ⟨18, _⟩ => ⟨S8x1x1024, .f32⟩
  | .hbm, ⟨19, _⟩ => ⟨S8x2x6x1024, .f32⟩
  | .hbm, ⟨20, _⟩ => ⟨S8x1x1x1024, .f32⟩
  | .hbm, ⟨21, _⟩ => ⟨S8x1x1024, .f32⟩
  | .hbm, ⟨22, _⟩ => ⟨S8x2x6x1024, .f32⟩
  | .hbm, ⟨23, _⟩ => ⟨S8x1x1x1024, .f32⟩
  | .hbm, ⟨24, _⟩ => ⟨S8x1x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S_, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel3.lean ====
abbrev S8x4096x1024 : Shape := ⟨3, ![8, 4096, 1024]⟩
abbrev S16x6x1024 : Shape := ⟨3, ![16, 6, 1024]⟩
abbrev S1024 : Shape := ⟨1, ![1024]⟩
abbrev S8x4096x512 : Shape := ⟨3, ![8, 4096, 512]⟩
abbrev S8x4096x1664 : Shape := ⟨3, ![8, 4096, 1664]⟩
abbrev S8x4096x2176 : Shape := ⟨3, ![8, 4096, 2176]⟩
abbrev S512 : Shape := ⟨1, ![512]⟩
abbrev S1024x10832 : Shape := ⟨2, ![1024, 10832]⟩
abbrev S4x512x1024 : Shape := ⟨3, ![4, 512, 1024]⟩
abbrev S1024x1024 : Shape := ⟨2, ![1024, 1024]⟩
abbrev S1024x4096 : Shape := ⟨2, ![1024, 4096]⟩
abbrev S1x1024 : Shape := ⟨2, ![1, 1024]⟩
abbrev S1x512 : Shape := ⟨2, ![1, 512]⟩
abbrev S1x512x1024 : Shape := ⟨3, ![1, 512, 1024]⟩
abbrev S1x6x1024 : Shape := ⟨3, ![1, 6, 1024]⟩
abbrev S1x512x512 : Shape := ⟨3, ![1, 512, 512]⟩
abbrev S512x1024 : Shape := ⟨2, ![512, 1024]⟩
abbrev S1x1x1024 : Shape := ⟨3, ![1, 1, 1024]⟩
abbrev S512x1 : Shape := ⟨2, ![512, 1]⟩
abbrev S512x512 : Shape := ⟨2, ![512, 512]⟩
abbrev S512x256 : Shape := ⟨2, ![512, 256]⟩
abbrev S512x128 : Shape := ⟨2, ![512, 128]⟩

abbrev nBuf : Space → Nat
  | .hbm => 32
  | .vmem => 38
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S8x4096x512, .f32⟩
  | .hbm, ⟨4, _⟩ => ⟨S8x4096x512, .f32⟩
  | .hbm, ⟨5, _⟩ => ⟨S8x4096x512, .f32⟩
  | .hbm, ⟨6, _⟩ => ⟨S8x4096x512, .f32⟩
  | .hbm, ⟨7, _⟩ => ⟨S8x4096x512, .f32⟩
  | .hbm, ⟨8, _⟩ => ⟨S8x4096x512, .f32⟩
  | .hbm, ⟨9, _⟩ => ⟨S8x4096x512, .f32⟩
  | .hbm, ⟨10, _⟩ => ⟨S8x4096x512, .f32⟩
  | .hbm, ⟨11, _⟩ => ⟨S8x4096x1664, .f32⟩
  | .hbm, ⟨12, _⟩ => ⟨S8x4096x1664, .f32⟩
  | .hbm, ⟨13, _⟩ => ⟨S8x4096x2176, .f32⟩
  | .hbm, ⟨14, _⟩ => ⟨S8x4096x1664, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S1024x10832, .f32⟩
  | .hbm, ⟨20, _⟩ => ⟨S4x512x1024, .f32⟩
  | .hbm, ⟨21, _⟩ => ⟨S1024x1024, .f32⟩
  | .hbm, ⟨22, _⟩ => ⟨S1024x4096, .f32⟩
  | .hbm, ⟨23, _⟩ => ⟨S1024x4096, .bf16⟩
  | .hbm, ⟨24, _⟩ => ⟨S4x512x1024, .bf16⟩
  | .hbm, ⟨25, _⟩ => ⟨S1024x1024, .bf16⟩
  | .hbm, ⟨26, _⟩ => ⟨S1x1024, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1024x4096, .bf16⟩
  | .local _ .vmem, ⟨34, _⟩ => ⟨S4x512x1024, .bf16⟩
  | .local _ .vmem, ⟨35, _⟩ => ⟨S1024x1024, .bf16⟩
  | .local _ .vmem, ⟨36, _⟩ => ⟨S1x512x1024, .f32⟩
  | .local _ .vmem, ⟨37, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg22_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x4096 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S4x512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference3Ideal.lean ====
abbrev S8x4096x1024 : Shape := ⟨3, ![8, 4096, 1024]⟩
abbrev S16x6x1024 : Shape := ⟨3, ![16, 6, 1024]⟩
abbrev S1024 : Shape := ⟨1, ![1024]⟩
abbrev S8x4096x512 : Shape := ⟨3, ![8, 4096, 512]⟩
abbrev S8x4096x1664 : Shape := ⟨3, ![8, 4096, 1664]⟩
abbrev S8x4096x2176 : Shape := ⟨3, ![8, 4096, 2176]⟩
abbrev S512 : Shape := ⟨1, ![512]⟩
abbrev S1024x10832 : Shape := ⟨2, ![1024, 10832]⟩
abbrev S4x512x1024 : Shape := ⟨3, ![4, 512, 1024]⟩
abbrev S1024x1024 : Shape := ⟨2, ![1024, 1024]⟩
abbrev S8x2x6x1024 : Shape := ⟨4, ![8, 2, 6, 1024]⟩
abbrev S8x1x1x1024 : Shape := ⟨4, ![8, 1, 1, 1024]⟩
abbrev S8x1x1024 : Shape := ⟨3, ![8, 1, 1024]⟩
abbrev S_ : Shape := ⟨0, ![]⟩
abbrev S8x4096x2x256 : Shape := ⟨4, ![8, 4096, 2, 256]⟩
abbrev S8x4096x2 : Shape := ⟨3, ![8, 4096, 2]⟩
abbrev S8x4096x2x1 : Shape := ⟨4, ![8, 4096, 2, 1]⟩
abbrev S1x1x512 : Shape := ⟨3, ![1, 1, 512]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S1x512x1024 : Shape := ⟨3, ![1, 512, 1024]⟩
abbrev S512x1024 : Shape := ⟨2, ![512, 1024]⟩

abbrev nBuf : Space → Nat
  | .hbm => 243
  | .vmem => 0
  | .smem => 0
  | _ => 0

abbrev hbmTy0_0 (i : Nat) : BufTy := match i % 128 with
  | 0 => ⟨S8x4096x1024, .f32⟩
  | 1 => ⟨S16x6x1024, .f32⟩
  | 2 => ⟨S1024, .f32⟩
  | 3 => ⟨S8x4096x512, .f32⟩
  | 4 => ⟨S8x4096x512, .f32⟩
  | 5 => ⟨S8x4096x512, .f32⟩
  | 6 => ⟨S8x4096x512, .f32⟩
  | 7 => ⟨S8x4096x512, .f32⟩
  | 8 => ⟨S8x4096x512, .f32⟩
  | 9 => ⟨S8x4096x512, .f32⟩
  | 10 => ⟨S8x4096x512, .f32⟩
  | 11 => ⟨S8x4096x1664, .f32⟩
  | 12 => ⟨S8x4096x1664, .f32⟩
  | 13 => ⟨S8x4096x2176, .f32⟩
  | 14 => ⟨S8x4096x1664, .f32⟩
  | 15 => ⟨S512, .f32⟩
  | 16 => ⟨S512, .f32⟩
  | 17 => ⟨S512, .f32⟩
  | 18 => ⟨S512, .f32⟩
  | 19 => ⟨S1024x10832, .f32⟩
  | 20 => ⟨S4x512x1024, .f32⟩
  | 21 => ⟨S1024x1024, .f32⟩
  | 22 => ⟨S8x2x6x1024, .f32⟩
  | 23 => ⟨S8x1x1x1024, .f32⟩
  | 24 => ⟨S8x1x1024, .f32⟩
  | 25 => ⟨S8x2x6x1024, .f32⟩
  | 26 => ⟨S8x1x1x1024, .f32⟩
  | 27 => ⟨S8x1x1024, .f32⟩
  | 28 => ⟨S8x2x6x1024, .f32⟩
  | 29 => ⟨S8x1x1x1024, .f32⟩
  | 30 => ⟨S8x1x1024, .f32⟩
  | 31 => ⟨S8x2x6x1024, .f32⟩
  | 32 => ⟨S8x1x1x1024, .f32⟩
  | 33 => ⟨S8x1x1024, .f32⟩
  | 34 => ⟨S8x2x6x1024, .f32⟩
  | 35 => ⟨S8x1x1x1024, .f32⟩
  | 36 => ⟨S8x1x1024, .f32⟩
  | 37 => ⟨S8x2x6x1024, .f32⟩
  | 38 => ⟨S8x1x1x1024, .f32⟩
  | 39 => ⟨S8x1x1024, .f32⟩
  | 40 => ⟨S8x4096x512, .f32⟩
  | 41 => ⟨S8x4096x512, .f32⟩
  | 42 => ⟨S8x4096x512, .f32⟩
  | 43 => ⟨S8x4096x512, .f32⟩
  | 44 => ⟨S8x4096x512, .f32⟩
  | 45 => ⟨S8x4096x512, .f32⟩
  | 46 => ⟨S8x4096x512, .f32⟩
  | 47 => ⟨S_, .f32⟩
  | 48 => ⟨S8x4096x512, .f32⟩
  | 49 => ⟨S8x4096x512, .f32⟩
  | 50 => ⟨S_, .f32⟩
  | 51 => ⟨S8x4096x512, .f32⟩
  | 52 => ⟨S8x4096x512, .f32⟩
  | 53 => ⟨S8x4096x512, .f32⟩
  | 54 => ⟨S8x4096x512, .f32⟩
  | 55 => ⟨S8x4096x2x256, .f32⟩
  | 56 => ⟨S8x4096x2x256, .f32⟩
  | 57 => ⟨S_, .f32⟩
  | 58 => ⟨S8x4096x2, .f32⟩
  | 59 => ⟨S8x4096x2x1, .f32⟩
  | 60 => ⟨S_, .f32⟩
  | 61 => ⟨S8x4096x2x1, .f32⟩
  | 62 => ⟨S8x4096x2x1, .f32⟩
  | 63 => ⟨S_, .f32⟩
  | 64 => ⟨S8x4096x2x1, .f32⟩
  | 65 => ⟨S8x4096x2x1, .f32⟩
  | 66 => ⟨S8x4096x2x1, .f32⟩
  | 67 => ⟨S8x4096x2x256, .f32⟩
  | 68 => ⟨S8x4096x2x256, .f32⟩
  | 69 => ⟨S8x4096x512, .f32⟩
  | 70 => ⟨S1x1x512, .f32⟩
  | 71 => ⟨S8x4096x512, .f32⟩
  | 72 => ⟨S8x4096x512, .f32⟩
  | 73 => ⟨S8x4096x512, .f32⟩
  | 74 => ⟨S8x4096x4x128, .f32⟩
  | 75 => ⟨S8x4096x4x128, .f32⟩
  | 76 => ⟨S_, .f32⟩
  | 77 => ⟨S8x4096x4, .f32⟩
  | 78 => ⟨S8x4096x4x1, .f32⟩
  | 79 => ⟨S_, .f32⟩
  | 80 => ⟨S8x4096x4x1, .f32⟩
  | 81 => ⟨S8x4096x4x1, .f32⟩
  | 82 => ⟨S_, .f32⟩
  | 83 => ⟨S8x4096x4x1, .f32⟩
  | 84 => ⟨S8x4096x4x1, .f32⟩
  | 85 => ⟨S8x4096x4x1, .f32⟩
  | 86 => ⟨S8x4096x4x128, .f32⟩
  | 87 => ⟨S8x4096x4x128, .f32⟩
  | 88 => ⟨S8x4096x512, .f32⟩
  | 89 => ⟨S1x1x512, .f32⟩
  | 90 => ⟨S8x4096x512, .f32⟩
  | 91 => ⟨S8x4096x512, .f32⟩
  | 92 => ⟨S8x4096x512, .f32⟩
  | 93 => ⟨S8x4096x512, .f32⟩
  | 94 => ⟨S_, .f32⟩
  | 95 => ⟨S8x4096x512, .f32⟩
  | 96 => ⟨S8x4096x512, .f32⟩
  | 97 => ⟨S_, .f32⟩
  | 98 => ⟨S8x4096x512, .f32⟩
  | 99 => ⟨S8x4096x512, .f32⟩
  | 100 => ⟨S8x4096x512, .f32⟩
  | 101 => ⟨S8x4096x512, .f32⟩
  | 102 => ⟨S8x4096x4x128, .f32⟩
  | 103 => ⟨S8x4096x4x128, .f32⟩
  | 104 => ⟨S_, .f32⟩
  | 105 => ⟨S8x4096x4, .f32⟩
  | 106 => ⟨S8x4096x4x1, .f32⟩
  | 107 => ⟨S_, .f32⟩
  | 108 => ⟨S8x4096x4x1, .f32⟩
  | 109 => ⟨S8x4096x4x1, .f32⟩
  | 110 => ⟨S_, .f32⟩
  | 111 => ⟨S8x4096x4x1, .f32⟩
  | 112 => ⟨S8x4096x4x1, .f32⟩
  | 113 => ⟨S8x4096x4x1, .f32⟩
  | 114 => ⟨S8x4096x4x128, .f32⟩
  | 115 => ⟨S8x4096x4x128, .f32⟩
  | 116 => ⟨S8x4096x512, .f32⟩
  | 117 => ⟨S1x1x512, .f32⟩
  | 118 => ⟨S8x4096x512, .f32⟩
  | 119 => ⟨S8x4096x512, .f32⟩
  | 120 => ⟨S8x4096x512, .f32⟩
  | 121 => ⟨S8x4096x512, .f32⟩
  | 122 => ⟨S_, .f32⟩
  | 123 => ⟨S8x4096x512, .f32⟩
  | 124 => ⟨S8x4096x512, .f32⟩
  | 125 => ⟨S_, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S8x4096x512, .f32⟩
  | 3 => ⟨S8x4096x4x128, .f32⟩
  | 4 => ⟨S8x4096x4x128, .f32⟩
  | 5 => ⟨S_, .f32⟩
  | 6 => ⟨S8x4096x4, .f32⟩
  | 7 => ⟨S8x4096x4x1, .f32⟩
  | 8 => ⟨S_, .f32⟩
  | 9 => ⟨S8x4096x4x1, .f32⟩
  | 10 => ⟨S8x4096x4x1, .f32⟩
  | 11 => ⟨S_, .f32⟩
  | 12 => ⟨S8x4096x4x1, .f32⟩
  | 13 => ⟨S8x4096x4x1, .f32⟩
  | 14 => ⟨S8x4096x4x1, .f32⟩
  | 15 => ⟨S8x4096x4x128, .f32⟩
  | 16 => ⟨S8x4096x4x128, .f32⟩
  | 17 => ⟨S8x4096x512, .f32⟩
  | 18 => ⟨S1x1x512, .f32⟩
  | 19 => ⟨S8x4096x512, .f32⟩
  | 20 => ⟨S8x4096x512, .f32⟩
  | 21 => ⟨S8x4096x512, .f32⟩
  | 22 => ⟨S8x4096x512, .f32⟩
  | 23 => ⟨S_, .f32⟩
  | 24 => ⟨S8x4096x512, .f32⟩
  | 25 => ⟨S8x4096x512, .f32⟩
  | 26 => ⟨S_, .f32⟩
  | 27 => ⟨S8x4096x512, .f32⟩
  | 28 => ⟨S8x4096x512, .f32⟩
  | 29 => ⟨S8x4096x512, .f32⟩
  | 30 => ⟨S8x4096x512, .f32⟩
  | 31 => ⟨S8x4096x1024, .f32⟩
  | 32 => ⟨S_, .f32⟩
  | 33 => ⟨S8x4096, .f32⟩
  | 34 => ⟨S8x4096x1, .f32⟩
  | 35 => ⟨S_, .f32⟩
  | 36 => ⟨S8x4096x1, .f32⟩
  | 37 => ⟨S8x4096x1, .f32⟩
  | 38 => ⟨S_, .f32⟩
  | 39 => ⟨S8x4096x1, .f32⟩
  | 40 => ⟨S8x4096x1, .f32⟩
  | 41 => ⟨S8x4096x1, .f32⟩
  | 42 => ⟨S8x4096x1024, .f32⟩
  | 43 => ⟨S8x4096x1024, .f32⟩
  | 44 => ⟨S1x1x1024, .f32⟩
  | 45 => ⟨S8x4096x1024, .f32⟩
  | 46 => ⟨S8x4096x1024, .f32⟩
  | 47 => ⟨S_, .f32⟩
  | 48 => ⟨S8x1x1024, .f32⟩
  | 49 => ⟨S8x1x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S1024x4096, .f32⟩
  | 55 => ⟨S8x4096x4096, .f32⟩
  | 56 => ⟨S8x4096x1024, .f32⟩
  | 57 => ⟨S8x4096x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S_, .f32⟩
  | 63 => ⟨S8x4096x1024, .f32⟩
  | 64 => ⟨S8x4096x1024, .f32⟩
  | 65 => ⟨S_, .f32⟩
  | 66 => ⟨S8x4096x1024, .f32⟩
  | 67 => ⟨S8x4096x1024, .f32⟩
  | 68 => ⟨S1x512x1024, .f32⟩
  | 69 => ⟨S512x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S_, .f32⟩
  | 75 => ⟨S8x4096x1024, .f32⟩
  | 76 => ⟨S8x4096x1024, .f32⟩
  | 77 => ⟨S_, .f32⟩
  | 78 => ⟨S8x4096x1024, .f32⟩
  | 79 => ⟨S8x4096x1024, .f32⟩
  | 80 => ⟨S1x512x1024, .f32⟩
  | 81 => ⟨S512x1024, .f32⟩
  | 82 => ⟨S8x4096x1024, .f32⟩
  | 83 => ⟨S8x4096x1024, .f32⟩
  | 84 => ⟨S8x4096x1024, .f32⟩
  | 85 => ⟨S8x4096x1024, .f32⟩
  | 86 => ⟨S8x4096x1024, .f32⟩
  | 87 => ⟨S_, .f32⟩
  | 88 => ⟨S8x4096x1024, .f32⟩
  | 89 => ⟨S8x4096x1024, .f32⟩
  | 90 => ⟨S_, .f32⟩
  | 91 => ⟨S8x4096x1024, .f32⟩
  | 92 => ⟨S8x4096x1024, .f32⟩
  | 93 => ⟨S1x512x1024, .f32⟩
  | 94 => ⟨S512x1024, .f32⟩
  | 95 => ⟨S8x4096x1024, .f32⟩
  | 96 => ⟨S8x4096x1024, .f32⟩
  | 97 => ⟨S8x4096x1024, .f32⟩
  | 98 => ⟨S8x4096x1024, .f32⟩
  | 99 => ⟨S8x4096x1024, .f32⟩
  | 100 => ⟨S_, .f32⟩
  | 101 => ⟨S8x4096x1024, .f32⟩
  | 102 => ⟨S8x4096x1024, .f32⟩
  | 103 => ⟨S_, .f32⟩
  | 104 => ⟨S8x4096x1024, .f32⟩
  | 105 => ⟨S8x4096x1024, .f32⟩
  | 106 => ⟨S1x512x1024, .f32⟩
  | 107 => ⟨S512x1024, .f32⟩
  | 108 => ⟨S8x4096x1024, .f32⟩
  | 109 => ⟨S8x4096x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst : Ref sig .tc := ⟨.hbm, 57, rfl⟩
abbrev main_v27 : Ref sig .tc := ⟨.hbm, 58, rfl⟩
abbrev main_v28 : Ref sig .tc := ⟨.hbm, 59, rfl⟩
abbrev main_cst_0 : Ref sig .tc := ⟨.hbm, 60, rfl⟩
abbrev main_v29 : Ref sig .tc := ⟨.hbm, 61, rfl⟩
abbrev main_v30 : Ref sig .tc := ⟨.hbm, 62, rfl⟩
abbrev main_cst_1 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_2 : Ref sig .tc := ⟨.hbm, 76, rfl⟩
abbrev main_v43 : Ref sig .tc := ⟨.hbm, 77, rfl⟩
abbrev main_v44 : Ref sig .tc := ⟨.hbm, 78, rfl⟩
abbrev main_cst_3 : Ref sig .tc := ⟨.hbm, 79, rfl⟩
abbrev main_v45 : Ref sig .tc := ⟨.hbm, 80, rfl⟩
abbrev main_v46 : Ref sig .tc := ⟨.hbm, 81, rfl⟩
abbrev main_cst_4 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_7 : Ref sig .tc := ⟨.hbm, 104, rfl⟩
abbrev main_v66 : Ref sig .tc := ⟨.hbm, 105, rfl⟩
abbrev main_v67 : Ref sig .tc := ⟨.hbm, 106, rfl⟩
abbrev main_cst_8 : Ref sig .tc := ⟨.hbm, 107, rfl⟩
abbrev main_v68 : Ref sig .tc := ⟨.hbm, 108, rfl⟩
abbrev main_v69 : Ref sig .tc := ⟨.hbm, 109, rfl⟩
abbrev main_cst_9 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_10 : Ref sig .tc := ⟨.hbm, 133, rfl⟩
abbrev main_v84 : Ref sig .tc := ⟨.hbm, 134, rfl⟩
abbrev main_v85 : Ref sig .tc := ⟨.hbm, 135, rfl⟩
abbrev main_cst_11 : Ref sig .tc := ⟨.hbm, 136, rfl⟩
abbrev main_v86 : Ref sig .tc := ⟨.hbm, 137, rfl⟩
abbrev main_v87 : Ref sig .tc := ⟨.hbm, 138, rfl⟩
abbrev main_cst_12 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_call2_v0 : Ref sig .tc := ⟨.hbm, 149, rfl⟩
abbrev main_call2_v1 : Ref sig .tc := ⟨.hbm, 150, rfl⟩
abbrev main_call2_cst : Ref sig .tc := ⟨.hbm, 151, rfl⟩
abbrev main_call2_v2 : Ref sig .tc := ⟨.hbm, 152, rfl⟩
abbrev main_call2_v3 : Ref sig .tc := ⟨.hbm, 153, rfl⟩
abbrev main_call2_cst_0 : Ref sig .tc := ⟨.hbm, 154, rfl⟩
abbrev main_call2_v4 : Ref sig .tc := ⟨.hbm, 155, rfl⟩
abbrev main_call2_v5 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_13 : Ref sig .tc := ⟨.hbm, 160, rfl⟩
abbrev main_v100 : Ref sig .tc := ⟨.hbm, 161, rfl⟩
abbrev main_v101 : Ref sig .tc := ⟨.hbm, 162, rfl⟩
abbrev main_cst_14 : Ref sig .tc := ⟨.hbm, 163, rfl⟩
abbrev main_v102 : Ref sig .tc := ⟨.hbm, 164, rfl⟩
abbrev main_v103 : Ref sig .tc := ⟨.hbm, 165, rfl⟩
abbrev main_cst_15 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_cst_16 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_17 : Ref sig .tc := ⟨.hbm, 190, rfl⟩
abbrev main_v126 : Ref sig .tc := ⟨.hbm, 191, rfl⟩
abbrev main_v127 : Ref sig .tc := ⟨.hbm, 192, rfl⟩
abbrev main_cst_18 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_cst_19 : Ref sig .tc := ⟨.hbm, 202, rfl⟩
abbrev main_v136 : Ref sig .tc := ⟨.hbm, 203, rfl⟩
abbrev main_v137 : Ref sig .tc := ⟨.hbm, 204, rfl⟩
abbrev main_cst_20 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_21 : Ref sig .tc := ⟨.hbm, 215, rfl⟩
abbrev main_v147 : Ref sig .tc := ⟨.hbm, 216, rfl⟩
abbrev main_v148 : Ref sig .tc := ⟨.hbm, 217, rfl⟩
abbrev main_cst_22 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_cst_23 : Ref sig .tc := ⟨.hbm, 228, rfl⟩
abbrev main_v158 : Ref sig .tc := ⟨.hbm, 229, rfl⟩
abbrev main_v159 : Ref sig .tc := ⟨.hbm, 230, rfl⟩
abbrev main_cst_24 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩

abbrev nD : Nat := 1
abbrev τ : Topo := Topo.v7x

variable {F : FTy → Type} [FloatOps F]
-- ==== Kernel4.lean ====
abbrev S8x4096x1024 : Shape := ⟨3, ![8, 4096, 1024]⟩
abbrev S16x6x1024 : Shape := ⟨3, ![16, 6, 1024]⟩
abbrev S1024 : Shape := ⟨1, ![1024]⟩
abbrev S1024x10832 : Shape := ⟨2, ![1024, 10832]⟩
abbrev S1024x1552 : Shape := ⟨2, ![1024, 1552]⟩
abbrev S_ : Shape := ⟨0, ![]⟩
abbrev S1024x1664 : Shape := ⟨2, ![1024, 1664]⟩
abbrev S1024x2064 : Shape := ⟨2, ![1024, 2064]⟩
abbrev S1024x2176 : Shape := ⟨2, ![1024, 2176]⟩
abbrev S1024x1568 : Shape := ⟨2, ![1024, 1568]⟩
abbrev S1x1024 : Shape := ⟨2, ![1, 1024]⟩
abbrev S8x4096x1664 : Shape := ⟨3, ![8, 4096, 1664]⟩
abbrev S8x4096x2176 : Shape := ⟨3, ![8, 4096, 2176]⟩
abbrev S1x512x1024 : Shape := ⟨3, ![1, 512, 1024]⟩
abbrev S1x6x1024 : Shape := ⟨3, ![1, 6, 1024]⟩
abbrev S1x512x1664 : Shape := ⟨3, ![1, 512, 1664]⟩
abbrev S1x512x2176 : Shape := ⟨3, ![1, 512, 2176]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x1664 : Shape := ⟨2, ![512, 1664]⟩
abbrev S512x2176 : Shape := ⟨2, ![512, 2176]⟩

abbrev nBuf : Space → Nat
  | .hbm => 29
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S1024x10832, .f32⟩
  | .hbm, ⟨4, _⟩ => ⟨S1024x1552, .f32⟩
  | .hbm, ⟨5, _⟩ => ⟨S_, .i32⟩
  | .hbm, ⟨6, _⟩ => ⟨S_, .f32⟩
  | .hbm, ⟨7, _⟩ => ⟨S1024x1664, .f32⟩
  | .hbm, ⟨8, _⟩ => ⟨S1024x1664, .bf16⟩
  | .hbm, ⟨9, _⟩ => ⟨S1024x1552, .f32⟩
  | .hbm, ⟨10, _⟩ => ⟨S_, .i32⟩
  | .hbm, ⟨11, _⟩ => ⟨S_, .f32⟩
  | .hbm, ⟨12, _⟩ => ⟨S1024x1664, .f32⟩
  | .hbm, ⟨13, _⟩ => ⟨S1024x1664, .bf16⟩
  | .hbm, ⟨14, _⟩ => ⟨S1024x2064, .f32⟩
  | .hbm, ⟨15, _⟩ => ⟨S_, .i32⟩
  | .hbm, ⟨16, _⟩ => ⟨S_, .f32⟩
  | .hbm, ⟨17, _⟩ => ⟨S1024x2176, .f32⟩
  | .hbm, ⟨18, _⟩ => ⟨S1024x2176, .bf16⟩
  | .hbm, ⟨19, _⟩ => ⟨S1024x1568, .f32⟩
  | .hbm, ⟨20, _⟩ => ⟨S_, .i32⟩
  | .hbm, ⟨21, _⟩ => ⟨S_, .f32⟩
  | .hbm, ⟨22, _⟩ => ⟨S1024x1664, .f32⟩
  | .hbm, ⟨23, _⟩ => ⟨S1024x1664, .bf16⟩
  | .hbm, ⟨24, _⟩ => ⟨S1x1024, .f32⟩
  | .hbm, ⟨25, _⟩ => ⟨S8x4096x1664, .f32⟩
  | .hbm, ⟨26, _⟩ => ⟨S8x4096x1664, .f32⟩
  | .hbm, ⟨27, _⟩ => ⟨S8x4096x2176, .f32⟩
  | .hbm, ⟨28, _⟩ => ⟨S8x4096x1664, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1664, .bf16⟩
  | .local _ .vmem, ⟨6, _⟩ => ⟨S1024x1664, .bf16⟩
  | .local _ .vmem, ⟨7, _⟩ => ⟨S1024x2176, .bf16⟩
  | .local _ .vmem, ⟨8, _⟩ => ⟨S1024x1664, .bf16⟩
  | .local _ .vmem, ⟨9, _⟩ => ⟨S1x512x1664, .f32⟩
  | .local _ .vmem, ⟨10, _⟩ => ⟨S1x512x1664, .f32⟩
  | .local _ .vmem, ⟨11, _⟩ => ⟨S1x512x1664, .f32⟩
  | .local _ .vmem, ⟨12, _⟩ => ⟨S1x512x1664, .f32⟩
  | .local _ .vmem, ⟨13, _⟩ => ⟨S1x512x2176, .f32⟩
  | .local _ .vmem, ⟨14, _⟩ => ⟨S1x512x2176, .f32⟩
  | .local _ .vmem, ⟨15, _⟩ => ⟨S1x512x1664, .f32⟩
  | .local _ .vmem, ⟨16, _⟩ => ⟨S1x512x1664, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2176 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1664 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4096x1024 : Shape := ⟨3, ![8, 4096, 1024]⟩
abbrev S16x6x1024 : Shape := ⟨3, ![16, 6, 1024]⟩
abbrev S1024 : Shape := ⟨1, ![1024]⟩
abbrev S1024x10832 : Shape := ⟨2, ![1024, 10832]⟩
abbrev S8x2x6x1024 : Shape := ⟨4, ![8, 2, 6, 1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x10832 : Shape := ⟨3, ![8, 4096, 10832]⟩
abbrev S8x4096x1552 : Shape := ⟨3, ![8, 4096, 1552]⟩
abbrev S8x4096x2064 : Shape := ⟨3, ![8, 4096, 2064]⟩
abbrev S8x4096x1568 : Shape := ⟨3, ![8, 4096, 1568]⟩
abbrev S8x4096x4096 : Shape := ⟨3, ![8, 4096, 4096]⟩
abbrev S8x4096x1664 : Shape := ⟨3, ![8, 4096, 1664]⟩
abbrev S8x4096x2176 : Shape := ⟨3, ![8, 4096, 2176]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S1024x10832, .f32⟩
  | .hbm, ⟨4, _⟩ => ⟨S8x2x6x1024, .f32⟩
  | .hbm, ⟨5, _⟩ => ⟨S8x1x1x1024, .f32⟩
  | .hbm, ⟨6, _⟩ => ⟨S8x1x1024, .f32⟩
  | .hbm, ⟨7, _⟩ => ⟨S8x2x6x1024, .f32⟩
  | .hbm, ⟨8, _⟩ => ⟨S8x1x1x1024, .f32⟩
  | .hbm, ⟨9, _⟩ => ⟨S8x1x1024, .f32⟩
  | .hbm, ⟨10, _⟩ => ⟨S8x2x6x1024, .f32⟩
  | .hbm, ⟨11, _⟩ => ⟨S8x1x1x1024, .f32⟩
  | .hbm, ⟨12, _⟩ => ⟨S8x1x1024, .f32⟩
  | .hbm, ⟨13, _⟩ => ⟨S8x2x6x1024, .f32⟩
  | .hbm, ⟨14, _⟩ => ⟨S8x1x1x1024, .f32⟩
  | .hbm, ⟨15, _⟩ => ⟨S8x1x1024, .f32⟩
  | .hbm, ⟨16, _⟩ => ⟨S8x2x6x1024, .f32⟩
  | .hbm, ⟨17, _⟩ => ⟨S8x1x1x1024, .f32⟩
  | .hbm, ⟨18, _⟩ => ⟨S8x1x1024, .f32⟩
  | .hbm, ⟨19, _⟩ => ⟨S8x2x6x1024, .f32⟩
  | .hbm, ⟨20, _⟩ => ⟨S8x1x1x1024, .f32⟩
  | .hbm, ⟨21, _⟩ => ⟨S8x1x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x10832, .f32⟩
  | .hbm, ⟨46, _⟩ => ⟨S8x4096x1552, .f32⟩
  | .hbm, ⟨47, _⟩ => ⟨S8x4096x1552, .f32⟩
  | .hbm, ⟨48, _⟩ => ⟨S8x4096x2064, .f32⟩
  | .hbm, ⟨49, _⟩ => ⟨S8x4096x1568, .f32⟩
  | .hbm, ⟨50, _⟩ => ⟨S8x4096x4096, .f32⟩
  | .hbm, ⟨51, _⟩ => ⟨S_, .i32⟩
  | .hbm, ⟨52, _⟩ => ⟨S_, .f32⟩
  | .hbm, ⟨53, _⟩ => ⟨S8x4096x1664, .f32⟩
  | .hbm, ⟨54, _⟩ => ⟨S_, .i32⟩
  | .hbm, ⟨55, _⟩ => ⟨S_, .f32⟩
  | .hbm, ⟨56, _⟩ => ⟨S8x4096x1664, .f32⟩
  | .hbm, ⟨57, _⟩ => ⟨S_, .i32⟩
  | .hbm, ⟨58, _⟩ => ⟨S_, .f32⟩
  | .hbm, ⟨59, _⟩ => ⟨S8x4096x2176, .f32⟩
  | .hbm, ⟨60, _⟩ => ⟨S_, .i32⟩
  | .hbm, ⟨61, _⟩ => ⟨S_, .f32⟩
  | .hbm, ⟨62, _⟩ => ⟨S8x4096x1664, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c : Ref sig .tc := ⟨.hbm, 51, rfl⟩
abbrev main_call0_v0 : Ref sig .tc := ⟨.hbm, 52, rfl⟩
abbrev main_v43 : Ref sig .tc := ⟨.hbm, 53, rfl⟩
abbrev main_c_3 : Ref sig .tc := ⟨.hbm, 54, rfl⟩
abbrev main_call1_v0 : Ref sig .tc := ⟨.hbm, 55, rfl⟩
abbrev main_v44 : Ref sig .tc := ⟨.hbm, 56, rfl⟩
abbrev main_c_4 : Ref sig .tc := ⟨.hbm, 57, rfl⟩
abbrev main_call2_v0 : Ref sig .tc := ⟨.hbm, 58, rfl⟩
abbrev main_v45 : Ref sig .tc := ⟨.hbm, 59, rfl⟩
abbrev main_c_5 : Ref sig .tc := ⟨.hbm, 60, rfl⟩
abbrev main_call3_v0 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel5.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S8x1x1024 : Shape := ⟨3, ![8, 1, 1024]⟩
abbrev S8x2x1024 : Shape := ⟨3, ![8, 2, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S8x1024, .f32⟩
  | .hbm, ⟨5, _⟩ => ⟨S8x1x1024, .f32⟩
  | .hbm, ⟨6, _⟩ => ⟨S8x1x1024, .f32⟩
  | .hbm, ⟨7, _⟩ => ⟨S8x2x1024, .f32⟩
  | .hbm, ⟨8, _⟩ => ⟨S16x1024, .f32⟩
  | .hbm, ⟨9, _⟩ => ⟨S4x1x6144, .f32⟩
  | .hbm, ⟨10, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩
abbrev S4x8x1x6144 : Shape := ⟨4, ![4, 8, 1, 6144]⟩
abbrev S4x8x2x6144 : Shape := ⟨4, ![4, 8, 2, 6144]⟩
abbrev S4x16x6144 : Shape := ⟨3, ![4, 16, 6144]⟩

abbrev nBuf : Space → Nat
  | .hbm => 35
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S4x6144x8, .f32⟩
  | .hbm, ⟨14, _⟩ => ⟨S4x8x6144, .f32⟩
  | .hbm, ⟨15, _⟩ => ⟨S4x1x6144, .f32⟩
  | .hbm, ⟨16, _⟩ => ⟨S4x8x6144, .f32⟩
  | .hbm, ⟨17, _⟩ => ⟨S4x8x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4x6144, .f32⟩
  | .hbm, ⟨28, _⟩ => ⟨S4x6144, .f32⟩
  | .hbm, ⟨29, _⟩ => ⟨S4x1x6144, .f32⟩
  | .hbm, ⟨30, _⟩ => ⟨S4x8x6144, .f32⟩
  | .hbm, ⟨31, _⟩ => ⟨S4x8x1x6144, .f32⟩
  | .hbm, ⟨32, _⟩ => ⟨S4x8x1x6144, .f32⟩
  | .hbm, ⟨33, _⟩ => ⟨S4x8x2x6144, .f32⟩
  | .hbm, ⟨34, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel6.lean ====
abbrev S8x4096x1024 : Shape := ⟨3, ![8, 4096, 1024]⟩
abbrev S16x6x1024 : Shape := ⟨3, ![16, 6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x6x1024 : Shape := ⟨3, ![1, 6, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8x4096x1024 : Shape := ⟨3, ![8, 4096, 1024]⟩
abbrev S16x6x1024 : Shape := ⟨3, ![16, 6, 1024]⟩
abbrev S1024 : Shape := ⟨1, ![1024]⟩
abbrev S1024x2816 : Shape := ⟨2, ![1024, 2816]⟩
abbrev S2816x1024 : Shape := ⟨2, ![2816, 1024]⟩
abbrev S8x2x6x1024 : Shape := ⟨4, ![8, 2, 6, 1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x2x6x1024, .f32⟩
  | .hbm, ⟨7, _⟩ => ⟨S8x1x1x1024, .f32⟩
  | .hbm, ⟨8, _⟩ => ⟨S8x1x1024, .f32⟩
  | .hbm, ⟨9, _⟩ => ⟨S8x2x6x1024, .f32⟩
  | .hbm, ⟨10, _⟩ => ⟨S8x1x1x1024, .f32⟩
  | .hbm, ⟨11, _⟩ => ⟨S8x1x1024, .f32⟩
  | .hbm, ⟨12, _⟩ => ⟨S8x2x6x1024, .f32⟩
  | .hbm, ⟨13, _⟩ => ⟨S8x1x1x1024, .f32⟩
  | .hbm, ⟨14, _⟩ => ⟨S8x1x1024, .f32⟩
  | .hbm, ⟨15, _⟩ => ⟨S8x2x6x1024, .f32⟩
  | .hbm, ⟨16, _⟩ => ⟨S8x1x1x1024, .f32⟩
  | .hbm, ⟨17, _⟩ => ⟨S8x1x1024, .f32⟩
  | .hbm, ⟨18, _⟩ => ⟨S8x2x6x1024, .f32⟩
  | .hbm, ⟨19, _⟩ => ⟨S8x1x1x1024, .f32⟩
  | .hbm, ⟨20, _⟩ => ⟨S8x1x1024, .f32⟩
  | .hbm, ⟨21, _⟩ => ⟨S8x2x6x1024, .f32⟩
  | .hbm, ⟨22, _⟩ => ⟨S8x1x1x1024, .f32⟩
  | .hbm, ⟨23, _⟩ => ⟨S8x1x1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel.lean ====
abbrev S8x4096x1664 : Shape := ⟨3, ![8, 4096, 1664]⟩
abbrev S2x16x256 : Shape := ⟨3, ![2, 16, 256]⟩
abbrev S2x256 : Shape := ⟨2, ![2, 256]⟩
abbrev S8x2x4x64x128 : Shape := ⟨5, ![8, 2, 4, 64, 128]⟩
abbrev S_ : Shape := ⟨0, ![]⟩
abbrev S2x128x256 : Shape := ⟨3, ![2, 128, 256]⟩
abbrev S1x16x256 : Shape := ⟨3, ![1, 16, 256]⟩
abbrev S16x256 : Shape := ⟨2, ![16, 256]⟩
abbrev S1 : Shape := ⟨1, ![1]⟩
abbrev S2 : Shape := ⟨1, ![2]⟩
abbrev S8x2x4x128x64 : Shape := ⟨5, ![8, 2, 4, 128, 64]⟩
abbrev S8x2x2x2x128x64 : Shape := ⟨6, ![8, 2, 2, 2, 128, 64]⟩
abbrev S8x2x2x1x128x64 : Shape := ⟨6, ![8, 2, 2, 1, 128, 64]⟩
abbrev S8x2x2x128x64 : Shape := ⟨5, ![8, 2, 2, 128, 64]⟩
abbrev S8x2x2x128x128 : Shape := ⟨5, ![8, 2, 2, 128, 128]⟩
abbrev S8x2x2x256x128 : Shape := ⟨5, ![8, 2, 2, 256, 128]⟩
abbrev S8x4096x512 : Shape := ⟨3, ![8, 4096, 512]⟩
abbrev S1x512x1664 : Shape := ⟨3, ![1, 512, 1664]⟩
abbrev S1x2x2x256x128 : Shape := ⟨5, ![1, 2, 2, 256, 128]⟩
abbrev S1x512x512 : Shape := ⟨3, ![1, 512, 512]⟩
abbrev S2x512x256 : Shape := ⟨3, ![2, 512, 256]⟩
abbrev S2x2x256x128 : Shape := ⟨4, ![2, 2, 256, 128]⟩
abbrev S1x512x128 : Shape := ⟨3, ![1, 512, 128]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x256 : Shape := ⟨2, ![1, 256]⟩
abbrev S1x512x256 : Shape := ⟨3, ![1, 512, 256]⟩
abbrev S64x128 : Shape := ⟨2, ![64, 128]⟩
abbrev S1x64x128 : Shape := ⟨3, ![1, 64, 128]⟩
abbrev S1x128 : Shape := ⟨2, ![1, 128]⟩
abbrev S128x128 : Shape := ⟨2, ![128, 128]⟩
abbrev S64x256 : Shape := ⟨2, ![64, 256]⟩
abbrev S1x1x1x256x128 : Shape := ⟨5, ![1, 1, 1, 256, 128]⟩
abbrev S256x128 : Shape := ⟨2, ![256, 128]⟩
abbrev S1x64x256 : Shape := ⟨3, ![1, 64, 256]⟩
abbrev S1x1x1x128x128 : Shape := ⟨5, ![1, 1, 1, 128, 128]⟩

abbrev nBuf : Space → Nat
  | .hbm => 39
  | .vmem => 15
  | .smem => 0
  | _ => 0

abbrev bufTy : (tb : Table) → Fin (tcTables nBuf tb) → BufTy
  | .hbm, ⟨0, _⟩ => ⟨S8x4096x1664, .f32⟩
  | .hbm, ⟨1, _⟩ => ⟨S2x16x256, .f32⟩
  | .hbm, ⟨2, _⟩ => ⟨S2x256, .f32⟩
  | .hbm, ⟨3, _⟩ => ⟨S8x2x4x64x128, .f32⟩
  | .hbm, ⟨4, _⟩ => ⟨S_, .f32⟩
  | .hbm, ⟨5, _⟩ => ⟨S2x128x256, .f32⟩
  | .hbm, ⟨6, _⟩ => ⟨S1x16x256, .f32⟩
  | .hbm, ⟨7, _⟩ => ⟨S16x256, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S2x128x256, .f32⟩
  | .hbm, ⟨14, _⟩ => ⟨S1x16x256, .f32⟩
  | .hbm, ⟨15, _⟩ => ⟨S16x256, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S2x128x256, .f32⟩
  | .hbm, ⟨22, _⟩ => ⟨S2x128x256, .bf16⟩
  | .hbm, ⟨23, _⟩ => ⟨S8x2x4x128x64, .f32⟩
  | .hbm, ⟨24, _⟩ => ⟨S8x2x2x2x128x64, .f32⟩
  | .hbm, ⟨25, _⟩ => ⟨S8x2x2x1x128x64, .f32⟩
  | .hbm, ⟨26, _⟩ => ⟨S8x2x2x128x64, .f32⟩
  | .hbm, ⟨27, _⟩ => ⟨S_, .f32⟩
  | .hbm, ⟨28, _⟩ => ⟨S8x2x2x128x64, .f32⟩
  | .hbm, ⟨29, _⟩ => ⟨S8x2x2x1x128x64, .f32⟩
  | .hbm, ⟨30, _⟩ => ⟨S8x2x2x128x64, .f32⟩
  | .hbm, ⟨31, _⟩ => ⟨S8x2x2x128x128, .f32⟩
  | .hbm, ⟨32, _⟩ => ⟨S8x2x2x1x128x64, .f32⟩
  | .hbm, ⟨33, _⟩ => ⟨S8x2x2x128x64, .f32⟩
  | .hbm, ⟨34, _⟩ => ⟨S8x2x2x128x128, .f32⟩
  | .hbm, ⟨35, _⟩ => ⟨S8x2x2x256x128, .f32⟩
  | .hbm, ⟨36, _⟩ => ⟨S8x4096x512, .f32⟩
  | .hbm, ⟨37, _⟩ => ⟨S8x4096x512, .f32⟩
  | .hbm, ⟨38, _⟩ => ⟨S8x2x2x256x128, .f32⟩
  | .local _ .vmem, ⟨0, _⟩ => ⟨S1x512x1664, .f32⟩
  | .local _ .vmem, ⟨1, _⟩ => ⟨S1x512x1664, .f32⟩
  | .local _ .vmem, ⟨2, _⟩ => ⟨S1x512x1664, .f32⟩
  | .local _ .vmem, ⟨3, _⟩ => ⟨S1x512x1664, .f32⟩
  | .local _ .vmem, ⟨4, _⟩ => ⟨S2x128x256, .bf16⟩
  | .local _ .vmem, ⟨5, _⟩ => ⟨S2x256, .f32⟩
  | .local _ .vmem, ⟨6, _⟩ => ⟨S1x2x2x256x128, .f32⟩
  | .local _ .vmem, ⟨7, _⟩ => ⟨S1x2x2x256x128, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x2x2x256x128, .f32⟩
  | .local _ .vmem, ⟨13, _⟩ => ⟨S1x2x2x256x128, .f32⟩
  | .local _ .vmem, ⟨14, _⟩ => ⟨S2x512x256, .f32⟩
  | _, _ => ⟨S8x4096x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_mult1 : BitVec 32 :=
  let c0_i32_49 : BitVec 32 := 0#32
  let c64_i32_50 : BitVec 32 := 64#32
  let v132 : BitVec 32 := Scalar.muli c0_i32_49 c64_i32_50
  v132
def k0_off1 (c0_i32_49 : BitVec 32) : Fin 3 → Nat :=
  let c0_51 : Index := 0#32
  let c64_i32_50 : BitVec 32 := 64#32
  let v132 : BitVec 32 := Scalar.muli c0_i32_49 c64_i32_50
  let v133 : BitVec 32 := v132
  let v134 : Index := Scalar.indexCast v133
  let c0_52 : Index := 0#32
  ![0, v134.toNat, 0]
def k0_off2 (c0_i32_49 : BitVec 32) : Fin 3 → Nat :=
  let c0_53 : Index := 0#32
  let c64_i32_50 : BitVec 32 := 64#32
  let v132 : BitVec 32 := Scalar.muli c0_i32_49 c64_i32_50
  let v133 : BitVec 32 := v132
  let v139 : Index := Scalar.indexCast v133
  let c0_54 : Index := 0#32
  ![0, v139.toNat, 0]
def k0_off3 (c0_i32_49 : BitVec 32) : Fin 3 → Nat :=
  let c0_56 : Index := 0#32
  let c64_i32_50 : BitVec 32 := 64#32
  let v132 : BitVec 32 := Scalar.muli c0_i32_49 c64_i32_50
  let v133 : BitVec 32 := v132
  let v144 : Index := Scalar.indexCast v133
  let c256 : Index := 256#32
  ![0, v144.toNat, 256]
def k0_off4 (c0_i32_49 : BitVec 32) : Fin 3 → Nat :=
  let c0_57 : Index := 0#32
  let c64_i32_50 : BitVec 32 := 64#32
  let v132 : BitVec 32 := Scalar.muli c0_i32_49 c64_i32_50
  let v133 : BitVec 32 := v132
  let v147 : Index := Scalar.indexCast v133
  let c512 : Index := 512#32
  ![0, v147.toNat, 512]
def k0_off5 (c0_i32_49 : BitVec 32) : Fin 3 → Nat :=
  let c0_58 : Index := 0#32
  let c64_i32_50 : BitVec 32 := 64#32
  let v132 : BitVec 32 := Scalar.muli c0_i32_49 c64_i32_50
  let v133 : BitVec 32 := v132
  let v150 : Index := Scalar.indexCast v133
  let c640 : Index := 640#32
  ![0, v150.toNat, 640]
def k0_mult2 : BitVec 32 :=
  let c0_i32_49 : BitVec 32 := 0#32
  let c64_i32_63 : BitVec 32 := 64#32
  let v179 : BitVec 32 := Scalar.muli c0_i32_49 c64_i32_63
  v179
def k0_off6 (c0_i32_49 : BitVec 32) : Fin 3 → Nat :=
  let c0_64 : Index := 0#32
  let c64_i32_63 : BitVec 32 := 64#32
  let v179 : BitVec 32 := Scalar.muli c0_i32_49 c64_i32_63
  let v180 : BitVec 32 := v179
  let v181 : Index := Scalar.indexCast v180
  let c128 : Index := 128#32
  ![0, v181.toNat, 128]
def k0_off7 (c0_i32_49 : BitVec 32) : Fin 3 → Nat :=
  let c0_65 : Index := 0#32
  let c64_i32_63 : BitVec 32 := 64#32
  let v179 : BitVec 32 := Scalar.muli c0_i32_49 c64_i32_63
  let v180 : BitVec 32 := v179
  let v186 : Index := Scalar.indexCast v180
  let c128_66 : Index := 128#32
  ![0, v186.toNat, 128]
def k0_off8 (c0_i32_49 : BitVec 32) : Fin 3 → Nat :=
  let c0_68 : Index := 0#32
  let c64_i32_63 : BitVec 32 := 64#32
  let v179 : BitVec 32 := Scalar.muli c0_i32_49 c64_i32_63
  let v180 : BitVec 32 := v179
  let v191 : Index := Scalar.indexCast v180
  let c384 : Index := 384#32
  ![0, v191.toNat, 384]
def k0_off9 (c0_i32_49 : BitVec 32) : Fin 3 → Nat :=
  let c0_69 : Index := 0#32
  let c64_i32_63 : BitVec 32 := 64#32
  let v179 : BitVec 32 := Scalar.muli c0_i32_49 c64_i32_63
  let v180 : BitVec 32 := v179
  let v194 : Index := Scalar.indexCast v180
  let c768 : Index := 768#32
  ![0, v194.toNat, 768]
def k0_off10 (c0_i32_49 : BitVec 32) : Fin 3 → Nat :=
  let c0_70 : Index := 0#32
  let c64_i32_63 : BitVec 32 := 64#32
  let v179 : BitVec 32 := Scalar.muli c0_i32_49 c64_i32_63
  let v180 : BitVec 32 := v179
  let v197 : Index := Scalar.indexCast v180
  let c896 : Index := 896#32
  ![0, v197.toNat, 896]
def k0_mult3 : BitVec 32 :=
  let c7_i32 : BitVec 32 := 7#32
  let c0_i32_49 : BitVec 32 := 0#32
  let v226 : BitVec 32 := Scalar.subi c7_i32 c0_i32_49
  let c64_i32_75 : BitVec 32 := 64#32
  let v227 : BitVec 32 := Scalar.muli v226 c64_i32_75
  v227
def k0_off11 (c0_i32_49 : BitVec 32) : Fin 3 → Nat :=
  let c1_76 : Index := 1#32
  let c7_i32 : BitVec 32 := 7#32
  let v226 : BitVec 32 := Scalar.subi c7_i32 c0_i32_49
  let c64_i32_75 : BitVec 32 := 64#32
  let v227 : BitVec 32 := Scalar.muli v226 c64_i32_75
  let v228 : BitVec 32 := v227
  let v229 : Index := Scalar.indexCast v228
  let c0_77 : Index := 0#32
  ![1, v229.toNat, 0]
def k0_off12 (c0_i32_49 : BitVec 32) : Fin 3 → Nat :=
  let c0_78 : Index := 0#32
  let c7_i32 : BitVec 32 := 7#32
  let v226 : BitVec 32 := Scalar.subi c7_i32 c0_i32_49
  let c64_i32_75 : BitVec 32 := 64#32
  let v227 : BitVec 32 := Scalar.muli v226 c64_i32_75
  let v228 : BitVec 32 := v227
  let v234 : Index := Scalar.indexCast v228
  let c0_79 : Index := 0#32
  ![0, v234.toNat, 0]
def k0_off13 (c0_i32_49 : BitVec 32) : Fin 3 → Nat :=
  let c0_81 : Index := 0#32
  let c7_i32 : BitVec 32 := 7#32
  let v226 : BitVec 32 := Scalar.subi c7_i32 c0_i32_49
  let c64_i32_75 : BitVec 32 := 64#32
  let v227 : BitVec 32 := Scalar.muli v226 c64_i32_75
  let v228 : BitVec 32 := v227
  let v239 : Index := Scalar.indexCast v228
  let c256_82 : Index := 256#32
  ![0, v239.toNat, 256]
def k0_off14 (c0_i32_49 : BitVec 32) : Fin 3 → Nat :=
  let c0_83 : Index := 0#32
  let c7_i32 : BitVec 32 := 7#32
  let v226 : BitVec 32 := Scalar.subi c7_i32 c0_i32_49
  let c64_i32_75 : BitVec 32 := 64#32
  let v227 : BitVec 32 := Scalar.muli v226 c64_i32_75
  let v228 : BitVec 32 := v227
  let v242 : Index := Scalar.indexCast v228
  let c512_84 : Index := 512#32
  ![0, v242.toNat, 512]
def k0_off15 (c0_i32_49 : BitVec 32) : Fin 3 → Nat :=
  let c0_85 : Index := 0#32
  let c7_i32 : BitVec 32 := 7#32
  let v226 : BitVec 32 := Scalar.subi c7_i32 c0_i32_49
  let c64_i32_75 : BitVec 32 := 64#32
  let v227 : BitVec 32 := Scalar.muli v226 c64_i32_75
  let v228 : BitVec 32 := v227
  let v245 : Index := Scalar.indexCast v228
  let c640_86 : Index := 640#32
  ![0, v245.toNat, 640]
def k0_mult4 : BitVec 32 :=
  let c7_i32_91 : BitVec 32 := 7#32
  let c0_i32_49 : BitVec 32 := 0#32
  let v274 : BitVec 32 := Scalar.subi c7_i32_91 c0_i32_49
  let c64_i32_92 : BitVec 32 := 64#32
  let v275 : BitVec 32 := Scalar.muli v274 c64_i32_92
  v275
def k0_off16 (c0_i32_49 : BitVec 32) : Fin 3 → Nat :=
  let c1_93 : Index := 1#32
  let c7_i32_91 : BitVec 32 := 7#32
  let v274 : BitVec 32 := Scalar.subi c7_i32_91 c0_i32_49
  let c64_i32_92 : BitVec 32 := 64#32
  let v275 : BitVec 32 := Scalar.muli v274 c64_i32_92
  let v276 : BitVec 32 := v275
  let v277 : Index := Scalar.indexCast v276
  let c128_94 : Index := 128#32
  ![1, v277.toNat, 128]
def k0_off17 (c0_i32_49 : BitVec 32) : Fin 3 → Nat :=
  let c0_95 : Index := 0#32
  let c7_i32_91 : BitVec 32 := 7#32
  let v274 : BitVec 32 := Scalar.subi c7_i32_91 c0_i32_49
  let c64_i32_92 : BitVec 32 := 64#32
  let v275 : BitVec 32 := Scalar.muli v274 c64_i32_92
  let v276 : BitVec 32 := v275
  let v282 : Index := Scalar.indexCast v276
  let c128_96 : Index := 128#32
  ![0, v282.toNat, 128]
def k0_off18 (c0_i32_49 : BitVec 32) : Fin 3 → Nat :=
  let c0_98 : Index := 0#32
  let c7_i32_91 : BitVec 32 := 7#32
  let v274 : BitVec 32 := Scalar.subi c7_i32_91 c0_i32_49
  let c64_i32_92 : BitVec 32 := 64#32
  let v275 : BitVec 32 := Scalar.muli v274 c64_i32_92
  let v276 : BitVec 32 := v275
  let v287 : Index := Scalar.indexCast v276
  let c384_99 : Index := 384#32
  ![0, v287.toNat, 384]
def k0_off19 (c0_i32_49 : BitVec 32) : Fin 3 → Nat :=
  let c0_100 : Index := 0#32
  let c7_i32_91 : BitVec 32 := 7#32
  let v274 : BitVec 32 := Scalar.subi c7_i32_91 c0_i32_49
  let c64_i32_92 : BitVec 32 := 64#32
  let v275 : BitVec 32 := Scalar.muli v274 c64_i32_92
  let v276 : BitVec 32 := v275
  let v290 : Index := Scalar.indexCast v276
  let c768_101 : Index := 768#32
  ![0, v290.toNat, 768]
def k0_off20 (c0_i32_49 : BitVec 32) : Fin 3 → Nat :=
  let c0_102 : Index := 0#32
  let c7_i32_91 : BitVec 32 := 7#32
  let v274 : BitVec 32 := Scalar.subi c7_i32_91 c0_i32_49
  let c64_i32_92 : BitVec 32 := 64#32
  let v275 : BitVec 32 := Scalar.muli v274 c64_i32_92
  let v276 : BitVec 32 := v275
  let v293 : Index := Scalar.indexCast v276
  let c896_103 : Index := 896#32
  ![0, v293.toNat, 896]
def k0_off21 (c0_i32_49 : BitVec 32) : Fin 3 → Nat :=
  let c0_116 : Index := 0#32
  let c64_i32_50 : BitVec 32 := 64#32
  let v132 : BitVec 32 := Scalar.muli c0_i32_49 c64_i32_50
  let v133 : BitVec 32 := v132
  let v335 : Index := Scalar.indexCast v133
  let c0_117 : Index := 0#32
  ![0, v335.toNat, 0]
def k0_off22 (c0_i32_49 : BitVec 32) : Fin 3 → Nat :=
  let c0_150 : Index := 0#32
  let c64_i32_63 : BitVec 32 := 64#32
  let v179 : BitVec 32 := Scalar.muli c0_i32_49 c64_i32_63
  let v180 : BitVec 32 := v179
  let v378 : Index := Scalar.indexCast v180
  let c256_151 : Index := 256#32
  ![0, v378.toNat, 256]
def k0_off23 (c0_i32_49 : BitVec 32) : Fin 3 → Nat :=
  let c0_184 : Index := 0#32
  let c7_i32 : BitVec 32 := 7#32
  let v226 : BitVec 32 := Scalar.subi c7_i32 c0_i32_49
  let c64_i32_75 : BitVec 32 := 64#32
  let v227 : BitVec 32 := Scalar.muli v226 c64_i32_75
  let v228 : BitVec 32 := v227
  let v421 : Index := Scalar.indexCast v228
  let c0_185 : Index := 0#32
  ![0, v421.toNat, 0]
def k0_off24 (c0_i32_49 : BitVec 32) : Fin 3 → Nat :=
  let c0_218 : Index := 0#32
  let c7_i32_91 : BitVec 32 := 7#32
  let v274 : BitVec 32 := Scalar.subi c7_i32_91 c0_i32_49
  let c64_i32_92 : BitVec 32 := 64#32
  let v275 : BitVec 32 := Scalar.muli v274 c64_i32_92
  let v276 : BitVec 32 := v275
  let v464 : Index := Scalar.indexCast v276
  let c256_219 : Index := 256#32
  ![0, v464.toNat, 256]
def k0_mult5 : BitVec 32 :=
  let c1_i32_244 : BitVec 32 := 1#32
  let c64_i32_245 : BitVec 32 := 64#32
  let v494 : BitVec 32 := Scalar.muli c1_i32_244 c64_i32_245
  v494
def k0_mult6 : BitVec 32 :=
  let c1_i32_244 : BitVec 32 := 1#32
  let c64_i32_261 : BitVec 32 := 64#32
  let v541 : BitVec 32 := Scalar.muli c1_i32_244 c64_i32_261
  v541
def k0_mult7 : BitVec 32 :=
  let c7_i32_277 : BitVec 32 := 7#32
  let c1_i32_244 : BitVec 32 := 1#32
  let v588 : BitVec 32 := Scalar.subi c7_i32_277 c1_i32_244
  let c64_i32_278 : BitVec 32 := 64#32
  let v589 : BitVec 32 := Scalar.muli v588 c64_i32_278
  v589
def k0_mult8 : BitVec 32 :=
  let c7_i32_294 : BitVec 32 := 7#32
  let c1_i32_244 : BitVec 32 := 1#32
  let v636 : BitVec 32 := Scalar.subi c7_i32_294 c1_i32_244
  let c64_i32_295 : BitVec 32 := 64#32
  let v637 : BitVec 32 := Scalar.muli v636 c64_i32_295
  v637
def k0_mult9 : BitVec 32 :=
  let c2_i32_447 : BitVec 32 := 2#32
  let c64_i32_448 : BitVec 32 := 64#32
  let v856 : BitVec 32 := Scalar.muli c2_i32_447 c64_i32_448
  v856
def k0_mult10 : BitVec 32 :=
  let c2_i32_447 : BitVec 32 := 2#32
  let c64_i32_464 : BitVec 32 := 64#32
  let v903 : BitVec 32 := Scalar.muli c2_i32_447 c64_i32_464
  v903
def k0_mult11 : BitVec 32 :=
  let c7_i32_480 : BitVec 32 := 7#32
  let c2_i32_447 : BitVec 32 := 2#32
  let v950 : BitVec 32 := Scalar.subi c7_i32_480 c2_i32_447
  let c64_i32_481 : BitVec 32 := 64#32
  let v951 : BitVec 32 := Scalar.muli v950 c64_i32_481
  v951
def k0_mult12 : BitVec 32 :=
  let c7_i32_497 : BitVec 32 := 7#32
  let c2_i32_447 : BitVec 32 := 2#32
  let v998 : BitVec 32 := Scalar.subi c7_i32_497 c2_i32_447
  let c64_i32_498 : BitVec 32 := 64#32
  let v999 : BitVec 32 := Scalar.muli v998 c64_i32_498
  v999
def k0_mult13 : BitVec 32 :=
  let c3_i32 : BitVec 32 := 3#32
  let c64_i32_650 : BitVec 32 := 64#32
  let v1218 : BitVec 32 := Scalar.muli c3_i32 c64_i32_650
  v1218
def k0_mult14 : BitVec 32 :=
  let c3_i32 : BitVec 32 := 3#32
  let c64_i32_666 : BitVec 32 := 64#32
  let v1265 : BitVec 32 := Scalar.muli c3_i32 c64_i32_666
  v1265
def k0_mult15 : BitVec 32 :=
  let c7_i32_682 : BitVec 32 := 7#32
  let c3_i32 : BitVec 32 := 3#32
  let v1312 : BitVec 32 := Scalar.subi c7_i32_682 c3_i32
  let c64_i32_683 : BitVec 32 := 64#32
  let v1313 : BitVec 32 := Scalar.muli v1312 c64_i32_683
  v1313
def k0_mult16 : BitVec 32 :=
  let c7_i32_699 : BitVec 32 := 7#32
  let c3_i32 : BitVec 32 := 3#32
  let v1360 : BitVec 32 := Scalar.subi c7_i32_699 c3_i32
  let c64_i32_700 : BitVec 32 := 64#32
  let v1361 : BitVec 32 := Scalar.muli v1360 c64_i32_700
  v1361
def k0_mult17 : BitVec 32 :=
  let c4_i32_852 : BitVec 32 := 4#32
  let c64_i32_853 : BitVec 32 := 64#32
  let v1580 : BitVec 32 := Scalar.muli c4_i32_852 c64_i32_853
  v1580
def k0_mult18 : BitVec 32 :=
  let c4_i32_852 : BitVec 32 := 4#32
  let c64_i32_869 : BitVec 32 := 64#32
  let v1627 : BitVec 32 := Scalar.muli c4_i32_852 c64_i32_869
  v1627
def k0_mult19 : BitVec 32 :=
  let c7_i32_885 : BitVec 32 := 7#32
  let c4_i32_852 : BitVec 32 := 4#32
  let v1674 : BitVec 32 := Scalar.subi c7_i32_885 c4_i32_852
  let c64_i32_886 : BitVec 32 := 64#32
  let v1675 : BitVec 32 := Scalar.muli v1674 c64_i32_886
  v1675
def k0_mult20 : BitVec 32 :=
  let c7_i32_902 : BitVec 32 := 7#32
  let c4_i32_852 : BitVec 32 := 4#32
  let v1722 : BitVec 32 := Scalar.subi c7_i32_902 c4_i32_852
  let c64_i32_903 : BitVec 32 := 64#32
  let v1723 : BitVec 32 := Scalar.muli v1722 c64_i32_903
  v1723
def k0_mult21 : BitVec 32 :=
  let c5_i32 : BitVec 32 := 5#32
  let c64_i32_1055 : BitVec 32 := 64#32
  let v1942 : BitVec 32 := Scalar.muli c5_i32 c64_i32_1055
  v1942
def k0_mult22 : BitVec 32 :=
  let c5_i32 : BitVec 32 := 5#32
  let c64_i32_1071 : BitVec 32 := 64#32
  let v1989 : BitVec 32 := Scalar.muli c5_i32 c64_i32_1071
  v1989
def k0_mult23 : BitVec 32 :=
  let c7_i32_1087 : BitVec 32 := 7#32
  let c5_i32 : BitVec 32 := 5#32
  let v2036 : BitVec 32 := Scalar.subi c7_i32_1087 c5_i32
  let c64_i32_1088 : BitVec 32 := 64#32
  let v2037 : BitVec 32 := Scalar.muli v2036 c64_i32_1088
  v2037
def k0_mult24 : BitVec 32 :=
  let c7_i32_1104 : BitVec 32 := 7#32
  let c5_i32 : BitVec 32 := 5#32
  let v2084 : BitVec 32 := Scalar.subi c7_i32_1104 c5_i32
  let c64_i32_1105 : BitVec 32 := 64#32
  let v2085 : BitVec 32 := Scalar.muli v2084 c64_i32_1105
  v2085
def k0_mult25 : BitVec 32 :=
  let c6_i32 : BitVec 32 := 6#32
  let c64_i32_1257 : BitVec 32 := 64#32
  let v2304 : BitVec 32 := Scalar.muli c6_i32 c64_i32_1257
  v2304
def k0_mult26 : BitVec 32 :=
  let c6_i32 : BitVec 32 := 6#32
  let c64_i32_1273 : BitVec 32 := 64#32
  let v2351 : BitVec 32 := Scalar.muli c6_i32 c64_i32_1273
  v2351
def k0_mult27 : BitVec 32 :=
  let c7_i32_1289 : BitVec 32 := 7#32
  let c6_i32 : BitVec 32 := 6#32
  let v2398 : BitVec 32 := Scalar.subi c7_i32_1289 c6_i32
  let c64_i32_1290 : BitVec 32 := 64#32
  let v2399 : BitVec 32 := Scalar.muli v2398 c64_i32_1290
  v2399
def k0_mult28 : BitVec 32 :=
  let c7_i32_1306 : BitVec 32 := 7#32
  let c6_i32 : BitVec 32 := 6#32
  let v2446 : BitVec 32 := Scalar.subi c7_i32_1306 c6_i32
  let c64_i32_1307 : BitVec 32 := 64#32
  let v2447 : BitVec 32 := Scalar.muli v2446 c64_i32_1307
  v2447
def k0_mult29 : BitVec 32 :=
  let c7_i32_1459 : BitVec 32 := 7#32
  let c64_i32_1460 : BitVec 32 := 64#32
  let v2666 : BitVec 32 := Scalar.muli c7_i32_1459 c64_i32_1460
  v2666
def k0_mult30 : BitVec 32 :=
  let c7_i32_1459 : BitVec 32 := 7#32
  let c64_i32_1476 : BitVec 32 := 64#32
  let v2713 : BitVec 32 := Scalar.muli c7_i32_1459 c64_i32_1476
  v2713
def k0_mult31 : BitVec 32 :=
  let c7_i32_1492 : BitVec 32 := 7#32
  let c7_i32_1459 : BitVec 32 := 7#32
  let v2760 : BitVec 32 := Scalar.subi c7_i32_1492 c7_i32_1459
  let c64_i32_1493 : BitVec 32 := 64#32
  let v2761 : BitVec 32 := Scalar.muli v2760 c64_i32_1493
  v2761
def k0_mult32 : BitVec 32 :=
  let c7_i32_1509 : BitVec 32 := 7#32
  let c7_i32_1459 : BitVec 32 := 7#32
  let v2808 : BitVec 32 := Scalar.subi c7_i32_1509 c7_i32_1459
  let c64_i32_1510 : BitVec 32 := 64#32
  let v2809 : BitVec 32 := Scalar.muli v2808 c64_i32_1510
  v2809
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x4096x1664 : Shape := ⟨3, ![8, 4096, 1664]⟩
abbrev S2x16x256 : Shape := ⟨3, ![2, 16, 256]⟩
abbrev S2x256 : Shape := ⟨2, ![2, 256]⟩
abbrev S8x2x4x64x128 : Shape := ⟨5, ![8, 2, 4, 64, 128]⟩
abbrev S8x4096x256 : Shape := ⟨3, ![8, 4096, 256]⟩
abbrev S8x4096x512 : Shape := ⟨3, ![8, 4096, 512]⟩
abbrev S8x4096x32 : Shape := ⟨3, ![8, 4096, 32]⟩
abbrev S8x4096x4x64 : Shape := ⟨4, ![8, 4096, 4, 64]⟩
abbrev S_ : Shape := ⟨0, ![]⟩
abbrev S8x4096x4x128 : Shape := ⟨4, ![8, 4096, 4, 128]⟩
abbrev S8x4096x2x16 : Shape := ⟨4, ![8, 4096, 2, 16]⟩
abbrev S2x256x8x4096 : Shape := ⟨4, ![2, 256, 8, 4096]⟩
abbrev S8x4096x2x256 : Shape := ⟨4, ![8, 4096, 2, 256]⟩
abbrev S1x1x2x256 : Shape := ⟨4, ![1, 1, 2, 256]⟩
abbrev S8x4096x2x4x64 : Shape := ⟨5, ![8, 4096, 2, 4, 64]⟩
abbrev S16x4096x4x64 : Shape := ⟨4, ![16, 4096, 4, 64]⟩
abbrev S16x4096x4x128 : Shape := ⟨4, ![16, 4096, 4, 128]⟩
abbrev S8x4096x1x4x64 : Shape := ⟨5, ![8, 4096, 1, 4, 64]⟩
abbrev S8x1x4x64x128 : Shape := ⟨5, ![8, 1, 4, 64, 128]⟩
abbrev S8x4x64x128 : Shape := ⟨4, ![8, 4, 64, 128]⟩
abbrev S16x4x64x128 : Shape := ⟨4, ![16, 4, 64, 128]⟩
abbrev S64x64 : Shape := ⟨2, ![64, 64]⟩
abbrev S16x64x64x4x64 : Shape := ⟨5, ![16, 64, 64, 4, 64]⟩
abbrev S64x16x64x4x64 : Shape := ⟨5, ![64, 16, 64, 4, 64]⟩
abbrev S16x64x64x4x128 : Shape := ⟨5, ![16, 64, 64, 4, 128]⟩
abbrev S64x16x64x4x128 : Shape := ⟨5, ![64, 16, 64, 4, 128]⟩
abbrev S1x16x64x4x64 : Shape := ⟨5, ![1, 16, 64, 4, 64]⟩
abbrev S16x64x4x64 : Shape := ⟨4, ![16, 64, 4, 64]⟩
abbrev S1x16x64x4x128 : Shape := ⟨5, ![1, 16, 64, 4, 128]⟩
abbrev S16x64x4x128 : Shape := ⟨4, ![16, 64, 4, 128]⟩
abbrev S16x1x4x64 : Shape := ⟨4, ![16, 1, 4, 64]⟩
abbrev S16x4x64x64 : Shape := ⟨4, ![16, 4, 64, 64]⟩
abbrev S16x4x128x64 : Shape := ⟨4, ![16, 4, 128, 64]⟩
abbrev S16x4x64 : Shape := ⟨3, ![16, 4, 64]⟩
abbrev S16x4x64x1 : Shape := ⟨4, ![16, 4, 64, 1]⟩
abbrev S16x4096x512 : Shape := ⟨3, ![16, 4096, 512]⟩

abbrev nBuf : Space → Nat
  | .hbm => 166
  | .vmem => 0
  | .smem => 0
  | _ => 0

abbrev hbmTy0_0 (i : Nat) : BufTy := match i % 128 with
  | 0 => ⟨S8x4096x1664, .f32⟩
  | 1 => ⟨S2x16x256, .f32⟩
  | 2 => ⟨S2x256, .f32⟩
  | 3 => ⟨S8x2x4x64x128, .f32⟩
  | 4 => ⟨S8x4096x256, .f32⟩
  | 5 => ⟨S8x4096x256, .f32⟩
  | 6 => ⟨S8x4096x512, .f32⟩
  | 7 => ⟨S8x4096x512, .f32⟩
  | 8 => ⟨S8x4096x32, .f32⟩
  | 9 => ⟨S8x4096x4x64, .f32⟩
  | 10 => ⟨S_, .f32⟩
  | 11 => ⟨S8x4096x4x64, .f32⟩
  | 12 => ⟨S8x4096x4x64, .f32⟩
  | 13 => ⟨S8x4096x4x64, .f32⟩
  | 14 => ⟨S8x4096x4x128, .f32⟩
  | 15 => ⟨S8x4096x2x16, .f32⟩
  | 16 => ⟨S2x256x8x4096, .f32⟩
  | 17 => ⟨S8x4096x2x256, .f32⟩
  | 18 => ⟨S1x1x2x256, .f32⟩
  | 19 => ⟨S8x4096x2x256, .f32⟩
  | 20 => ⟨S8x4096x2x256, .f32⟩
  | 21 => ⟨S8x4096x2x256, .f32⟩
  | 22 => ⟨S_, .f32⟩
  | 23 => ⟨S8x4096x2x256, .f32⟩
  | 24 => ⟨S8x4096x2x256, .f32⟩
  | 25 => ⟨S8x4096x2x256, .f32⟩
  | 26 => ⟨S8x4096x2x256, .f32⟩
  | 27 => ⟨S8x4096x2x256, .i1⟩
  | 28 => ⟨S8x4096x2x256, .f32⟩
  | 29 => ⟨S8x4096x2x256, .f32⟩
  | 30 => ⟨S8x4096x2x256, .f32⟩
  | 31 => ⟨S8x4096x2x256, .f32⟩
  | 32 => ⟨S8x4096x2x256, .f32⟩
  | 33 => ⟨S8x4096x2x256, .f32⟩
  | 34 => ⟨S8x4096x2x256, .f32⟩
  | 35 => ⟨S8x4096x2x256, .f32⟩
  | 36 => ⟨S8x4096x2x256, .f32⟩
  | 37 => ⟨S_, .f32⟩
  | 38 => ⟨S8x4096x2x256, .f32⟩
  | 39 => ⟨S8x4096x2x256, .f32⟩
  | 40 => ⟨S8x4096x2x4x64, .f32⟩
  | 41 => ⟨S8x4096x4x64, .f32⟩
  | 42 => ⟨S16x4096x4x64, .f32⟩
  | 43 => ⟨S8x4096x4x64, .f32⟩
  | 44 => ⟨S16x4096x4x64, .f32⟩
  | 45 => ⟨S8x4096x4x128, .f32⟩
  | 46 => ⟨S16x4096x4x128, .f32⟩
  | 47 => ⟨S8x4096x1x4x64, .f32⟩
  | 48 => ⟨S8x4096x4x64, .f32⟩
  | 49 => ⟨S8x4096x1x4x64, .f32⟩
  | 50 => ⟨S8x4096x4x64, .f32⟩
  | 51 => ⟨S8x4096x4x64, .f32⟩
  | 52 => ⟨S16x4096x4x64, .f32⟩
  | 53 => ⟨S8x1x4x64x128, .f32⟩
  | 54 => ⟨S8x4x64x128, .f32⟩
  | 55 => ⟨S8x1x4x64x128, .f32⟩
  | 56 => ⟨S8x4x64x128, .f32⟩
  | 57 => ⟨S16x4x64x128, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S16x64x64x4x64, .f32⟩
  | 70 => ⟨S64x16x64x4x64, .f32⟩
  | 71 => ⟨S16x64x64x4x64, .f32⟩
  | 72 => ⟨S64x16x64x4x64, .f32⟩
  | 73 => ⟨S16x64x64x4x128, .f32⟩
  | 74 => ⟨S64x16x64x4x128, .f32⟩
  | 75 => ⟨S16x64x64x4x64, .f32⟩
  | 76 => ⟨S64x16x64x4x64, .f32⟩
  | 77 => ⟨S_, .f32⟩
  | 78 => ⟨S64x16x64x4x128, .f32⟩
  | 79 => ⟨S_, .i32⟩
  | 80 => ⟨S64x16x64x4x64, .f32⟩
  | 81 => ⟨S64x16x64x4x64, .f32⟩
  | 82 => ⟨S64x16x64x4x128, .f32⟩
  | 83 => ⟨S64x16x64x4x64, .f32⟩
  | 84 => ⟨S64x64, .i1⟩
  | 85 => ⟨S_, .i32⟩
  | 86 => ⟨S16x4x64x128, .f32⟩
  | 87 => ⟨S64x16x64x4x128, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1x16x64x4x64, .f32⟩
  | 95 => ⟨S16x64x4x64, .f32⟩
  | 96 => ⟨S_, .i32⟩
  | 97 => ⟨S_, .i32⟩
  | 98 => ⟨S_, .i32⟩
  | 99 => ⟨S_, .i32⟩
  | 100 => ⟨S1x16x64x4x64, .f32⟩
  | 101 => ⟨S16x64x4x64, .f32⟩
  | 102 => ⟨S_, .i32⟩
  | 103 => ⟨S_, .i32⟩
  | 104 => ⟨S_, .i32⟩
  | 105 => ⟨S_, .i32⟩
  | 106 => ⟨S1x16x64x4x128, .f32⟩
  | 107 => ⟨S16x64x4x128, .f32⟩
  | 108 => ⟨S_, .i32⟩
  | 109 => ⟨S_, .i32⟩
  | 110 => ⟨S_, .i32⟩
  | 111 => ⟨S_, .i32⟩
  | 112 => ⟨S1x16x64x4x64, .f32⟩
  | 113 => ⟨S16x64x4x64, .f32⟩
  | 114 => ⟨S_, .f32⟩
  | 115 => ⟨S_, .f32⟩
  | 116 => ⟨S16x64x4x64, .f32⟩
  | 117 => ⟨S16x1x4x64, .f32⟩
  | 118 => ⟨S16x64x4x64, .f32⟩
  | 119 => ⟨S16x64x4x64, .f32⟩
  | 120 => ⟨S16x64x4x64, .f32⟩
  | 121 => ⟨S16x64x4x64, .f32⟩
  | 122 => ⟨S16x64x4x64, .f32⟩
  | 123 => ⟨S16x64x4x64, .f32⟩
  | 124 => ⟨S16x64x4x64, .f32⟩
  | 125 => ⟨S16x64x4x64, .f32⟩
  | 126 => ⟨S16x4x64x64, .f32⟩
  | 127 => ⟨S_, .f32⟩
  | _ => ⟨S8x4096x1664, .f32⟩

abbrev hbmTy0_1 (i : Nat) : BufTy := match i % 128 with
  | 0 => ⟨S_, .f32⟩
  | 1 => ⟨S16x4x64x64, .i1⟩
  | 2 => ⟨S16x4x64x64, .f32⟩
  | 3 => ⟨S16x4x64x64, .f32⟩
  | 4 => ⟨S16x4x128x64, .f32⟩
  | 5 => ⟨S16x64x4x128, .f32⟩
  | 6 => ⟨S16x64x4x64, .f32⟩
  | 7 => ⟨S16x64x4x64, .f32⟩
  | 8 => ⟨S16x4x128x64, .f32⟩
  | 9 => ⟨S16x64x4x128, .f32⟩
  | 10 => ⟨S16x64x4x128, .f32⟩
  | 11 => ⟨S16x1x4x64, .f32⟩
  | 12 => ⟨S16x4x64, .f32⟩
  | 13 => ⟨S16x4x64, .f32⟩
  | 14 => ⟨S16x4x64x1, .f32⟩
  | 15 => ⟨S16x4x64x128, .f32⟩
  | 16 => ⟨S16x4x64x128, .f32⟩
  | 17 => ⟨S16x1x4x64, .f32⟩
  | 18 => ⟨S16x64x4x64, .f32⟩
  | 19 => ⟨S16x64x4x64, .f32⟩
  | 20 => ⟨S16x64x4x64, .f32⟩
  | 21 => ⟨S16x64x4x64, .f32⟩
  | 22 => ⟨S16x4x64x128, .f32⟩
  | 23 => ⟨S16x4x64x128, .f32⟩
  | 24 => ⟨S1x16x64x4x128, .f32⟩
  | 25 => ⟨S_, .i32⟩
  | 26 => ⟨S_, .i32⟩
  | 27 => ⟨S_, .i32⟩
  | 28 => ⟨S_, .i32⟩
  | 29 => ⟨S64x16x64x4x128, .f32⟩
  | 30 => ⟨S_, .i32⟩
  | 31 => ⟨S_, .i32⟩
  | 32 => ⟨S16x64x64x4x128, .f32⟩
  | 33 => ⟨S16x4096x4x128, .f32⟩
  | 34 => ⟨S16x4096x512, .f32⟩
  | 35 => ⟨S8x4096x512, .f32⟩
  | 36 => ⟨S8x4096x512, .f32⟩
  | 37 => ⟨S8x4096x512, .f32⟩
  | _ => ⟨S8x4096x1664, .f32⟩

abbrev hbmTy (i : Nat) : BufTy := match i / 128 with
  | 0 => hbmTy0_0 i
  | 1 => hbmTy0_1 i
  | _ => ⟨S8x4096x1664, .f32⟩

abbrev bufTy : (tb : Table) → Fin (tcTables nBuf tb) → BufTy
  | .hbm, ⟨i, _⟩ => hbmTy i
  | _, _ => ⟨S8x4096x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c : Ref sig .tc := ⟨.hbm, 58, rfl⟩
abbrev main_v37 : Ref sig .tc := ⟨.hbm, 59, rfl⟩
abbrev main_call5_v0 : Ref sig .tc := ⟨.hbm, 60, rfl⟩
abbrev main_call5_c : Ref sig .tc := ⟨.hbm, 61, rfl⟩
abbrev main_call5_v1 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_0 : Ref sig .tc := ⟨.hbm, 66, rfl⟩
abbrev main_call5_v5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_1 : Ref sig .tc := ⟨.hbm, 77, rfl⟩
abbrev main_v47 : Ref sig .tc := ⟨.hbm, 78, rfl⟩
abbrev main_c_2 : Ref sig .tc := ⟨.hbm, 79, rfl⟩
abbrev main_v48_0 : Ref sig .tc := ⟨.hbm, 80, rfl⟩
abbrev main_v48_1 : Ref sig .tc := ⟨.hbm, 81, rfl⟩
abbrev main_v48_2 : Ref sig .tc := ⟨.hbm, 82, rfl⟩
abbrev main_v48_3 : Ref sig .tc := ⟨.hbm, 83, rfl⟩
abbrev main_v48_4 : Ref sig .tc := ⟨.hbm, 84, rfl⟩
abbrev main_v48_5 : Ref sig .tc := ⟨.hbm, 85, rfl⟩
abbrev main_v48_6 : Ref sig .tc := ⟨.hbm, 86, rfl⟩
abbrev main_v48_7 : Ref sig .tc := ⟨.hbm, 87, rfl⟩
abbrev main_while0c_c_10 : Ref sig .tc := ⟨.hbm, 88, rfl⟩
abbrev main_while0c_v55 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_call6_c_2 : Ref sig .tc := ⟨.hbm, 93, rfl⟩
abbrev main_while0b_call6_v0 : Ref sig .tc := ⟨.hbm, 94, rfl⟩
abbrev main_while0b_v55 : Ref sig .tc := ⟨.hbm, 95, rfl⟩
abbrev main_while0b_call7_c : Ref sig .tc := ⟨.hbm, 96, rfl⟩
abbrev main_while0b_call7_c_0 : Ref sig .tc := ⟨.hbm, 97, rfl⟩
abbrev main_while0b_call7_c_1 : Ref sig .tc := ⟨.hbm, 98, rfl⟩
abbrev main_while0b_call7_c_2 : Ref sig .tc := ⟨.hbm, 99, rfl⟩
abbrev main_while0b_call7_v0 : Ref sig .tc := ⟨.hbm, 100, rfl⟩
abbrev main_while0b_v56 : Ref sig .tc := ⟨.hbm, 101, rfl⟩
abbrev main_while0b_call8_c : Ref sig .tc := ⟨.hbm, 102, rfl⟩
abbrev main_while0b_call8_c_0 : Ref sig .tc := ⟨.hbm, 103, rfl⟩
abbrev main_while0b_call8_c_1 : Ref sig .tc := ⟨.hbm, 104, rfl⟩
abbrev main_while0b_call8_c_2 : Ref sig .tc := ⟨.hbm, 105, rfl⟩
abbrev main_while0b_call8_v0 : Ref sig .tc := ⟨.hbm, 106, rfl⟩
abbrev main_while0b_v57 : Ref sig .tc := ⟨.hbm, 107, rfl⟩
abbrev main_while0b_call9_c : Ref sig .tc := ⟨.hbm, 108, rfl⟩
abbrev main_while0b_call9_c_0 : Ref sig .tc := ⟨.hbm, 109, rfl⟩
abbrev main_while0b_call9_c_1 : Ref sig .tc := ⟨.hbm, 110, rfl⟩
abbrev main_while0b_call9_c_2 : Ref sig .tc := ⟨.hbm, 111, rfl⟩
abbrev main_while0b_call9_v0 : Ref sig .tc := ⟨.hbm, 112, rfl⟩
abbrev main_while0b_v58 : Ref sig .tc := ⟨.hbm, 113, rfl⟩
abbrev main_while0b_call10_call0_cst : Ref sig .tc := ⟨.hbm, 114, rfl⟩
abbrev main_while0b_call10_call0_v0 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_cst_10 : Ref sig .tc := ⟨.hbm, 127, rfl⟩
abbrev main_while0b_call11_v0 : Ref sig .tc := ⟨.hbm, 128, rfl⟩
abbrev main_while0b_call11_v1 : Ref sig .tc := ⟨.hbm, 129, rfl⟩
abbrev main_while0b_call11_v2 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_v84 : Ref sig .tc := ⟨.hbm, 145, rfl⟩
abbrev main_while0b_v85 : Ref sig .tc := ⟨.hbm, 146, rfl⟩
abbrev main_while0b_v86 : Ref sig .tc := ⟨.hbm, 147, rfl⟩
abbrev main_while0b_v87 : Ref sig .tc := ⟨.hbm, 148, rfl⟩
abbrev main_while0b_v88 : Ref sig .tc := ⟨.hbm, 149, rfl⟩
abbrev main_while0b_v89 : Ref sig .tc := ⟨.hbm, 150, rfl⟩
abbrev main_while0b_v90 : Ref sig .tc := ⟨.hbm, 151, rfl⟩
abbrev main_while0b_call12_v0 : Ref sig .tc := ⟨.hbm, 152, rfl⟩
abbrev main_while0b_call12_c : Ref sig .tc := ⟨.hbm, 153, rfl⟩
abbrev main_while0b_call12_c_0 : Ref sig .tc := ⟨.hbm, 154, rfl⟩
abbrev main_while0b_call12_c_1 : Ref sig .tc := ⟨.hbm, 155, rfl⟩
abbrev main_while0b_call12_c_2 : Ref sig .tc := ⟨.hbm, 156, rfl⟩
abbrev main_while0b_v91 : Ref sig .tc := ⟨.hbm, 157, rfl⟩
abbrev main_while0b_c_11 : Ref sig .tc := ⟨.hbm, 158, rfl⟩
abbrev main_while0b_v92 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩

abbrev nD : Nat := 1
abbrev τ : Topo := Topo.v7x

variable {F : FTy → Type} [FloatOps F]

abbrev main_while0_count : Scf.Loop 32 := ⟨0#32, 64#32, 1#32⟩
-- ==== Proof.Ffn.lean ====
/-
  The feed-forward part of the last layer with the final norm. One row of the result is a function of one row of the
  activations; the kernel's blocks of 512 rows and the reference's whole arrays are read at a row of it.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Ffn

open Idealize.ShloMosaic

/-- A row over the root of its mean square (with the small constant that keeps the root from zero), times a gain. -/
def rmsRow (x w : Fin 1024 → EReal) (k : Fin 1024) : EReal :=
  x k * Ideal.rsqrt (Ideal.div (∑ j, x j * x j) (Ideal.ofBits .f32 0x44800000#32) + Ideal.ofBits .f32 0x358637BD#32) * w k

/-- The normalised row, scaled by one plus `scale` and moved by `shift`. -/
def modRow (x w shift scale : Fin 1024 → EReal) (k : Fin 1024) : EReal :=
  rmsRow x w k * (1 + scale k) + shift k

/-- `a` times the logistic function of `a`. -/
def silu (a : EReal) : EReal :=
  a * Ideal.div 1 (1 + Ideal.exp (-a))

/-- One row after the gated feed-forward part: the row itself plus the gated product. -/
def ffnRow (x w shift scale gate : Fin 1024 → EReal) (wg wu : Fin 1024 → Fin 2816 → EReal) (wd : Fin 2816 → Fin 1024 → EReal)
    (k : Fin 1024) : EReal :=
  x k + gate k * ∑ f, silu (∑ j, modRow x w shift scale j * wg j f) * (∑ j, modRow x w shift scale j * wu j f) * wd f k

section Kernel

open Cert.Kernel2Ideal Cert.Kernel2Ideal.Gen

theorem norm_at (x : Vec Ideal S1x512x1024 .f32) (w : Vec Ideal S1x1024 .f32) (sh sc : Vec Ideal S1x1x1024 .f32)
    (r : Fin 512) (k : Fin 1024) :
    k0_pay3 x w sh sc (ix2 r k)
      = modRow (fun k => x (ix3 0 r k)) (fun k => w (ix2 0 k)) (fun k => sh (ix3 0 0 k)) (fun k => sc (ix3 0 0 k)) k := by
  pointwise [k0_pay3, k0_pay2]
  rfl

theorem up_at (x : Vec Ideal S1x512x1024 .f32) (w : Vec Ideal S1x1024 .f32) (sh sc : Vec Ideal S1x1x1024 .f32)
    (v : Vec Ideal S1024x2816 .bf16) (r : Fin 512) (f : Fin 2816) :
    k0_pay4 x w sh sc v (ix2 r f)
      = ∑ j, modRow (fun k => x (ix3 0 r k)) (fun k => w (ix2 0 k)) (fun k => sh (ix3 0 0 k)) (fun k => sc (ix3 0 0 k)) j * v (ix2 j f) := by
  simp only [← norm_at]
  pointwise [k0_pay4]

/-- A row of what the body stores. -/
theorem stored_at (x : Vec Ideal S1x512x1024 .f32) (w : Vec Ideal S1x1024 .f32) (sh sc gt : Vec Ideal S1x1x1024 .f32)
    (wg wu : Vec Ideal S1024x2816 .bf16) (wd : Vec Ideal S2816x1024 .bf16) (nf : Vec Ideal S1x1024 .f32) (r : Fin 512) (k : Fin 1024) :
    k0_pay1 (k0_pay2 x) (k0_pay4 x w sh sc wg) (k0_pay5 x w sh sc wu) gt wd nf (ix3 0 r k)
      = rmsRow (ffnRow (fun k => x (ix3 0 r k)) (fun k => w (ix2 0 k)) (fun k => sh (ix3 0 0 k)) (fun k => sc (ix3 0 0 k))
          (fun k => gt (ix3 0 0 k)) (fun j f => wg (ix2 j f)) (fun j f => wu (ix2 j f)) (fun f k => wd (ix2 f k)))
          (fun k => nf (ix2 0 k)) k := by
  rw [show k0_pay5 x w sh sc wu = k0_pay4 x w sh sc wu from rfl]
  simp only [rmsRow, ffnRow, silu, ← up_at]
  generalize k0_pay4 x w sh sc wg = a
  generalize k0_pay4 x w sh sc wu = b
  pointwise [k0_pay1, k0_pay2]
  simp only [zero_sub]

end Kernel

section Reference

open Cert.Reference2Ideal Cert.Reference2Ideal.Gen Cert.Reference2Ideal.Value

/-- The result at sequence `b`, row `t`, channel `k`, of the argument arrays: the six rows of modulation of the second stream are
    rows `2 b + 1` of the second argument. -/
def result (h : S8x4096x1024.Idx → EReal) (mods : S16x6x1024.Idx → EReal) (w : S1024.Idx → EReal) (wg wu : S1024x2816.Idx → EReal)
    (wd : S2816x1024.Idx → EReal) (nf : S1024.Idx → EReal) (b : Fin 8) (t : Fin 4096) (k : Fin 1024) : EReal :=
  rmsRow (ffnRow (fun k => h (ix3 b t k)) (fun k => w (ix1 k)) (fun k => mods (ix3 ⟨2 * b.val + 1, by omega⟩ 3 k))
    (fun k => mods (ix3 ⟨2 * b.val + 1, by omega⟩ 4 k)) (fun k => mods (ix3 ⟨2 * b.val + 1, by omega⟩ 5 k))
    (fun j f => wg (ix2 j f)) (fun j f => wu (ix2 j f)) (fun f k => wd (ix2 f k))) (fun k => nf (ix1 k)) k

/-- The reference's norm of every row of an array. -/
def hostRms (x : FVec Ideal S8x4096x1024 .f32) (w : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

theorem hostRms_at (x : FVec Ideal S8x4096x1024 .f32) (w : FVec Ideal S1024 .f32) (b : Fin 8) (t : Fin 4096) (k : Fin 1024) :
    hostRms x w (ix3 b t k) = rmsRow (fun k => x (ix3 b t k)) (fun k => w (ix1 k)) k := by
  pointwise [hostRms]
  rfl

/-- The reference's modulated norm. -/
def hostMod (x : FVec Ideal S8x4096x1024 .f32) (w : FVec Ideal S1024 .f32) (sh sc : FVec Ideal S8x1x1024 .f32) : FVec Ideal S8x4096x1024 .f32 :=
  addf (mulf (hostRms x w) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

theorem hostMod_at (x : FVec Ideal S8x4096x1024 .f32) (w : FVec Ideal S1024 .f32) (sh sc : FVec Ideal S8x1x1024 .f32)
    (b : Fin 8) (t : Fin 4096) (k : Fin 1024) :
    hostMod x w sh sc (ix3 b t k)
      = modRow (fun k => x (ix3 b t k)) (fun k => w (ix1 k)) (fun k => sh (ix3 b 0 k)) (fun k => sc (ix3 b 0 k)) k := by
  simp only [modRow, ← hostRms_at]
  unfold hostMod
  generalize hostRms x w = a
  pointwise

/-- The reference's product with one of the two wide matrices. -/
def hostUp (x : FVec Ideal S8x4096x1024 .f32) (w : FVec Ideal S1024 .f32) (sh sc : FVec Ideal S8x1x1024 .f32)
    (v : FVec Ideal S1024x2816 .f32) : FVec Ideal S8x4096x2816 .f32 :=
  Host.dotGeneral dot_S8x4096x1024_S1024x2816_S8x4096x2816_2_0_01_1_n_n none (hostMod x w sh sc) v

theorem hostUp_at (x : FVec Ideal S8x4096x1024 .f32) (w : FVec Ideal S1024 .f32) (sh sc : FVec Ideal S8x1x1024 .f32)
    (v : FVec Ideal S1024x2816 .f32) (b : Fin 8) (t : Fin 4096) (f : Fin 2816) :
    hostUp x w sh sc v (ix3 b t f)
      = ∑ j, modRow (fun k => x (ix3 b t k)) (fun k => w (ix1 k)) (fun k => sh (ix3 b 0 k)) (fun k => sc (ix3 b 0 k)) j * v (ix2 j f) := by
  simp only [← hostMod_at]
  unfold hostUp
  generalize hostMod x w sh sc = a
  pointwise

/-- The reference's rows after the gated feed-forward part. -/
def hostFfn (x : FVec Ideal S8x4096x1024 .f32) (w : FVec Ideal S1024 .f32) (sh sc gt : FVec Ideal S8x1x1024 .f32)
    (wg wu : FVec Ideal S1024x2816 .f32) (wd : FVec Ideal S2816x1024 .f32) : FVec Ideal S8x4096x1024 .f32 :=
  addf x (mulf (broadcastInDim S8x4096x1024 ![0, 1, 2] bcast_S8x1x1024_S8x4096x1024_0_1_2 gt) (Host.dotGeneral dot_S8x4096x2816_S2816x1024_S8x4096x1024_2_0_01_1_n_n none (mulf (mulf (hostUp x w sh sc wg) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (hostUp x w sh sc wg)))))) (hostUp x w sh sc wu)) wd))

theorem hostFfn_at (x : FVec Ideal S8x4096x1024 .f32) (w : FVec Ideal S1024 .f32) (sh sc gt : FVec Ideal S8x1x1024 .f32)
    (wg wu : FVec Ideal S1024x2816 .f32) (wd : FVec Ideal S2816x1024 .f32) (b : Fin 8) (t : Fin 4096) (k : Fin 1024) :
    hostFfn x w sh sc gt wg wu wd (ix3 b t k)
      = ffnRow (fun k => x (ix3 b t k)) (fun k => w (ix1 k)) (fun k => sh (ix3 b 0 k)) (fun k => sc (ix3 b 0 k))
          (fun k => gt (ix3 b 0 k)) (fun j f => wg (ix2 j f)) (fun j f => wu (ix2 j f)) (fun f k => wd (ix2 f k)) k := by
  simp only [ffnRow, silu, ← hostUp_at]
  unfold hostFfn
  generalize hostUp x w sh sc wg = a
  generalize hostUp x w sh sc wu = a'
  pointwise

/-- The rows the latent tokens take out of the modulations: one for each sequence. -/
def hostShift (mods : FVec Ideal S16x6x1024 .f32) : FVec Ideal S8x1x1024 .f32 :=
  shapeCast _ (extractStridedSlice S8x1x1x1024 ![0, 1, 3, 0] (shapeCast _ mods shapeCasts_S16x6x1024_S8x2x6x1024) slices_S8x2x6x1024_S8x1x1x1024_0_1_3_0) shapeCasts_S8x1x1x1024_S8x1x1024
@[inherit_doc hostShift] def hostScale (mods : FVec Ideal S16x6x1024 .f32) : FVec Ideal S8x1x1024 .f32 :=
  shapeCast _ (extractStridedSlice S8x1x1x1024 ![0, 1, 4, 0] (shapeCast _ mods shapeCasts_S16x6x1024_S8x2x6x1024) slices_S8x2x6x1024_S8x1x1x1024_0_1_4_0) shapeCasts_S8x1x1x1024_S8x1x1024
@[inherit_doc hostShift] def hostGate (mods : FVec Ideal S16x6x1024 .f32) : FVec Ideal S8x1x1024 .f32 :=
  shapeCast _ (extractStridedSlice S8x1x1x1024 ![0, 1, 5, 0] (shapeCast _ mods shapeCasts_S16x6x1024_S8x2x6x1024) slices_S8x2x6x1024_S8x1x1x1024_0_1_5_0) shapeCasts_S8x1x1x1024_S8x1x1024

theorem hostShift_at (mods : FVec Ideal S16x6x1024 .f32) (b : Fin 8) (k : Fin 1024) :
    hostShift mods (ix3 b 0 k) = mods (ix3 ⟨2 * b.val + 1, by omega⟩ 3 k) := by
  pointwise [hostShift]
  blk_ext
theorem hostScale_at (mods : FVec Ideal S16x6x1024 .f32) (b : Fin 8) (k : Fin 1024) :
    hostScale mods (ix3 b 0 k) = mods (ix3 ⟨2 * b.val + 1, by omega⟩ 4 k) := by
  pointwise [hostScale]
  blk_ext
theorem hostGate_at (mods : FVec Ideal S16x6x1024 .f32) (b : Fin 8) (k : Fin 1024) :
    hostGate mods (ix3 b 0 k) = mods (ix3 ⟨2 * b.val + 1, by omega⟩ 5 k) := by
  pointwise [hostGate]
  blk_ext

theorem reference_at (m : (ℓ : Loc nD τ sig) → Buf (Elt Ideal) ℓ) (c : Dev nD) (b : Fin 8) (t : Fin 4096) (k : Fin 1024) :
    res_main_v57 m c (ix3 b t k)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) b t k := by
  have h : res_main_v57 m c
      = hostRms (hostFfn (m ((c.tc : Thread nD τ).loc main_arg0)) (m ((c.tc : Thread nD τ).loc main_arg2)) (hostShift (m ((c.tc : Thread nD τ).loc main_arg1)))
          (hostScale (m ((c.tc : Thread nD τ).loc main_arg1))) (hostGate (m ((c.tc : Thread nD τ).loc main_arg1)))
          (m ((c.tc : Thread nD τ).loc main_arg3)) (m ((c.tc : Thread nD τ).loc main_arg4)) (m ((c.tc : Thread nD τ).loc main_arg5)))
          (m ((c.tc : Thread nD τ).loc main_arg6)) := rfl
  rw [h, hostRms_at]
  simp only [hostFfn_at, hostShift_at, hostScale_at, hostGate_at]
  rfl

end Reference

section Array

open Cert.Kernel2Ideal Cert.Kernel2Ideal.Gen

/-- The block index of every window at every point. -/
theorem idx : ∀ t : Fin cfg0.grid.N, win0_0.index t = ![t.val / 8, t.val % 8, 0] ∧ win0_1.index t = ![2 * (t.val / 8) + 1, 0, 0]
    ∧ win0_2.index t = ![0, 0] ∧ win0_3.index t = ![0, 0] ∧ win0_4.index t = ![0, 0] ∧ win0_5.index t = ![0, 0]
    ∧ win0_6.index t = ![0, 0] ∧ win0_7.index t = ![t.val / 8, t.val % 8, 0] := by decide +kernel

section Reads

variable (m : (ℓ : Loc nD τ sig) → Buf (Elt Ideal) ℓ) (c : Dev nD) (t : Fin cfg0.grid.N)

theorem read_h (r : Fin 512) (k : Fin 1024) :
    (iblk m c 0 t : S1x512x1024.Idx → EReal) (ix3 0 r k)
      = (m ((c.tc : Thread nD τ).loc main_arg0) : S8x4096x1024.Idx → EReal)
          (ix3 ⟨t.val / 8, by have := t.isLt; change t.val < 64 at this; omega⟩ ⟨512 * (t.val % 8) + r.val, by omega⟩ k) := by
  blk_ext [iblk, V, idx t]

theorem read_shift (k : Fin 1024) :
    (View.ld (iblk m c 1 t) r0_2 : S1x1x1024.Idx → EReal) (ix3 0 0 k)
      = (m ((c.tc : Thread nD τ).loc main_arg1) : S16x6x1024.Idx → EReal)
          (ix3 ⟨2 * (t.val / 8) + 1, by have := t.isLt; change t.val < 64 at this; omega⟩ 3 k) := by
  change (iblk m c 1 t : S1x6x1024.Idx → EReal) (r0_2.idx (ix3 0 0 k)) = _
  blk_ext [iblk, V, idx t, r0_2]
  · rfl
  · change 0 + 1 * k.val = k.val
    omega

theorem read_scale (k : Fin 1024) :
    (View.ld (iblk m c 1 t) r0_3 : S1x1x1024.Idx → EReal) (ix3 0 0 k)
      = (m ((c.tc : Thread nD τ).loc main_arg1) : S16x6x1024.Idx → EReal)
          (ix3 ⟨2 * (t.val / 8) + 1, by have := t.isLt; change t.val < 64 at this; omega⟩ 4 k) := by
  change (iblk m c 1 t : S1x6x1024.Idx → EReal) (r0_3.idx (ix3 0 0 k)) = _
  blk_ext [iblk, V, idx t, r0_3]
  · rfl
  · change 0 + 1 * k.val = k.val
    omega

theorem read_gate (k : Fin 1024) :
    (View.ld (iblk m c 1 t) r0_5 : S1x1x1024.Idx → EReal) (ix3 0 0 k)
      = (m ((c.tc : Thread nD τ).loc main_arg1) : S16x6x1024.Idx → EReal)
          (ix3 ⟨2 * (t.val / 8) + 1, by have := t.isLt; change t.val < 64 at this; omega⟩ 5 k) := by
  change (iblk m c 1 t : S1x6x1024.Idx → EReal) (r0_5.idx (ix3 0 0 k)) = _
  blk_ext [iblk, V, idx t, r0_5]
  · rfl
  · change 0 + 1 * k.val = k.val
    omega

theorem read_norm (k : Fin 1024) :
    (iblk m c 2 t : S1x1024.Idx → EReal) (ix2 0 k) = (m ((c.tc : Thread nD τ).loc main_arg2) : S1024.Idx → EReal) (ix1 k) := by
  blk_ext! [iblk, V, idx t]

theorem read_up (j : Fin 1024) (f : Fin 2816) :
    (iblk m c 3 t : S1024x2816.Idx → EReal) (ix2 j f) = (m ((c.tc : Thread nD τ).loc main_arg3) : S1024x2816.Idx → EReal) (ix2 j f) := by
  blk_ext [iblk, V, idx t]

theorem read_up' (j : Fin 1024) (f : Fin 2816) :
    (iblk m c 4 t : S1024x2816.Idx → EReal) (ix2 j f) = (m ((c.tc : Thread nD τ).loc main_arg4) : S1024x2816.Idx → EReal) (ix2 j f) := by
  blk_ext [iblk, V, idx t]

theorem read_down (f : Fin 2816) (k : Fin 1024) :
    (iblk m c 5 t : S2816x1024.Idx → EReal) (ix2 f k) = (m ((c.tc : Thread nD τ).loc main_arg5) : S2816x1024.Idx → EReal) (ix2 f k) := by
  blk_ext [iblk, V, idx t]

theorem read_final (k : Fin 1024) :
    (iblk m c 6 t : S1x1024.Idx → EReal) (ix2 0 k) = (m ((c.tc : Thread nD τ).loc main_arg6) : S1024.Idx → EReal) (ix1 k) := by
  blk_ext! [iblk, V, idx t]

end Reads

/-- The array the kernel leaves. -/
theorem array_eq (m : (ℓ : Loc nD τ sig) → Buf (Elt Ideal) ℓ) (c : Dev nD) :
    (dats m 0 c).arrAt 7 cfg0.N = fun y : S8x4096x1024.Idx =>
      result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (y 0) (y 1) (y 2) := by
  refine (dats m 0 c).arrAt_eq_of_covers 7 _ (by decide +kernel) fun t hf y => ?_
  blk_simp
  rw [after0_7]
  frame_out
  obtain ⟨a, r, k, rfl⟩ : ∃ (a : Fin 1) (r : Fin 512) (k : Fin 1024), y = ix3 a r k := ⟨y 0, y 1, y 2, eq_ix3 y⟩
  obtain rfl : a = 0 := Subsingleton.elim _ _
  refine (stored_at _ _ _ _ _ _ _ _ _ r k).trans ?_
  simp only [read_h, read_shift, read_scale, read_gate, read_norm, read_up, read_up', read_down, read_final]
  rw [show ((View.whole main_v5).slice (win0_7.rect t)).emb (ix3 0 r k)
      = ix3 ⟨t.val / 8, by have := t.isLt; change t.val < 64 at this; omega⟩ ⟨512 * (t.val % 8) + r.val, by omega⟩ k from by
    blk_ext [idx t]]
  rfl

end Array

/-- The kernel and the reference leave the same array. -/
theorem algebraic : Cert.algebraic_Kernel2Ideal_Reference2Ideal := by
  intro m g m' g' _ hm
  refine ⟨fun c => (Kernel2Ideal.Gen.dats m 0 c).arrAt 7 Kernel2Ideal.cfg0.N, Kernel2Ideal.Value.run_blocks m g,
    (θ_run _ _ _).mono (fun r h c => ⟨(h c).1.trans ?_, (h c).2⟩) (Reference2Ideal.Value.run m' g')⟩
  obtain ⟨h0, h1, h2, h3, h4, h5, h6⟩ := hm c
  refine Eq.trans ?_ (array_eq m c).symm
  funext y
  refine (congrArg _ (eq_ix3 y)).trans ((reference_at m' c (y 0) (y 1) (y 2)).trans ?_)
  rw [h0, h1, h2, h3, h4, h5, h6]

end Cert.Ffn

end
-- ==== Proof.FfnPlain.lean ====
/-
  The feed-forward part of a layer before the last, without the final norm. A row of the result is `Cert.Ffn.ffnRow` of a row of
  the activations.
-/
module

public import proofs.«01_k».proof.Defs
public import proofs.«01_k».proof.Proof.Gen.Kernel6Ideal.Value
public import proofs.«01_k».proof.Proof.Gen.Reference6Ideal.Run
public import proofs.«01_k».proof.Proof.Ffn
public import Idealize.ShloMosaic.Lib.Pipeline.ValueKit
public import Idealize.ShloMosaic.Lib.Pointwise

@[expose] public section

set_option maxRecDepth 16384

noncomputable section

namespace Cert.FfnPlain

open Idealize.ShloMosaic
open Cert.Ffn (rmsRow modRow silu ffnRow)

section Kernel

open Cert.Kernel6Ideal Cert.Kernel6Ideal.Gen

theorem norm_at (x : Vec Ideal S1x512x1024 .f32) (w : Vec Ideal S1x1024 .f32) (sh sc : Vec Ideal S1x1x1024 .f32)
    (r : Fin 512) (k : Fin 1024) :
    k0_pay3 x w sh sc (ix2 r k)
      = modRow (fun k => x (ix3 0 r k)) (fun k => w (ix2 0 k)) (fun k => sh (ix3 0 0 k)) (fun k => sc (ix3 0 0 k)) k := by
  pointwise [k0_pay3, k0_pay2]
  rfl

theorem up_at (x : Vec Ideal S1x512x1024 .f32) (w : Vec Ideal S1x1024 .f32) (sh sc : Vec Ideal S1x1x1024 .f32)
    (v : Vec Ideal S1024x2816 .bf16) (r : Fin 512) (f : Fin 2816) :
    k0_pay4 x w sh sc v (ix2 r f)
      = ∑ j, modRow (fun k => x (ix3 0 r k)) (fun k => w (ix2 0 k)) (fun k => sh (ix3 0 0 k)) (fun k => sc (ix3 0 0 k)) j * v (ix2 j f) := by
  simp only [← norm_at]
  pointwise [k0_pay4]

/-- A row of what the body stores. -/
theorem stored_at (x : Vec Ideal S1x512x1024 .f32) (w : Vec Ideal S1x1024 .f32) (sh sc gt : Vec Ideal S1x1x1024 .f32)
    (wg wu : Vec Ideal S1024x2816 .bf16) (wd : Vec Ideal S2816x1024 .bf16) (r : Fin 512) (k : Fin 1024) :
    k0_pay1 (k0_pay2 x) (k0_pay4 x w sh sc wg) (k0_pay5 x w sh sc wu) gt wd (ix3 0 r k)
      = ffnRow (fun k => x (ix3 0 r k)) (fun k => w (ix2 0 k)) (fun k => sh (ix3 0 0 k)) (fun k => sc (ix3 0 0 k))
          (fun k => gt (ix3 0 0 k)) (fun j f => wg (ix2 j f)) (fun j f => wu (ix2 j f)) (fun f k => wd (ix2 f k)) k := by
  rw [show k0_pay5 x w sh sc wu = k0_pay4 x w sh sc wu from rfl]
  simp only [ffnRow, silu, ← up_at]
  generalize k0_pay4 x w sh sc wg = a
  generalize k0_pay4 x w sh sc wu = b
  pointwise [k0_pay1, k0_pay2]
  simp only [zero_sub]

end Kernel

section Reference

open Cert.Reference6Ideal Cert.Reference6Ideal.Gen Cert.Reference6Ideal.Value

/-- The result at sequence `b`, row `t`, channel `k`, of the argument arrays: the six rows of modulation of the second stream are
    rows `2 b + 1` of the second argument. -/
def result (h : S8x4096x1024.Idx → EReal) (mods : S16x6x1024.Idx → EReal) (w : S1024.Idx → EReal) (wg wu : S1024x2816.Idx → EReal)
    (wd : S2816x1024.Idx → EReal) (b : Fin 8) (t : Fin 4096) (k : Fin 1024) : EReal :=
  ffnRow (fun k => h (ix3 b t k)) (fun k => w (ix1 k)) (fun k => mods (ix3 ⟨2 * b.val + 1, by omega⟩ 3 k))
    (fun k => mods (ix3 ⟨2 * b.val + 1, by omega⟩ 4 k)) (fun k => mods (ix3 ⟨2 * b.val + 1, by omega⟩ 5 k))
    (fun j f => wg (ix2 j f)) (fun j f => wu (ix2 j f)) (fun f k => wd (ix2 f k)) k

/-- The reference's norm of every row of an array. -/
def hostRms (x : FVec Ideal S8x4096x1024 .f32) (w : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

theorem hostRms_at (x : FVec Ideal S8x4096x1024 .f32) (w : FVec Ideal S1024 .f32) (b : Fin 8) (t : Fin 4096) (k : Fin 1024) :
    hostRms x w (ix3 b t k) = rmsRow (fun k => x (ix3 b t k)) (fun k => w (ix1 k)) k := by
  pointwise [hostRms]
  rfl

/-- The reference's modulated norm. -/
def hostMod (x : FVec Ideal S8x4096x1024 .f32) (w : FVec Ideal S1024 .f32) (sh sc : FVec Ideal S8x1x1024 .f32) : FVec Ideal S8x4096x1024 .f32 :=
  addf (mulf (hostRms x w) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

theorem hostMod_at (x : FVec Ideal S8x4096x1024 .f32) (w : FVec Ideal S1024 .f32) (sh sc : FVec Ideal S8x1x1024 .f32)
    (b : Fin 8) (t : Fin 4096) (k : Fin 1024) :
    hostMod x w sh sc (ix3 b t k)
      = modRow (fun k => x (ix3 b t k)) (fun k => w (ix1 k)) (fun k => sh (ix3 b 0 k)) (fun k => sc (ix3 b 0 k)) k := by
  simp only [modRow, ← hostRms_at]
  unfold hostMod
  generalize hostRms x w = a
  pointwise

/-- The reference's product with one of the two wide matrices. -/
def hostUp (x : FVec Ideal S8x4096x1024 .f32) (w : FVec Ideal S1024 .f32) (sh sc : FVec Ideal S8x1x1024 .f32)
    (v : FVec Ideal S1024x2816 .f32) : FVec Ideal S8x4096x2816 .f32 :=
  Host.dotGeneral dot_S8x4096x1024_S1024x2816_S8x4096x2816_2_0_01_1_n_n none (hostMod x w sh sc) v

theorem hostUp_at (x : FVec Ideal S8x4096x1024 .f32) (w : FVec Ideal S1024 .f32) (sh sc : FVec Ideal S8x1x1024 .f32)
    (v : FVec Ideal S1024x2816 .f32) (b : Fin 8) (t : Fin 4096) (f : Fin 2816) :
    hostUp x w sh sc v (ix3 b t f)
      = ∑ j, modRow (fun k => x (ix3 b t k)) (fun k => w (ix1 k)) (fun k => sh (ix3 b 0 k)) (fun k => sc (ix3 b 0 k)) j * v (ix2 j f) := by
  simp only [← hostMod_at]
  unfold hostUp
  generalize hostMod x w sh sc = a
  pointwise

/-- The reference's rows after the gated feed-forward part. -/
def hostFfn (x : FVec Ideal S8x4096x1024 .f32) (w : FVec Ideal S1024 .f32) (sh sc gt : FVec Ideal S8x1x1024 .f32)
    (wg wu : FVec Ideal S1024x2816 .f32) (wd : FVec Ideal S2816x1024 .f32) : FVec Ideal S8x4096x1024 .f32 :=
  addf x (mulf (broadcastInDim S8x4096x1024 ![0, 1, 2] bcast_S8x1x1024_S8x4096x1024_0_1_2 gt) (Host.dotGeneral dot_S8x4096x2816_S2816x1024_S8x4096x1024_2_0_01_1_n_n none (mulf (mulf (hostUp x w sh sc wg) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (hostUp x w sh sc wg)))))) (hostUp x w sh sc wu)) wd))

theorem hostFfn_at (x : FVec Ideal S8x4096x1024 .f32) (w : FVec Ideal S1024 .f32) (sh sc gt : FVec Ideal S8x1x1024 .f32)
    (wg wu : FVec Ideal S1024x2816 .f32) (wd : FVec Ideal S2816x1024 .f32) (b : Fin 8) (t : Fin 4096) (k : Fin 1024) :
    hostFfn x w sh sc gt wg wu wd (ix3 b t k)
      = ffnRow (fun k => x (ix3 b t k)) (fun k => w (ix1 k)) (fun k => sh (ix3 b 0 k)) (fun k => sc (ix3 b 0 k))
          (fun k => gt (ix3 b 0 k)) (fun j f => wg (ix2 j f)) (fun j f => wu (ix2 j f)) (fun f k => wd (ix2 f k)) k := by
  simp only [ffnRow, silu, ← hostUp_at]
  unfold hostFfn
  generalize hostUp x w sh sc wg = a
  generalize hostUp x w sh sc wu = a'
  pointwise

/-- The rows the latent tokens take out of the modulations: one for each sequence. -/
def hostShift (mods : FVec Ideal S16x6x1024 .f32) : FVec Ideal S8x1x1024 .f32 :=
  shapeCast _ (extractStridedSlice S8x1x1x1024 ![0, 1, 3, 0] (shapeCast _ mods shapeCasts_S16x6x1024_S8x2x6x1024) slices_S8x2x6x1024_S8x1x1x1024_0_1_3_0) shapeCasts_S8x1x1x1024_S8x1x1024
@[inherit_doc hostShift] def hostScale (mods : FVec Ideal S16x6x1024 .f32) : FVec Ideal S8x1x1024 .f32 :=
  shapeCast _ (extractStridedSlice S8x1x1x1024 ![0, 1, 4, 0] (shapeCast _ mods shapeCasts_S16x6x1024_S8x2x6x1024) slices_S8x2x6x1024_S8x1x1x1024_0_1_4_0) shapeCasts_S8x1x1x1024_S8x1x1024
@[inherit_doc hostShift] def hostGate (mods : FVec Ideal S16x6x1024 .f32) : FVec Ideal S8x1x1024 .f32 :=
  shapeCast _ (extractStridedSlice S8x1x1x1024 ![0, 1, 5, 0] (shapeCast _ mods shapeCasts_S16x6x1024_S8x2x6x1024) slices_S8x2x6x1024_S8x1x1x1024_0_1_5_0) shapeCasts_S8x1x1x1024_S8x1x1024

theorem hostShift_at (mods : FVec Ideal S16x6x1024 .f32) (b : Fin 8) (k : Fin 1024) :
    hostShift mods (ix3 b 0 k) = mods (ix3 ⟨2 * b.val + 1, by omega⟩ 3 k) := by
  pointwise [hostShift]
  blk_ext
theorem hostScale_at (mods : FVec Ideal S16x6x1024 .f32) (b : Fin 8) (k : Fin 1024) :
    hostScale mods (ix3 b 0 k) = mods (ix3 ⟨2 * b.val + 1, by omega⟩ 4 k) := by
  pointwise [hostScale]
  blk_ext
theorem hostGate_at (mods : FVec Ideal S16x6x1024 .f32) (b : Fin 8) (k : Fin 1024) :
    hostGate mods (ix3 b 0 k) = mods (ix3 ⟨2 * b.val + 1, by omega⟩ 5 k) := by
  pointwise [hostGate]
  blk_ext

theorem reference_at (m : (ℓ : Loc nD τ sig) → Buf (Elt Ideal) ℓ) (c : Dev nD) (b : Fin 8) (t : Fin 4096) (k : Fin 1024) :
    res_main_v44 m c (ix3 b t k)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) b t k := by
  have h : res_main_v44 m c
      = hostFfn (m ((c.tc : Thread nD τ).loc main_arg0)) (m ((c.tc : Thread nD τ).loc main_arg2)) (hostShift (m ((c.tc : Thread nD τ).loc main_arg1)))
          (hostScale (m ((c.tc : Thread nD τ).loc main_arg1))) (hostGate (m ((c.tc : Thread nD τ).loc main_arg1)))
          (m ((c.tc : Thread nD τ).loc main_arg3)) (m ((c.tc : Thread nD τ).loc main_arg4)) (m ((c.tc : Thread nD τ).loc main_arg5)) := rfl
  rw [h]
  simp only [hostFfn_at, hostShift_at, hostScale_at, hostGate_at]
  rfl

end Reference

section Array

open Cert.Kernel6Ideal Cert.Kernel6Ideal.Gen

/-- The block index of every window at every point. -/
theorem idx : ∀ t : Fin cfg0.grid.N, win0_0.index t = ![t.val / 8, t.val % 8, 0] ∧ win0_1.index t = ![2 * (t.val / 8) + 1, 0, 0]
    ∧ win0_2.index t = ![0, 0] ∧ win0_3.index t = ![0, 0] ∧ win0_4.index t = ![0, 0] ∧ win0_5.index t = ![0, 0]
    ∧ win0_6.index t = ![t.val / 8, t.val % 8, 0] := by decide +kernel

section Reads

variable (m : (ℓ : Loc nD τ sig) → Buf (Elt Ideal) ℓ) (c : Dev nD) (t : Fin cfg0.grid.N)

theorem read_h (r : Fin 512) (k : Fin 1024) :
    (iblk m c 0 t : S1x512x1024.Idx → EReal) (ix3 0 r k)
      = (m ((c.tc : Thread nD τ).loc main_arg0) : S8x4096x1024.Idx → EReal)
          (ix3 ⟨t.val / 8, by have := t.isLt; change t.val < 64 at this; omega⟩ ⟨512 * (t.val % 8) + r.val, by omega⟩ k) := by
  blk_ext [iblk, V, idx t]

theorem read_shift (k : Fin 1024) :
    (View.ld (iblk m c 1 t) r0_2 : S1x1x1024.Idx → EReal) (ix3 0 0 k)
      = (m ((c.tc : Thread nD τ).loc main_arg1) : S16x6x1024.Idx → EReal)
          (ix3 ⟨2 * (t.val / 8) + 1, by have := t.isLt; change t.val < 64 at this; omega⟩ 3 k) := by
  change (iblk m c 1 t : S1x6x1024.Idx → EReal) (r0_2.idx (ix3 0 0 k)) = _
  blk_ext [iblk, V, idx t, r0_2]
  · rfl
  · change 0 + 1 * k.val = k.val
    omega

theorem read_scale (k : Fin 1024) :
    (View.ld (iblk m c 1 t) r0_3 : S1x1x1024.Idx → EReal) (ix3 0 0 k)
      = (m ((c.tc : Thread nD τ).loc main_arg1) : S16x6x1024.Idx → EReal)
          (ix3 ⟨2 * (t.val / 8) + 1, by have := t.isLt; change t.val < 64 at this; omega⟩ 4 k) := by
  change (iblk m c 1 t : S1x6x1024.Idx → EReal) (r0_3.idx (ix3 0 0 k)) = _
  blk_ext [iblk, V, idx t, r0_3]
  · rfl
  · change 0 + 1 * k.val = k.val
    omega

theorem read_gate (k : Fin 1024) :
    (View.ld (iblk m c 1 t) r0_5 : S1x1x1024.Idx → EReal) (ix3 0 0 k)
      = (m ((c.tc : Thread nD τ).loc main_arg1) : S16x6x1024.Idx → EReal)
          (ix3 ⟨2 * (t.val / 8) + 1, by have := t.isLt; change t.val < 64 at this; omega⟩ 5 k) := by
  change (iblk m c 1 t : S1x6x1024.Idx → EReal) (r0_5.idx (ix3 0 0 k)) = _
  blk_ext [iblk, V, idx t, r0_5]
  · rfl
  · change 0 + 1 * k.val = k.val
    omega

theorem read_norm (k : Fin 1024) :
    (iblk m c 2 t : S1x1024.Idx → EReal) (ix2 0 k) = (m ((c.tc : Thread nD τ).loc main_arg2) : S1024.Idx → EReal) (ix1 k) := by
  blk_ext! [iblk, V, idx t]

theorem read_up (j : Fin 1024) (f : Fin 2816) :
    (iblk m c 3 t : S1024x2816.Idx → EReal) (ix2 j f) = (m ((c.tc : Thread nD τ).loc main_arg3) : S1024x2816.Idx → EReal) (ix2 j f) := by
  blk_ext [iblk, V, idx t]

theorem read_up' (j : Fin 1024) (f : Fin 2816) :
    (iblk m c 4 t : S1024x2816.Idx → EReal) (ix2 j f) = (m ((c.tc : Thread nD τ).loc main_arg4) : S1024x2816.Idx → EReal) (ix2 j f) := by
  blk_ext [iblk, V, idx t]

theorem read_down (f : Fin 2816) (k : Fin 1024) :
    (iblk m c 5 t : S2816x1024.Idx → EReal) (ix2 f k) = (m ((c.tc : Thread nD τ).loc main_arg5) : S2816x1024.Idx → EReal) (ix2 f k) := by
  blk_ext [iblk, V, idx t]

end Reads

/-- The array the kernel leaves. -/
theorem array_eq (m : (ℓ : Loc nD τ sig) → Buf (Elt Ideal) ℓ) (c : Dev nD) :
    (dats m 0 c).arrAt 6 cfg0.N = fun y : S8x4096x1024.Idx =>
      result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) (y 2) := by
  refine (dats m 0 c).arrAt_eq_of_covers 6 _ (by decide +kernel) fun t hf y => ?_
  blk_simp
  rw [after0_6]
  frame_out
  obtain ⟨a, r, k, rfl⟩ : ∃ (a : Fin 1) (r : Fin 512) (k : Fin 1024), y = ix3 a r k := ⟨y 0, y 1, y 2, eq_ix3 y⟩
  obtain rfl : a = 0 := Subsingleton.elim _ _
  refine (stored_at _ _ _ _ _ _ _ _ r k).trans ?_
  simp only [read_h, read_shift, read_scale, read_gate, read_norm, read_up, read_up', read_down]
  rw [show ((View.whole main_v4).slice (win0_6.rect t)).emb (ix3 0 r k)
      = ix3 ⟨t.val / 8, by have := t.isLt; change t.val < 64 at this; omega⟩ ⟨512 * (t.val % 8) + r.val, by omega⟩ k from by
    blk_ext [idx t]]
  rfl

end Array

/-- The kernel and the reference leave the same array. -/
theorem algebraic : Cert.algebraic_Kernel6Ideal_Reference6Ideal := by
  intro m g m' g' _ hm
  refine ⟨fun c => (Kernel6Ideal.Gen.dats m 0 c).arrAt 6 Kernel6Ideal.cfg0.N, Kernel6Ideal.Value.run_blocks m g,
    (θ_run _ _ _).mono (fun r h c => ⟨(h c).1.trans ?_, (h c).2⟩) (Reference6Ideal.Value.run m' g')⟩
  obtain ⟨h0, h1, h2, h3, h4, h5⟩ := hm c
  refine Eq.trans ?_ (array_eq m c).symm
  funext y
  refine (congrArg _ (eq_ix3 y)).trans ((reference_at m' c (y 0) (y 1) (y 2)).trans ?_)
  rw [h0, h1, h2, h3, h4, h5]

end Cert.FfnPlain

end
-- ==== Proof.Inproj.lean ====
/-
  The input projection: each of the four mixers takes its columns of the modulated activations times the matrix, with columns of
  zeros after them up to a multiple of 128.
-/
module

public import proofs.«01_k».proof.Proof.Ffn
public import proofs.«01_k».proof.Proof.Gen.Kernel4Ideal.Value
public import proofs.«01_k».proof.Proof.Gen.Reference4Ideal.Run

@[expose] public section

set_option maxRecDepth 16384

noncomputable section

namespace Cert.Inproj

open Idealize.ShloMosaic Cert.Ffn

/-- Column `k` of a mixer's part of the projection: the mixer has `n` columns from column `o` on, zeros follow. -/
def column (n o : ℕ) (h : n + o ≤ 10832) (row : Fin 1024 → EReal) (w : Fin 1024 → Fin 10832 → EReal) (k : ℕ) : EReal :=
  if hk : k < n then ∑ j, row j * w j ⟨o + k, by omega⟩ else 0

/-- A matrix with its columns `o` to `o + n`, and zeros after them. -/
def padded (n o : ℕ) (h : n + o ≤ 10832) (w : Fin 1024 → Fin 10832 → EReal) (j : Fin 1024) (k : ℕ) : EReal :=
  if hk : k < n then w j ⟨o + k, by omega⟩ else 0

/-- The product with the padded matrix is the padded product. -/
theorem sum_padded (n o : ℕ) (h : n + o ≤ 10832) (row : Fin 1024 → EReal) (w : Fin 1024 → Fin 10832 → EReal) (k : ℕ) :
    ∑ j, row j * padded n o h w j k = column n o h row w k := by
  unfold padded column
  by_cases hk : k < n
  · simp only [hk, dif_pos]
  · simp only [hk, dif_neg, not_false_iff, mul_zero, Finset.sum_const_zero]

/-- The modulated row of a latent token: the shift and the scale are rows 0 and 1 of row `2 b + 1` of the modulations. -/
def tokenRow (h : (⟨3, ![8, 4096, 1024]⟩ : Shape).Idx → EReal) (mods : (⟨3, ![16, 6, 1024]⟩ : Shape).Idx → EReal)
    (w : (⟨1, ![1024]⟩ : Shape).Idx → EReal) (b : Fin 8) (t : Fin 4096) : Fin 1024 → EReal :=
  modRow (fun k => h (ix3 b t k)) (fun k => w (ix1 k)) (fun k => mods (ix3 ⟨2 * b.val + 1, by omega⟩ 0 k))
    (fun k => mods (ix3 ⟨2 * b.val + 1, by omega⟩ 1 k))

/-- What the projection leaves for a mixer: its columns of the modulated activations times the matrix. -/
def result (n o : ℕ) (hn : n + o ≤ 10832) (h : (⟨3, ![8, 4096, 1024]⟩ : Shape).Idx → EReal)
    (mods : (⟨3, ![16, 6, 1024]⟩ : Shape).Idx → EReal) (w : (⟨1, ![1024]⟩ : Shape).Idx → EReal)
    (wi : (⟨2, ![1024, 10832]⟩ : Shape).Idx → EReal) {width : ℕ} (b : Fin 8) (t : Fin 4096) (k : Fin width) : EReal :=
  column n o hn (tokenRow h mods w b t) (fun j k => wi (ix2 j k)) k.val

/-- The word the padding is made of is zero. -/
theorem fill_zero : (FloatOps.sitofp (F := Ideal) FTy.f32 (0#32) : EReal) = 0 := by
  change (((0#32).toInt : ℝ) : EReal) = 0
  simp

section Kernel

open Cert.Kernel4Ideal Cert.Kernel4Ideal.Gen

theorem norm_at (x : Vec Ideal S1x512x1024 .f32) (w : Vec Ideal S1x1024 .f32) (sh sc : Vec Ideal S1x1x1024 .f32)
    (r : Fin 512) (k : Fin 1024) :
    k0_pay4 x w sh sc (ix2 r k)
      = modRow (fun k => x (ix3 0 r k)) (fun k => w (ix2 0 k)) (fun k => sh (ix3 0 0 k)) (fun k => sc (ix3 0 0 k)) k :=
  Ffn.norm_at x w sh sc r k

theorem stored1_at (a : FVec Ideal S512x1024 .bf16) (v : Vec Ideal S1024x1664 .bf16) (r : Fin 512) (k : Fin 1664) :
    k0_pay1 a v (ix3 0 r k) = ∑ j, a (ix2 r j) * v (ix2 j k) := by
  pointwise [k0_pay1]

theorem stored2_at (a : FVec Ideal S512x1024 .bf16) (v : Vec Ideal S1024x2176 .bf16) (r : Fin 512) (k : Fin 2176) :
    k0_pay2 a v (ix3 0 r k) = ∑ j, a (ix2 r j) * v (ix2 j k) := by
  pointwise [k0_pay2]

/-- The block index of every window at every point. -/
theorem idx : ∀ t : Fin cfg0.grid.N, win0_0.index t = ![t.val / 8, t.val % 8, 0] ∧ win0_1.index t = ![2 * (t.val / 8) + 1, 0, 0]
    ∧ win0_2.index t = ![0, 0] ∧ win0_3.index t = ![0, 0] ∧ win0_4.index t = ![0, 0] ∧ win0_5.index t = ![0, 0]
    ∧ win0_6.index t = ![0, 0] ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0] := by decide +kernel

section Reads

variable (m : (ℓ : Loc nD τ sig) → Buf (Elt Ideal) ℓ) (c : Dev nD) (t : Fin cfg0.grid.N)

theorem read_h (r : Fin 512) (k : Fin 1024) :
    (iblk m c 0 t : S1x512x1024.Idx → EReal) (ix3 0 r k)
      = (m ((c.tc : Thread nD τ).loc main_arg0) : S8x4096x1024.Idx → EReal)
          (ix3 ⟨t.val / 8, by have := t.isLt; change t.val < 64 at this; omega⟩ ⟨512 * (t.val % 8) + r.val, by omega⟩ k) := by
  blk_ext! [iblk, V, idx t]

theorem read_norm (k : Fin 1024) :
    (iblk m c 2 t : S1x1024.Idx → EReal) (ix2 0 k) = (m ((c.tc : Thread nD τ).loc main_arg2) : S1024.Idx → EReal) (ix1 k) := by
  have e : (win0_2.blk t).view.emb (ix2 0 k) = ix2 0 k := by blk_ext [idx t]
  change V m c main_v12 ((win0_2.blk t).view.emb (ix2 0 k)) = _
  rw [e]
  simp only [V, hostOps0, hostOps0_1, hostOps0_2, hostOps0_3, hostOps0_4, hostOps0_5, hostOps0_6, hostOps0_7, hostOps0_8, List.flatten_cons, List.flatten_nil, List.append_nil, List.cons_append, List.nil_append, List.append_assoc, StableHlo.TRef.binary, StableHlo.TRef.unary, StableHlo.TRef.nullary, StableHlo.TRef.toBuf, StableHlo.TRef.ofBuf, cast_eq]
  after_results_simp
  pointwise

theorem read_shift (k : Fin 1024) :
    (View.ld (iblk m c 1 t) r0_2 : S1x1x1024.Idx → EReal) (ix3 0 0 k)
      = (m ((c.tc : Thread nD τ).loc main_arg1) : S16x6x1024.Idx → EReal)
          (ix3 ⟨2 * (t.val / 8) + 1, by have := t.isLt; change t.val < 64 at this; omega⟩ 0 k) := by
  change (iblk m c 1 t : S1x6x1024.Idx → EReal) (r0_2.idx (ix3 0 0 k)) = _
  blk_ext! [iblk, V, idx t, r0_2]
  · rfl
  · change 0 + 1 * k.val = k.val
    omega

theorem read_scale (k : Fin 1024) :
    (View.ld (iblk m c 1 t) r0_3 : S1x1x1024.Idx → EReal) (ix3 0 0 k)
      = (m ((c.tc : Thread nD τ).loc main_arg1) : S16x6x1024.Idx → EReal)
          (ix3 ⟨2 * (t.val / 8) + 1, by have := t.isLt; change t.val < 64 at this; omega⟩ 1 k) := by
  change (iblk m c 1 t : S1x6x1024.Idx → EReal) (r0_3.idx (ix3 0 0 k)) = _
  blk_ext! [iblk, V, idx t, r0_3]
  · rfl
  · change 0 + 1 * k.val = k.val
    omega

theorem read_w3 (j : Fin 1024) (k : Fin 1664) :
    (iblk m c 3 t : S1024x1664.Idx → EReal) (ix2 j k)
      = padded 1552 0 (by decide) (fun j k => (m ((c.tc : Thread nD τ).loc main_arg3) : S1024x10832.Idx → EReal) (ix2 j k)) j k := by
  have e : (win0_3.blk t).view.emb (ix2 j k) = ix2 j k := by blk_ext [idx t]
  change V m c main_v2 ((win0_3.blk t).view.emb (ix2 j k)) = _
  rw [e]
  simp only [V, hostOps0, hostOps0_1, hostOps0_2, hostOps0_3, hostOps0_4, hostOps0_5, hostOps0_6, hostOps0_7, hostOps0_8, List.flatten_cons, List.flatten_nil, List.append_nil, List.cons_append, List.nil_append, List.append_assoc, StableHlo.TRef.binary, StableHlo.TRef.unary, StableHlo.TRef.nullary, StableHlo.TRef.toBuf, StableHlo.TRef.ofBuf, cast_eq]
  after_results_simp
  pointwise [padded]
  rw [fill_zero]

theorem read_w4 (j : Fin 1024) (k : Fin 1664) :
    (iblk m c 4 t : S1024x1664.Idx → EReal) (ix2 j k)
      = padded 1552 1552 (by decide) (fun j k => (m ((c.tc : Thread nD τ).loc main_arg3) : S1024x10832.Idx → EReal) (ix2 j k)) j k := by
  have e : (win0_4.blk t).view.emb (ix2 j k) = ix2 j k := by blk_ext [idx t]
  change V m c main_v5 ((win0_4.blk t).view.emb (ix2 j k)) = _
  rw [e]
  simp only [V, hostOps0, hostOps0_1, hostOps0_2, hostOps0_3, hostOps0_4, hostOps0_5, hostOps0_6, hostOps0_7, hostOps0_8, List.flatten_cons, List.flatten_nil, List.append_nil, List.cons_append, List.nil_append, List.append_assoc, StableHlo.TRef.binary, StableHlo.TRef.unary, StableHlo.TRef.nullary, StableHlo.TRef.toBuf, StableHlo.TRef.ofBuf, cast_eq]
  after_results_simp
  pointwise [padded]
  rw [fill_zero]

theorem read_w5 (j : Fin 1024) (k : Fin 2176) :
    (iblk m c 5 t : S1024x2176.Idx → EReal) (ix2 j k)
      = padded 2064 3104 (by decide) (fun j k => (m ((c.tc : Thread nD τ).loc main_arg3) : S1024x10832.Idx → EReal) (ix2 j k)) j k := by
  have e : (win0_5.blk t).view.emb (ix2 j k) = ix2 j k := by blk_ext [idx t]
  change V m c main_v8 ((win0_5.blk t).view.emb (ix2 j k)) = _
  rw [e]
  simp only [V, hostOps0, hostOps0_1, hostOps0_2, hostOps0_3, hostOps0_4, hostOps0_5, hostOps0_6, hostOps0_7, hostOps0_8, List.flatten_cons, List.flatten_nil, List.append_nil, List.cons_append, List.nil_append, List.append_assoc, StableHlo.TRef.binary, StableHlo.TRef.unary, StableHlo.TRef.nullary, StableHlo.TRef.toBuf, StableHlo.TRef.ofBuf, cast_eq]
  after_results_simp
  pointwise [padded]
  rw [fill_zero]

theorem read_w6 (j : Fin 1024) (k : Fin 1664) :
    (iblk m c 6 t : S1024x1664.Idx → EReal) (ix2 j k)
      = padded 1568 5168 (by decide) (fun j k => (m ((c.tc : Thread nD τ).loc main_arg3) : S1024x10832.Idx → EReal) (ix2 j k)) j k := by
  have e : (win0_6.blk t).view.emb (ix2 j k) = ix2 j k := by blk_ext [idx t]
  change V m c main_v11 ((win0_6.blk t).view.emb (ix2 j k)) = _
  rw [e]
  simp only [V, hostOps0, hostOps0_1, hostOps0_2, hostOps0_3, hostOps0_4, hostOps0_5, hostOps0_6, hostOps0_7, hostOps0_8, List.flatten_cons, List.flatten_nil, List.append_nil, List.cons_append, List.nil_append, List.append_assoc, StableHlo.TRef.binary, StableHlo.TRef.unary, StableHlo.TRef.nullary, StableHlo.TRef.toBuf, StableHlo.TRef.ofBuf, cast_eq]
  after_results_simp
  pointwise [padded]
  rw [fill_zero]

/-- The modulated rows of a block, read off the argument arrays. -/
theorem rows_at (r : Fin 512) :
    modRow (fun k => (iblk m c 0 t : S1x512x1024.Idx → EReal) (ix3 0 r k)) (fun k => (iblk m c 2 t : S1x1024.Idx → EReal) (ix2 0 k))
        (fun k => (View.ld (iblk m c 1 t) r0_2 : S1x1x1024.Idx → EReal) (ix3 0 0 k))
        (fun k => (View.ld (iblk m c 1 t) r0_3 : S1x1x1024.Idx → EReal) (ix3 0 0 k))
      = tokenRow (m ((c.tc : Thread nD τ).loc main_arg0)) (m ((c.tc : Thread nD τ).loc main_arg1)) (m ((c.tc : Thread nD τ).loc main_arg2))
          ⟨t.val / 8, by have := t.isLt; change t.val < 64 at this; omega⟩ ⟨512 * (t.val % 8) + r.val, by omega⟩ := by
  simp only [read_h, read_norm, read_shift, read_scale]
  rfl

theorem token_at (r : Fin 512) (j : Fin 1024) :
    k0_pay4 (iblk m c 0 t) (iblk m c 2 t) (View.ld (iblk m c 1 t) r0_2) (View.ld (iblk m c 1 t) r0_3) (ix2 r j)
      = tokenRow (m ((c.tc : Thread nD τ).loc main_arg0)) (m ((c.tc : Thread nD τ).loc main_arg1)) (m ((c.tc : Thread nD τ).loc main_arg2))
          ⟨t.val / 8, by have := t.isLt; change t.val < 64 at this; omega⟩ ⟨512 * (t.val % 8) + r.val, by omega⟩ j :=
  (norm_at _ _ _ _ r j).trans (congrFun (rows_at m c t r) j)

/-- The modulated rows, as the later products read them. -/
theorem token_kept_at (r : Fin 512) (j : Fin 1024) :
    k0_pay6 (iblk m c 0 t) (iblk m c 1 t) (iblk m c 2 t) (iblk m c 3 t) (iblk m c 4 t) (iblk m c 5 t) (iblk m c 6 t) (ix2 r j)
      = tokenRow (m ((c.tc : Thread nD τ).loc main_arg0)) (m ((c.tc : Thread nD τ).loc main_arg1)) (m ((c.tc : Thread nD τ).loc main_arg2))
          ⟨t.val / 8, by have := t.isLt; change t.val < 64 at this; omega⟩ ⟨512 * (t.val % 8) + r.val, by omega⟩ j := by
  have e0 : View.ld (iblk m c 0 t) r0_0 = iblk m c 0 t := View.ld_unit_lit (S := S1x512x1024) _ _ (by decide)
  have e2 : View.ld (iblk m c 2 t) r0_1 = iblk m c 2 t := View.ld_unit_lit (S := S1x1024) _ _ (by decide)
  unfold k0_pay6
  refine Eq.trans ?_ (token_at m c t r j)
  exact congrFun (congrArg₂ (fun a b => k0_pay4 a b (View.ld (iblk m c 1 t) r0_2) (View.ld (iblk m c 1 t) r0_3)) e0 e2) (ix2 r j)

end Reads

section Arrays

variable (m : (ℓ : Loc nD τ sig) → Buf (Elt Ideal) ℓ) (c : Dev nD)

theorem array7_eq : (dats m 0 c).arrAt 7 cfg0.N = fun y : S8x4096x1664.Idx =>
    result 1552 0 (by decide) (m ((c.tc : Thread nD τ).loc main_arg0)) (m ((c.tc : Thread nD τ).loc main_arg1)) (m ((c.tc : Thread nD τ).loc main_arg2)) (m ((c.tc : Thread nD τ).loc main_arg3)) (y 0) (y 1) (y 2) := by
  refine (dats m 0 c).arrAt_eq_of_covers 7 _ (by decide +kernel) fun t hf y => ?_
  blk_simp
  rw [after0_7]
  frame_out
  obtain ⟨a, r, k, rfl⟩ : ∃ (a : Fin 1) (r : Fin 512) (k : Fin 1664), y = ix3 a r k := ⟨y 0, y 1, y 2, eq_ix3 y⟩
  obtain rfl : a = 0 := Subsingleton.elim _ _
  refine (stored1_at _ _ r k).trans ?_
  refine (Finset.sum_congr rfl fun j _ => congrArg₂ (· * ·) (token_at m c t r j) (read_w3 m c t j k)).trans ?_
  refine (sum_padded _ _ _ _ _ _).trans ?_
  rw [show ((View.whole main_v13_0).slice (win0_7.rect t)).emb (ix3 0 r k) = ix3 ⟨t.val / 8, by have := t.isLt; change t.val < 64 at this; omega⟩ ⟨512 * (t.val % 8) + r.val, by omega⟩ k from by
    blk_ext [idx t]]
  rfl

theorem array8_eq : (dats m 0 c).arrAt 8 cfg0.N = fun y : S8x4096x1664.Idx =>
    result 1552 1552 (by decide) (m ((c.tc : Thread nD τ).loc main_arg0)) (m ((c.tc : Thread nD τ).loc main_arg1)) (m ((c.tc : Thread nD τ).loc main_arg2)) (m ((c.tc : Thread nD τ).loc main_arg3)) (y 0) (y 1) (y 2) := by
  refine (dats m 0 c).arrAt_eq_of_covers 8 _ (by decide +kernel) fun t hf y => ?_
  blk_simp
  rw [after0_8]
  frame_out
  obtain ⟨a, r, k, rfl⟩ : ∃ (a : Fin 1) (r : Fin 512) (k : Fin 1664), y = ix3 a r k := ⟨y 0, y 1, y 2, eq_ix3 y⟩
  obtain rfl : a = 0 := Subsingleton.elim _ _
  refine (stored1_at _ _ r k).trans ?_
  refine (Finset.sum_congr rfl fun j _ => congrArg₂ (· * ·) (token_kept_at m c t r j) (read_w4 m c t j k)).trans ?_
  refine (sum_padded _ _ _ _ _ _).trans ?_
  rw [show ((View.whole main_v13_1).slice (win0_8.rect t)).emb (ix3 0 r k) = ix3 ⟨t.val / 8, by have := t.isLt; change t.val < 64 at this; omega⟩ ⟨512 * (t.val % 8) + r.val, by omega⟩ k from by
    blk_ext [idx t]]
  rfl

theorem array9_eq : (dats m 0 c).arrAt 9 cfg0.N = fun y : S8x4096x2176.Idx =>
    result 2064 3104 (by decide) (m ((c.tc : Thread nD τ).loc main_arg0)) (m ((c.tc : Thread nD τ).loc main_arg1)) (m ((c.tc : Thread nD τ).loc main_arg2)) (m ((c.tc : Thread nD τ).loc main_arg3)) (y 0) (y 1) (y 2) := by
  refine (dats m 0 c).arrAt_eq_of_covers 9 _ (by decide +kernel) fun t hf y => ?_
  blk_simp
  rw [after0_9]
  frame_out
  obtain ⟨a, r, k, rfl⟩ : ∃ (a : Fin 1) (r : Fin 512) (k : Fin 2176), y = ix3 a r k := ⟨y 0, y 1, y 2, eq_ix3 y⟩
  obtain rfl : a = 0 := Subsingleton.elim _ _
  refine (stored2_at _ _ r k).trans ?_
  refine (Finset.sum_congr rfl fun j _ => congrArg₂ (· * ·) (token_kept_at m c t r j) (read_w5 m c t j k)).trans ?_
  refine (sum_padded _ _ _ _ _ _).trans ?_
  rw [show ((View.whole main_v13_2).slice (win0_9.rect t)).emb (ix3 0 r k) = ix3 ⟨t.val / 8, by have := t.isLt; change t.val < 64 at this; omega⟩ ⟨512 * (t.val % 8) + r.val, by omega⟩ k from by
    blk_ext [idx t]]
  rfl

theorem array10_eq : (dats m 0 c).arrAt 10 cfg0.N = fun y : S8x4096x1664.Idx =>
    result 1568 5168 (by decide) (m ((c.tc : Thread nD τ).loc main_arg0)) (m ((c.tc : Thread nD τ).loc main_arg1)) (m ((c.tc : Thread nD τ).loc main_arg2)) (m ((c.tc : Thread nD τ).loc main_arg3)) (y 0) (y 1) (y 2) := by
  refine (dats m 0 c).arrAt_eq_of_covers 10 _ (by decide +kernel) fun t hf y => ?_
  blk_simp
  rw [after0_10]
  frame_out
  obtain ⟨a, r, k, rfl⟩ : ∃ (a : Fin 1) (r : Fin 512) (k : Fin 1664), y = ix3 a r k := ⟨y 0, y 1, y 2, eq_ix3 y⟩
  obtain rfl : a = 0 := Subsingleton.elim _ _
  refine (stored1_at _ _ r k).trans ?_
  refine (Finset.sum_congr rfl fun j _ => congrArg₂ (· * ·) (token_kept_at m c t r j) (read_w6 m c t j k)).trans ?_
  refine (sum_padded _ _ _ _ _ _).trans ?_
  rw [show ((View.whole main_v13_3).slice (win0_10.rect t)).emb (ix3 0 r k) = ix3 ⟨t.val / 8, by have := t.isLt; change t.val < 64 at this; omega⟩ ⟨512 * (t.val % 8) + r.val, by omega⟩ k from by
    blk_ext [idx t]]
  rfl

end Arrays

end Kernel

section Reference

open Cert.Reference4Ideal Cert.Reference4Ideal.Gen Cert.Reference4Ideal.Value

/-- The reference's shift of every sequence. -/
def hostShift (mods : FVec Ideal S16x6x1024 .f32) : FVec Ideal S8x1x1024 .f32 :=
  shapeCast _ (extractStridedSlice S8x1x1x1024 ![0, 1, 0, 0] (shapeCast _ mods shapeCasts_S16x6x1024_S8x2x6x1024) slices_S8x2x6x1024_S8x1x1x1024_0_1_0_0) shapeCasts_S8x1x1x1024_S8x1x1024
/-- The reference's scale of every sequence. -/
def hostScale (mods : FVec Ideal S16x6x1024 .f32) : FVec Ideal S8x1x1024 .f32 :=
  shapeCast _ (extractStridedSlice S8x1x1x1024 ![0, 1, 1, 0] (shapeCast _ mods shapeCasts_S16x6x1024_S8x2x6x1024) slices_S8x2x6x1024_S8x1x1x1024_0_1_1_0) shapeCasts_S8x1x1x1024_S8x1x1024

theorem hostShift_at (mods : FVec Ideal S16x6x1024 .f32) (b : Fin 8) (k : Fin 1024) :
    hostShift mods (ix3 b 0 k) = mods (ix3 ⟨2 * b.val + 1, by omega⟩ 0 k) := by
  pointwise [hostShift]
  blk_ext
theorem hostScale_at (mods : FVec Ideal S16x6x1024 .f32) (b : Fin 8) (k : Fin 1024) :
    hostScale mods (ix3 b 0 k) = mods (ix3 ⟨2 * b.val + 1, by omega⟩ 1 k) := by
  pointwise [hostScale]
  blk_ext

/-- The reference's product with the whole matrix. -/
def hostProj (h : FVec Ideal S8x4096x1024 .f32) (mods : FVec Ideal S16x6x1024 .f32) (w : FVec Ideal S1024 .f32)
    (wi : FVec Ideal S1024x10832 .f32) : FVec Ideal S8x4096x10832 .f32 :=
  Host.dotGeneral dot_S8x4096x1024_S1024x10832_S8x4096x10832_2_0_01_1_n_n none (hostMod h w (hostShift mods) (hostScale mods)) wi

theorem hostProj_at (h : FVec Ideal S8x4096x1024 .f32) (mods : FVec Ideal S16x6x1024 .f32) (w : FVec Ideal S1024 .f32)
    (wi : FVec Ideal S1024x10832 .f32) (b : Fin 8) (t : Fin 4096) (k : Fin 10832) :
    hostProj h mods w wi (ix3 b t k) = ∑ j, tokenRow h mods w b t j * wi (ix2 j k) := by
  have e : ∀ j, tokenRow h mods w b t j = hostMod h w (hostShift mods) (hostScale mods) (ix3 b t j) := fun j => by
    rw [hostMod_at]
    simp only [hostShift_at, hostScale_at]
    rfl
  simp only [e]
  unfold hostProj
  generalize hostMod h w (hostShift mods) (hostScale mods) = a
  pointwise

variable (b : Fin 8) (t : Fin 4096)

/-- A mixer's columns of the product, and zeros after them. -/
theorem cut_at (n o : ℕ) (hn : n + o ≤ 10832) (h : FVec Ideal S8x4096x1024 .f32) (mods : FVec Ideal S16x6x1024 .f32) (w : FVec Ideal S1024 .f32)
    (wi : FVec Ideal S1024x10832 .f32) {width : ℕ} (k : Fin width) :
    (if hk : k.val < n then hostProj h mods w wi (ix3 b t ⟨o + k.val, by omega⟩) else 0) = result n o hn h mods w wi b t k := by
  unfold result column
  split
  · exact hostProj_at _ _ _ _ _ _ _
  · rfl

theorem padded0_at (p : FVec Ideal S8x4096x10832 .f32) (k : Fin 1664) :
    (pad S8x4096x1664 ![0, 0, 0] ![0, 0, 112] ![0, 0, 0] (extractStridedSlice S8x4096x1552 ![0, 0, 0] p slices_S8x4096x10832_S8x4096x1552_0_0_0) (sitofp .f32 (constantI S_ 32 0#32)) pads_S8x4096x1552_S8x4096x1664_000_000_01120 h_S_ : FVec Ideal S8x4096x1664 .f32) (ix3 b t k)
      = if h : k.val < 1552 then p (ix3 b t ⟨0 + k.val, by omega⟩) else 0 := by
  pointwise
  rw [fill_zero]

theorem padded1_at (p : FVec Ideal S8x4096x10832 .f32) (k : Fin 1664) :
    (pad S8x4096x1664 ![0, 0, 0] ![0, 0, 112] ![0, 0, 0] (extractStridedSlice S8x4096x1552 ![0, 0, 1552] p slices_S8x4096x10832_S8x4096x1552_0_0_1552) (sitofp .f32 (constantI S_ 32 0#32)) pads_S8x4096x1552_S8x4096x1664_000_000_01120 h_S_ : FVec Ideal S8x4096x1664 .f32) (ix3 b t k)
      = if h : k.val < 1552 then p (ix3 b t ⟨1552 + k.val, by omega⟩) else 0 := by
  pointwise
  rw [fill_zero]

theorem padded2_at (p : FVec Ideal S8x4096x10832 .f32) (k : Fin 2176) :
    (pad S8x4096x2176 ![0, 0, 0] ![0, 0, 112] ![0, 0, 0] (extractStridedSlice S8x4096x2064 ![0, 0, 3104] p slices_S8x4096x10832_S8x4096x2064_0_0_3104) (sitofp .f32 (constantI S_ 32 0#32)) pads_S8x4096x2064_S8x4096x2176_000_000_01120 h_S_ : FVec Ideal S8x4096x2176 .f32) (ix3 b t k)
      = if h : k.val < 2064 then p (ix3 b t ⟨3104 + k.val, by omega⟩) else 0 := by
  pointwise
  rw [fill_zero]

theorem padded3_at (p : FVec Ideal S8x4096x10832 .f32) (k : Fin 1664) :
    (pad S8x4096x1664 ![0, 0, 0] ![0, 0, 96] ![0, 0, 0] (extractStridedSlice S8x4096x1568 ![0, 0, 5168] p slices_S8x4096x10832_S8x4096x1568_0_0_5168) (sitofp .f32 (constantI S_ 32 0#32)) pads_S8x4096x1568_S8x4096x1664_000_000_0960 h_S_ : FVec Ideal S8x4096x1664 .f32) (ix3 b t k)
      = if h : k.val < 1568 then p (ix3 b t ⟨5168 + k.val, by omega⟩) else 0 := by
  pointwise
  rw [fill_zero]

end Reference

/-- The kernel and the reference leave the same arrays. -/
theorem algebraic : Cert.algebraic_Kernel4Ideal_Reference4Ideal := by
  intro m g m' g' _ hm
  refine ⟨fun c => (Kernel4Ideal.Gen.dats m 0 c).arrAt 7 Kernel4Ideal.cfg0.N, fun c => (Kernel4Ideal.Gen.dats m 0 c).arrAt 8 Kernel4Ideal.cfg0.N,
    fun c => (Kernel4Ideal.Gen.dats m 0 c).arrAt 9 Kernel4Ideal.cfg0.N, fun c => (Kernel4Ideal.Gen.dats m 0 c).arrAt 10 Kernel4Ideal.cfg0.N,
    Kernel4Ideal.Value.run_blocks m g,
    (θ_run _ _ _).mono (fun r h c => ⟨(h c).1.trans ?_, (h c).2.1.trans ?_, (h c).2.2.1.trans ?_, (h c).2.2.2.1.trans ?_, (h c).2.2.2.2⟩)
      (Reference4Ideal.Value.run m' g')⟩
  · obtain ⟨h0, h1, h2, h3⟩ := hm c
    refine Eq.trans ?_ (array7_eq m c).symm
    funext y
    refine (congrArg _ (eq_ix3 y)).trans ((padded0_at (y 0) (y 1) (hostProj _ _ _ _) (y 2)).trans ?_)
    rw [h0, h1, h2, h3]
    exact cut_at (y 0) (y 1) _ _ (by decide) _ _ _ _ (y 2)
  · obtain ⟨h0, h1, h2, h3⟩ := hm c
    refine Eq.trans ?_ (array8_eq m c).symm
    funext y
    refine (congrArg _ (eq_ix3 y)).trans ((padded1_at (y 0) (y 1) (hostProj _ _ _ _) (y 2)).trans ?_)
    rw [h0, h1, h2, h3]
    exact cut_at (y 0) (y 1) _ _ (by decide) _ _ _ _ (y 2)
  · obtain ⟨h0, h1, h2, h3⟩ := hm c
    refine Eq.trans ?_ (array9_eq m c).symm
    funext y
    refine (congrArg _ (eq_ix3 y)).trans ((padded2_at (y 0) (y 1) (hostProj _ _ _ _) (y 2)).trans ?_)
    rw [h0, h1, h2, h3]
    exact cut_at (y 0) (y 1) _ _ (by decide) _ _ _ _ (y 2)
  · obtain ⟨h0, h1, h2, h3⟩ := hm c
    refine Eq.trans ?_ (array10_eq m c).symm
    funext y
    refine (congrArg _ (eq_ix3 y)).trans ((padded3_at (y 0) (y 1) (hostProj _ _ _ _) (y 2)).trans ?_)
    rw [h0, h1, h2, h3]
    exact cut_at (y 0) (y 1) _ _ (by decide) _ _ _ _ (y 2)

end Cert.Inproj

end
-- ==== Proof.MergeFrame.lean ====
/-
  The merge's frame: one run of the body on whole staging buffers, and from it the run of the call at every point.
-/
module

public import proofs.«01_k».proof.Proof.Gen.Kernel3Ideal.Frame.Runs
public import Idealize.ShloMosaic.Lib.Claim

@[expose] public section

set_option maxRecDepth 16384

noncomputable section

namespace Cert.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- What the body stores in the output's block, with the proof that the body, run on whole buffers that hold the inputs, ends with
    the inputs as they were and the output's buffer so written. -/
noncomputable def bodyRun (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x4096 .bf16) (harg21 : arg21.IsWhole) (arg22 : Memref sig .tc .vmem S4x512x1024 .bf16) (harg22 : arg22.IsWhole) (arg23 : Memref sig .tc .vmem S1024x1024 .bf16) (harg23 : arg23.IsWhole) (arg24 : Memref sig .tc .vmem S1x512x1024 .f32) (harg24 : arg24.IsWhole)
    (x0 : Vec F S1x512x1024 .f32) (x1 : Vec F S1x6x1024 .f32) (x2 : Vec F S1x1024 .f32) (x3 : Vec F S1x512x512 .f32) (x4 : Vec F S1x512x512 .f32) (x5 : Vec F S1x512x512 .f32) (x6 : Vec F S1x512x512 .f32) (x7 : Vec F S1x512x512 .f32) (x8 : Vec F S1x512x512 .f32) (x9 : Vec F S1x512x512 .f32) (x10 : Vec F S1x512x512 .f32) (x11 : Vec F S1x512x512 .f32) (x12 : Vec F S1x512x512 .f32) (x13 : Vec F S1x512x512 .f32) (x14 : Vec F S1x512x512 .f32) (x15 : Vec F S1x512 .f32) (x16 : Vec F S1x512 .f32) (x17 : Vec F S1x512 .f32) (x18 : Vec F S1x512 .f32) (x19 : Vec F S1024x4096 .bf16) (x20 : Vec F S4x512x1024 .bf16) (x21 : Vec F S1024x1024 .bf16) :
    { L22 : List (View.Piece (Elt F) S1x512x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ f, arg24.view.loc (c : Thread nD τ) ↦[arg24.view.set]{fullShare} arg24.view.writes (Elt F) f L22)) -∗ K ⟨⟩))
          ⊢ wp frame (wpE (defs₀ (F := F)) Variants.none c none) E (cc0_merge_out i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    simp only [cc0_merge_out_eq_skeleton]; unfold cc0_merge_out_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    iexists _; iexact H22

variable (m : (ℓ : Loc nD τ sig) → Buf (Elt F) ℓ) (ρ : Dev nD → PrngReg)

/-- The body's one store covers the output's block. -/
theorem bodyRun_covers (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x4096 .bf16) (harg21 : arg21.IsWhole) (arg22 : Memref sig .tc .vmem S4x512x1024 .bf16) (harg22 : arg22.IsWhole) (arg23 : Memref sig .tc .vmem S1024x1024 .bf16) (harg23 : arg23.IsWhole) (arg24 : Memref sig .tc .vmem S1x512x1024 .f32) (harg24 : arg24.IsWhole)
    (x0 : Vec F S1x512x1024 .f32) (x1 : Vec F S1x6x1024 .f32) (x2 : Vec F S1x1024 .f32) (x3 : Vec F S1x512x512 .f32) (x4 : Vec F S1x512x512 .f32) (x5 : Vec F S1x512x512 .f32) (x6 : Vec F S1x512x512 .f32) (x7 : Vec F S1x512x512 .f32) (x8 : Vec F S1x512x512 .f32) (x9 : Vec F S1x512x512 .f32) (x10 : Vec F S1x512x512 .f32) (x11 : Vec F S1x512x512 .f32) (x12 : Vec F S1x512x512 .f32) (x13 : Vec F S1x512x512 .f32) (x14 : Vec F S1x512x512 .f32) (x15 : Vec F S1x512 .f32) (x16 : Vec F S1x512 .f32) (x17 : Vec F S1x512 .f32) (x18 : Vec F S1x512 .f32) (x19 : Vec F S1024x4096 .bf16) (x20 : Vec F S4x512x1024 .bf16) (x21 : Vec F S1024x1024 .bf16) (y : S1x512x1024.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).1 S1x512x1024.size (by sl_kernel_rfl) y

/-- What the run leaves in output 22's staging buffer: its pieces read back over junk. -/
def stored (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x4096 .bf16) (harg21 : arg21.IsWhole) (arg22 : Memref sig .tc .vmem S4x512x1024 .bf16) (harg22 : arg22.IsWhole) (arg23 : Memref sig .tc .vmem S1024x1024 .bf16) (harg23 : arg23.IsWhole) (arg24 : Memref sig .tc .vmem S1x512x1024 .f32) (harg24 : arg24.IsWhole)
    (x0 : Vec F S1x512x1024 .f32) (x1 : Vec F S1x6x1024 .f32) (x2 : Vec F S1x1024 .f32) (x3 : Vec F S1x512x512 .f32) (x4 : Vec F S1x512x512 .f32) (x5 : Vec F S1x512x512 .f32) (x6 : Vec F S1x512x512 .f32) (x7 : Vec F S1x512x512 .f32) (x8 : Vec F S1x512x512 .f32) (x9 : Vec F S1x512x512 .f32) (x10 : Vec F S1x512x512 .f32) (x11 : Vec F S1x512x512 .f32) (x12 : Vec F S1x512x512 .f32) (x13 : Vec F S1x512x512 .f32) (x14 : Vec F S1x512x512 .f32) (x15 : Vec F S1x512 .f32) (x16 : Vec F S1x512 .f32) (x17 : Vec F S1x512 .f32) (x18 : Vec F S1x512 .f32) (x19 : Vec F S1024x4096 .bf16) (x20 : Vec F S4x512x1024 .bf16) (x21 : Vec F S1024x1024 .bf16) : Vec F S1x512x1024 .f32 :=
  VO0_22.read (Elt F) (VO0_22.writes (Elt F) VO0_22.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21).1)

/-! ## What the outputs hold after each point -/

/-- What the outputs' staging buffers hold after the body at point `t`: the run's contents at
    the point's memrefs and input blocks. -/
def storedAt (c : Dev nD) (t : Fin cfg0.N) : Vec F S1x512x1024 .f32 :=
  stored c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (X0_13 m c t) (X0_14 m c t) (iblk m c 15 t) (iblk m c 16 t) (iblk m c 17 t) (iblk m c 18 t) (iblk m c 19 t) (iblk m c 20 t) (iblk m c 21 t)

/-! ## The pipeline's proof data -/

/-- The proof data of the one pipeline on core `c`: the arrays as the region finds them (`V`); after the body at
    point `t` each input's buffer at its block and the outputs' at `storedAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => X0_11 m c t
    | ⟨12, _⟩ => X0_12 m c t
    | ⟨13, _⟩ => X0_13 m c t
    | ⟨14, _⟩ => X0_14 m c t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (storedAt m c t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = X0_11 m c t := by dsimp only [dats]
theorem after0_12 (c : Dev nD) (t : Fin cfg0.N) : (dats m 0 c).after 12 t = X0_12 m c t := by dsimp only [dats]
theorem after0_13 (c : Dev nD) (t : Fin cfg0.N) : (dats m 0 c).after 13 t = X0_13 m c t := by dsimp only [dats]
theorem after0_14 (c : Dev nD) (t : Fin cfg0.N) : (dats m 0 c).after 14 t = X0_14 m c t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (storedAt m c t) := by dsimp only [dats]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c), before0_2_of m (dats m 0 c) (A_eq m c 2) (after0_2 m c), before0_3_of m (dats m 0 c) (A_eq m c 3) (after0_3 m c), before0_4_of m (dats m 0 c) (A_eq m c 4) (after0_4 m c), before0_5_of m (dats m 0 c) (A_eq m c 5) (after0_5 m c), before0_6_of m (dats m 0 c) (A_eq m c 6) (after0_6 m c), before0_7_of m (dats m 0 c) (A_eq m c 7) (after0_7 m c), before0_8_of m (dats m 0 c) (A_eq m c 8) (after0_8 m c), before0_9_of m (dats m 0 c) (A_eq m c 9) (after0_9 m c), before0_10_of m (dats m 0 c) (A_eq m c 10) (after0_10 m c), before0_11_of m (dats m 0 c) (A_eq m c 11) (after0_11 m c), before0_12_of m (dats m 0 c) (A_eq m c 12) (after0_12 m c), before0_13_of m (dats m 0 c) (A_eq m c 13) (after0_13 m c), before0_14_of m (dats m 0 c) (A_eq m c 14) (after0_14 m c), before0_15_of m (dats m 0 c) (A_eq m c 15) (after0_15 m c), before0_16_of m (dats m 0 c) (A_eq m c 16) (after0_16 m c), before0_17_of m (dats m 0 c) (A_eq m c 17) (after0_17 m c), before0_18_of m (dats m 0 c) (A_eq m c 18) (after0_18 m c), before0_19_of m (dats m 0 c) (A_eq m c 19) (after0_19 m c), before0_20_of m (dats m 0 c) (A_eq m c 20) (after0_20 m c), before0_21_of m (dats m 0 c) (A_eq m c 21) (after0_21 m c)]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold storedAt
  unfold stored
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((bodyRun c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (X0_13 m c t) (X0_14 m c t) (iblk m c 15 t) (iblk m c 16 t) (iblk m c 17 t) (iblk m c 18 t) (iblk m c 19 t) (iblk m c 20 t) (iblk m c 21 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  iintro ⟨H0, H1, H2, H3, H4, H5, H6, H7, H8, H9, H10, H11, H12, H13, H14, H15, H16, H17, H18, H19, H20, H21, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro; exact View.read_writes_of_cover _ _ _ _ _ (bodyRun_covers c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.Merge

end
-- ==== Proof.MergeBits.lean ====
/-
  The merge's frame at the words: the two programs have the same text, so their body tables are the same.
-/
module

public import proofs.«01_k».proof.Defs
public import proofs.«01_k».proof.Proof.MergeFrame
public import proofs.«01_k».proof.Proof.Gen.Kernel3.Launch

@[expose] public section
set_option maxRecDepth 16384
noncomputable section
namespace Cert.Merge
open Idealize.ShloMosaic Idealize.SL.Sem

set_option maxHeartbeats 4000000 in
/-- The body tables of the two programs are the same. -/
theorem bodies_eq : Kernel3.defs₀ (F := Bits) = Kernel3Ideal.defs₀ (F := Bits) := by
  refine congrArg Defs.onTc ?_
  funext l
  match l with
  | ⟨0, _⟩ => rfl

set_option maxHeartbeats 4000000 in
theorem defs_eq : Kernel3.defs (F := Bits) = Kernel3Ideal.defs (F := Bits) :=
  congrArg (fun d => Pipeline.defs Kernel3Ideal.pcfgs d) bodies_eq

set_option maxHeartbeats 4000000 in
theorem frame_bits : Cert.quiescent_Kernel3 (hKernel3 := Cert.Kernel3.Gen.facts) := fun m ρ _ =>
  have h := Cert.Merge.frame (F := Bits) m ρ
  by rw [← defs_eq] at h; exact h

end Cert.Merge

end
-- ==== Proof.Merge.lean ====
/-
  The merge of the mixers: every mixer's two directions summed, normalised by groups of channels, gated, multiplied with the mixer's
  branch matrix, and the four of them, each under its own logistic gate, summed, multiplied with the output matrix and added to the
  layer's input.
-/
module

public import proofs.«01_k».proof.Proof.Inproj
public import proofs.«01_k».proof.Proof.MergeFrame
public import proofs.«01_k».proof.Proof.Gen.Reference3Ideal.Run

@[expose] public section

set_option maxRecDepth 16384

noncomputable section

namespace Cert.Merge

open Idealize.ShloMosaic Cert.Ffn Cert.Inproj

/-- The logistic function. -/
def logis (a : EReal) : EReal :=
  Ideal.div 1 (1 + Ideal.exp (-a))

/-- A row of 512 channels, each over the root of the mean square of its half of the channels. -/
def halfNorm (x : Fin 512 → EReal) (k : Fin 512) : EReal :=
  x k * Ideal.rsqrt (Ideal.div (∑ j : Fin 256, x ⟨256 * (k.val / 256) + j.val, by omega⟩ * x ⟨256 * (k.val / 256) + j.val, by omega⟩)
    (Ideal.ofBits .f32 0x43800000#32) + Ideal.ofBits .f32 0x358637BD#32)

/-- A row of 512 channels, each over the root of the mean square of its quarter of the channels. -/
def quarterNorm (x : Fin 512 → EReal) (k : Fin 512) : EReal :=
  x k * Ideal.rsqrt (Ideal.div (∑ j : Fin 128, x ⟨128 * (k.val / 128) + j.val, by omega⟩ * x ⟨128 * (k.val / 128) + j.val, by omega⟩)
    (Ideal.ofBits .f32 0x43000000#32) + Ideal.ofBits .f32 0x358637BD#32)

theorem halfNorm_of (x : Fin 512 → EReal) (k k' : Fin 512) (q : ℕ) (hq : k.val / 256 = q) (e : Fin 256 → Fin 512)
    (he : ∀ j, (e j).val = 256 * q + j.val) (hk : k'.val = k.val) :
    x k' * Ideal.rsqrt (Ideal.div (∑ j : Fin 256, x (e j) * x (e j)) (Ideal.ofBits .f32 0x43800000#32) + Ideal.ofBits .f32 0x358637BD#32)
      = halfNorm x k := by
  obtain rfl : k' = k := Fin.ext hk
  subst hq
  have h : ∀ j, e j = ⟨256 * (k'.val / 256) + j.val, by omega⟩ := fun j => Fin.ext (he j)
  simp only [h]
  rfl

theorem quarterNorm_of (x : Fin 512 → EReal) (k k' : Fin 512) (q : ℕ) (hq : k.val / 128 = q) (e : Fin 128 → Fin 512)
    (he : ∀ j, (e j).val = 128 * q + j.val) (hk : k'.val = k.val) :
    x k' * Ideal.rsqrt (Ideal.div (∑ j : Fin 128, x (e j) * x (e j)) (Ideal.ofBits .f32 0x43000000#32) + Ideal.ofBits .f32 0x358637BD#32)
      = quarterNorm x k := by
  obtain rfl : k' = k := Fin.ext hk
  subst hq
  have h : ∀ j, e j = ⟨128 * (k'.val / 128) + j.val, by omega⟩ := fun j => Fin.ext (he j)
  simp only [h]
  rfl

/-- The sum of a mixer's two directions, normalised by quarters, with gain `w`. -/
def headRow (f b w : Fin 512 → EReal) (k : Fin 512) : EReal :=
  quarterNorm (fun k => f k + b k) k * w k

/-- The first mixer's row: gated before the norm, by halves. -/
def ssdRow (f b z w : Fin 512 → EReal) (k : Fin 512) : EReal :=
  halfNorm (fun k => (f k + b k) * silu (z k)) k * w k

/-- A mixer's part of the sum: its row times its branch matrix, under its logistic gate. -/
def branch (row wg : Fin 1024 → EReal) (y wb : Fin 512 → EReal) : EReal :=
  logis (∑ j, row j * wg j) * ∑ j, y j * wb j

theorem branch_congr {row row' wg wg' : Fin 1024 → EReal} {y y' wb wb' : Fin 512 → EReal} (h1 : ∀ i, row i = row' i)
    (h2 : ∀ i, wg i = wg' i) (h3 : ∀ i, y i = y' i) (h4 : ∀ i, wb i = wb' i) : branch row wg y wb = branch row' wg' y' wb' := by
  rw [funext h1, funext h2, funext h3, funext h4]

/-- The four mixers' rows at sequence `s`, token `t`, of their outputs, of the array the gate is columns of, and of the norm's gain. -/
def row0 (f b : (⟨3, ![8, 4096, 512]⟩ : Shape).Idx → EReal) (p : (⟨3, ![8, 4096, 1664]⟩ : Shape).Idx → EReal)
    (w : (⟨1, ![512]⟩ : Shape).Idx → EReal) (s : Fin 8) (t : Fin 4096) (k : Fin 512) : EReal :=
  ssdRow (fun k => f (ix3 s t k)) (fun k => b (ix3 s t k)) (fun k => p (ix3 s t ⟨k.val, by omega⟩)) (fun k => w (ix1 k)) k
@[inherit_doc row0] def row1 (f b : (⟨3, ![8, 4096, 512]⟩ : Shape).Idx → EReal) (p : (⟨3, ![8, 4096, 1664]⟩ : Shape).Idx → EReal)
    (w : (⟨1, ![512]⟩ : Shape).Idx → EReal) (s : Fin 8) (t : Fin 4096) (k : Fin 512) : EReal :=
  headRow (fun k => f (ix3 s t k)) (fun k => b (ix3 s t k)) (fun k => w (ix1 k)) k * logis (p (ix3 s t ⟨1024 + k.val, by omega⟩))
@[inherit_doc row0] def row2 (f b : (⟨3, ![8, 4096, 512]⟩ : Shape).Idx → EReal) (p : (⟨3, ![8, 4096, 2176]⟩ : Shape).Idx → EReal)
    (w : (⟨1, ![512]⟩ : Shape).Idx → EReal) (s : Fin 8) (t : Fin 4096) (k : Fin 512) : EReal :=
  headRow (fun k => f (ix3 s t k)) (fun k => b (ix3 s t k)) (fun k => w (ix1 k)) k * silu (p (ix3 s t ⟨1536 + k.val, by omega⟩))
@[inherit_doc row0] def row3 (f b : (⟨3, ![8, 4096, 512]⟩ : Shape).Idx → EReal) (p : (⟨3, ![8, 4096, 1664]⟩ : Shape).Idx → EReal)
    (w : (⟨1, ![512]⟩ : Shape).Idx → EReal) (s : Fin 8) (t : Fin 4096) (k : Fin 512) : EReal :=
  headRow (fun k => f (ix3 s t k)) (fun k => b (ix3 s t k)) (fun k => w (ix1 k)) k * silu (p (ix3 s t ⟨1024 + k.val, by omega⟩))

/-- The result at sequence `b`, token `t`, channel `k`, of the argument arrays: the input, the modulations, the norm's gain, the four
    mixers' outputs in two directions, the arrays their gates are columns of, the gains of their norms, and the three matrices. -/
def result (h : (⟨3, ![8, 4096, 1024]⟩ : Shape).Idx → EReal) (mods : (⟨3, ![16, 6, 1024]⟩ : Shape).Idx → EReal)
    (w : (⟨1, ![1024]⟩ : Shape).Idx → EReal) (f0 b0 f1 b1 f2 b2 f3 b3 : (⟨3, ![8, 4096, 512]⟩ : Shape).Idx → EReal)
    (p0 p1 : (⟨3, ![8, 4096, 1664]⟩ : Shape).Idx → EReal) (p2 : (⟨3, ![8, 4096, 2176]⟩ : Shape).Idx → EReal)
    (p3 : (⟨3, ![8, 4096, 1664]⟩ : Shape).Idx → EReal) (n0 n1 n2 n3 : (⟨1, ![512]⟩ : Shape).Idx → EReal)
    (wi : (⟨2, ![1024, 10832]⟩ : Shape).Idx → EReal) (wb : (⟨3, ![4, 512, 1024]⟩ : Shape).Idx → EReal)
    (wo : (⟨2, ![1024, 1024]⟩ : Shape).Idx → EReal) (b : Fin 8) (t : Fin 4096) (k : Fin 1024) : EReal :=
  h (ix3 b t k) + mods (ix3 ⟨2 * b.val + 1, by omega⟩ 2 k) * ∑ j : Fin 1024,
    (branch (tokenRow h mods w b t) (fun i => wi (ix2 i ⟨6736 + (0 + j.val), by omega⟩)) (row0 f0 b0 p0 n0 b t) (fun i => wb (ix3 0 i j))
      + branch (tokenRow h mods w b t) (fun i => wi (ix2 i ⟨6736 + (1024 + j.val), by omega⟩)) (row1 f1 b1 p1 n1 b t) (fun i => wb (ix3 1 i j))
      + branch (tokenRow h mods w b t) (fun i => wi (ix2 i ⟨6736 + (2048 + j.val), by omega⟩)) (row2 f2 b2 p2 n2 b t) (fun i => wb (ix3 2 i j))
      + branch (tokenRow h mods w b t) (fun i => wi (ix2 i ⟨6736 + (3072 + j.val), by omega⟩)) (row3 f3 b3 p3 n3 b t) (fun i => wb (ix3 3 i j)))
      * wo (ix2 j k)

section Kernel

open Cert.Kernel3Ideal Cert.Kernel3Ideal.Gen

theorem quarter_at (v : FVec Ideal S512x512 .f32) (r k : Fin 512) :
    k0_pay8 v (ix2 r k) = quarterNorm (fun k => v (ix2 r k)) k := by
  pointwise [k0_pay8]
  split
  · exact quarterNorm_of (fun k => v (ix2 r k)) k k 0 (by omega) (fun j => ⟨j.val, by omega⟩) (fun j => by simp) rfl
  split
  · exact quarterNorm_of (fun k => v (ix2 r k)) k ⟨128 + (k.val - 128), by omega⟩ 1 (by omega) (fun j => ⟨128 + j.val, by omega⟩)
      (fun j => rfl) (by simp only; omega)
  split
  · exact quarterNorm_of (fun k => v (ix2 r k)) k ⟨256 + (k.val - 128 - 128), by omega⟩ 2 (by omega) (fun j => ⟨256 + j.val, by omega⟩)
      (fun j => rfl) (by simp only; omega)
  · exact quarterNorm_of (fun k => v (ix2 r k)) k ⟨384 + (k.val - 128 - 128 - 128), by omega⟩ 3 (by omega)
      (fun j => ⟨384 + j.val, by omega⟩) (fun j => rfl) (by simp only; omega)

theorem ssd_at (f b z : Vec Ideal S1x512x512 .f32) (w : Vec Ideal S1x512 .f32) (r k : Fin 512) :
    k0_pay6 (k0_pay4 f b) (k0_pay5 z) w (ix2 r k)
      = ssdRow (fun k => f (ix3 0 r k)) (fun k => b (ix3 0 r k)) (fun k => z (ix3 0 r k)) (fun k => w (ix2 0 k)) k := by
  have hv : ∀ k, f (ix3 0 r k) + b (ix3 0 r k) = k0_pay4 f b (ix2 r k) := fun k => by pointwise [k0_pay4]
  have hz : ∀ k, z (ix3 0 r k) = k0_pay5 z (ix2 r k) := fun k => by pointwise [k0_pay5]
  simp only [ssdRow, hv, hz]
  generalize k0_pay4 f b = v
  generalize k0_pay5 z = z
  pointwise [k0_pay6]
  simp only [zero_sub]
  refine congrArg (· * _) ?_
  split
  · exact halfNorm_of (fun k => v (ix2 r k) * silu (z (ix2 r k))) k k 0 (by omega) (fun j => ⟨j.val, by omega⟩) (fun j => by simp) rfl
  · exact halfNorm_of (fun k => v (ix2 r k) * silu (z (ix2 r k))) k ⟨256 + (k.val - 256), by omega⟩ 1 (by omega)
      (fun j => ⟨256 + j.val, by omega⟩) (fun j => rfl) (by simp only; omega)

theorem mlstm_at (f b g : Vec Ideal S1x512x512 .f32) (w : Vec Ideal S1x512 .f32) (r k : Fin 512) :
    k0_pay10 (k0_pay8 (k0_pay7 f b)) (k0_pay9 w) g (ix2 r k)
      = headRow (fun k => f (ix3 0 r k)) (fun k => b (ix3 0 r k)) (fun k => w (ix2 0 k)) k * logis (g (ix3 0 r k)) := by
  have hv : ∀ k, f (ix3 0 r k) + b (ix3 0 r k) = k0_pay7 f b (ix2 r k) := fun k => by pointwise [k0_pay7]
  simp only [headRow, logis, hv, ← quarter_at]
  generalize k0_pay8 (k0_pay7 f b) = v
  pointwise [k0_pay10, k0_pay9]
  simp only [zero_sub]

theorem gla_at (f b g : Vec Ideal S1x512x512 .f32) (w : Vec Ideal S1x512 .f32) (r k : Fin 512) :
    k0_pay19 (k0_pay17 w) (k0_pay18 (k0_pay16 f b)) g (ix2 r k)
      = headRow (fun k => f (ix3 0 r k)) (fun k => b (ix3 0 r k)) (fun k => w (ix2 0 k)) k * silu (g (ix3 0 r k)) := by
  have hv : ∀ k, f (ix3 0 r k) + b (ix3 0 r k) = k0_pay7 f b (ix2 r k) := fun k => by pointwise [k0_pay7]
  rw [show k0_pay18 (k0_pay16 f b) = k0_pay8 (k0_pay7 f b) from rfl]
  simp only [headRow, silu, hv, ← quarter_at]
  generalize k0_pay8 (k0_pay7 f b) = v
  pointwise [k0_pay19, k0_pay17]
  simp only [zero_sub]

theorem gdn_at (f b g : Vec Ideal S1x512x512 .f32) (w : Vec Ideal S1x512 .f32) (r k : Fin 512) :
    k0_pay15 (k0_pay11 f b) (k0_pay12 w) (k0_pay13 f b) (k0_pay14 f b) g (ix2 r k)
      = headRow (fun k => f (ix3 0 r k)) (fun k => b (ix3 0 r k)) (fun k => w (ix2 0 k)) k * silu (g (ix3 0 r k)) :=
  gla_at f b g w r k

/-- The four parts' sum, times the output matrix, under the modulation's gate, added to the input row. -/
theorem stored_at (x : Vec Ideal S1x512x1024 .f32) (n : FVec Ideal S512x1024 .bf16) (y0 y1 y2 y3 : FVec Ideal S512x512 .f32)
    (g0 g1 g2 g3 : Vec Ideal S1024x1024 .bf16) (b0 b1 b2 b3 : Vec Ideal S1x512x1024 .bf16) (gt : Vec Ideal S1x1x1024 .f32)
    (wo : Vec Ideal S1024x1024 .bf16) (r : Fin 512) (k : Fin 1024) :
    k0_pay1 (k0_pay2 x) (k0_pay22 n y1 y2 (k0_pay20 n y0 g0 b0) (k0_pay21 n g1) b1 g2 b2) (k0_pay23 n g3) (k0_pay24 y3 b3) gt wo (ix3 0 r k)
      = x (ix3 0 r k) + gt (ix3 0 0 k) * ∑ j, (branch (fun j => n (ix2 r j)) (fun i => g0 (ix2 i j)) (fun i => y0 (ix2 r i)) (fun i => b0 (ix3 0 i j))
        + branch (fun j => n (ix2 r j)) (fun i => g1 (ix2 i j)) (fun i => y1 (ix2 r i)) (fun i => b1 (ix3 0 i j))
        + branch (fun j => n (ix2 r j)) (fun i => g2 (ix2 i j)) (fun i => y2 (ix2 r i)) (fun i => b2 (ix3 0 i j))
        + branch (fun j => n (ix2 r j)) (fun i => g3 (ix2 i j)) (fun i => y3 (ix2 r i)) (fun i => b3 (ix3 0 i j))) * wo (ix2 j k) := by
  have h1 : ∀ j, branch (fun j => n (ix2 r j)) (fun i => g0 (ix2 i j)) (fun i => y0 (ix2 r i)) (fun i => b0 (ix3 0 i j))
        + branch (fun j => n (ix2 r j)) (fun i => g1 (ix2 i j)) (fun i => y1 (ix2 r i)) (fun i => b1 (ix3 0 i j))
        + branch (fun j => n (ix2 r j)) (fun i => g2 (ix2 i j)) (fun i => y2 (ix2 r i)) (fun i => b2 (ix3 0 i j))
      = k0_pay22 n y1 y2 (k0_pay20 n y0 g0 b0) (k0_pay21 n g1) b1 g2 b2 (ix2 r j) := fun j => by
    pointwise [k0_pay22, k0_pay20, k0_pay21]
    simp only [zero_sub]
    rfl
  have h2 : ∀ j, branch (fun j => n (ix2 r j)) (fun i => g3 (ix2 i j)) (fun i => y3 (ix2 r i)) (fun i => b3 (ix3 0 i j))
      = k0_pay23 n g3 (ix2 r j) * k0_pay24 y3 b3 (ix2 r j) := fun j => by
    pointwise [k0_pay23, k0_pay24]
    simp only [zero_sub]
    rfl
  simp only [h1, h2]
  generalize k0_pay22 n y1 y2 (k0_pay20 n y0 g0 b0) (k0_pay21 n g1) b1 g2 b2 = u
  generalize k0_pay23 n g3 = g
  generalize k0_pay24 y3 b3 = y
  pointwise [k0_pay1, k0_pay2]

/-- The sequence of a point of the grid. -/
abbrev seqOf (t : Fin cfg0.grid.N) : Fin 8 := ⟨t.val / 8, by have := t.isLt; change t.val < 64 at this; omega⟩
/-- The token of a row of a point's block. -/
abbrev tokOf (t : Fin cfg0.grid.N) (r : Fin 512) : Fin 4096 := ⟨512 * (t.val % 8) + r.val, by omega⟩

/-- The block index of the windows that move, at every point, -/
theorem idx : ∀ t : Fin cfg0.grid.N, (win0_0.index t = ![t.val / 8, t.val % 8, 0] ∧ win0_1.index t = ![2 * (t.val / 8) + 1, 0, 0]
    ∧ win0_22.index t = ![t.val / 8, t.val % 8, 0])
    ∧ (win0_3.index t = ![t.val / 8, t.val % 8, 0] ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0])
    ∧ win0_11.index t = ![t.val / 8, t.val % 8, 0] ∧ win0_12.index t = ![t.val / 8, t.val % 8, 2] ∧ win0_13.index t = ![t.val / 8, t.val % 8, 3]
    ∧ win0_14.index t = ![t.val / 8, t.val % 8, 2] := by decide +kernel

/-- and of those that stay. -/
theorem idx' : ∀ t : Fin cfg0.grid.N, win0_2.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0, 0]
    ∧ win0_21.index t = ![0, 0] := by decide +kernel

section Reads

variable (m : (ℓ : Loc nD τ sig) → Buf (Elt Ideal) ℓ) (c : Dev nD) (t : Fin cfg0.grid.N)

theorem read_h (r : Fin 512) (k : Fin 1024) :
    (iblk m c 0 t : S1x512x1024.Idx → EReal) (ix3 0 r k) = (m ((c.tc : Thread nD τ).loc main_arg0) : S8x4096x1024.Idx → EReal) (ix3 (seqOf t) (tokOf t r) k) := by
  blk_ext [iblk, V, idx t]

set_option maxHeartbeats 1000000 in
/-- The mixers' outputs, two directions each. -/
theorem read_sides (r k : Fin 512) :
    (iblk m c 3 t : S1x512x512.Idx → EReal) (ix3 0 r k) = (m ((c.tc : Thread nD τ).loc main_arg3) : S8x4096x512.Idx → EReal) (ix3 (seqOf t) (tokOf t r) k)
      ∧ (iblk m c 4 t : S1x512x512.Idx → EReal) (ix3 0 r k) = (m ((c.tc : Thread nD τ).loc main_arg4) : S8x4096x512.Idx → EReal) (ix3 (seqOf t) (tokOf t r) k)
      ∧ (iblk m c 5 t : S1x512x512.Idx → EReal) (ix3 0 r k) = (m ((c.tc : Thread nD τ).loc main_arg5) : S8x4096x512.Idx → EReal) (ix3 (seqOf t) (tokOf t r) k)
      ∧ (iblk m c 6 t : S1x512x512.Idx → EReal) (ix3 0 r k) = (m ((c.tc : Thread nD τ).loc main_arg6) : S8x4096x512.Idx → EReal) (ix3 (seqOf t) (tokOf t r) k)
      ∧ (iblk m c 7 t : S1x512x512.Idx → EReal) (ix3 0 r k) = (m ((c.tc : Thread nD τ).loc main_arg7) : S8x4096x512.Idx → EReal) (ix3 (seqOf t) (tokOf t r) k)
      ∧ (iblk m c 8 t : S1x512x512.Idx → EReal) (ix3 0 r k) = (m ((c.tc : Thread nD τ).loc main_arg8) : S8x4096x512.Idx → EReal) (ix3 (seqOf t) (tokOf t r) k)
      ∧ (iblk m c 9 t : S1x512x512.Idx → EReal) (ix3 0 r k) = (m ((c.tc : Thread nD τ).loc main_arg9) : S8x4096x512.Idx → EReal) (ix3 (seqOf t) (tokOf t r) k)
      ∧ (iblk m c 10 t : S1x512x512.Idx → EReal) (ix3 0 r k) = (m ((c.tc : Thread nD τ).loc main_arg10) : S8x4096x512.Idx → EReal) (ix3 (seqOf t) (tokOf t r) k) := by
  refine ⟨?_, ?_, ?_, ?_, ?_, ?_, ?_, ?_⟩ <;> blk_ext [iblk, V, idx t]

theorem read_z (r k : Fin 512) :
    (X0_11 m c t : S1x512x512.Idx → EReal) (ix3 0 r k) = (m ((c.tc : Thread nD τ).loc main_arg11) : S8x4096x1664.Idx → EReal) (ix3 (seqOf t) (tokOf t r) ⟨k.val, by omega⟩) := by
  unfold X0_11 Pipeline.Window.fill
  rw [dif_pos (moved0_11 t _)]
  blk_ext [iblk, V, idx t]

theorem read_o (r k : Fin 512) :
    (X0_12 m c t : S1x512x512.Idx → EReal) (ix3 0 r k) = (m ((c.tc : Thread nD τ).loc main_arg12) : S8x4096x1664.Idx → EReal) (ix3 (seqOf t) (tokOf t r) ⟨1024 + k.val, by omega⟩) := by
  unfold X0_12 Pipeline.Window.fill
  rw [dif_pos (moved0_12 t _)]
  blk_ext [iblk, V, idx t]

theorem read_gd (r k : Fin 512) :
    (X0_13 m c t : S1x512x512.Idx → EReal) (ix3 0 r k) = (m ((c.tc : Thread nD τ).loc main_arg13) : S8x4096x2176.Idx → EReal) (ix3 (seqOf t) (tokOf t r) ⟨1536 + k.val, by omega⟩) := by
  unfold X0_13 Pipeline.Window.fill
  rw [dif_pos (moved0_13 t _)]
  blk_ext [iblk, V, idx t]

theorem read_gl (r k : Fin 512) :
    (X0_14 m c t : S1x512x512.Idx → EReal) (ix3 0 r k) = (m ((c.tc : Thread nD τ).loc main_arg14) : S8x4096x1664.Idx → EReal) (ix3 (seqOf t) (tokOf t r) ⟨1024 + k.val, by omega⟩) := by
  unfold X0_14 Pipeline.Window.fill
  rw [dif_pos (moved0_14 t _)]
  blk_ext [iblk, V, idx t]

set_option maxHeartbeats 1000000 in
theorem read_norms (k : Fin 512) :
    (iblk m c 15 t : S1x512.Idx → EReal) (ix2 0 k) = (m ((c.tc : Thread nD τ).loc main_arg15) : S512.Idx → EReal) (ix1 k)
      ∧ (iblk m c 16 t : S1x512.Idx → EReal) (ix2 0 k) = (m ((c.tc : Thread nD τ).loc main_arg16) : S512.Idx → EReal) (ix1 k)
      ∧ (iblk m c 17 t : S1x512.Idx → EReal) (ix2 0 k) = (m ((c.tc : Thread nD τ).loc main_arg17) : S512.Idx → EReal) (ix1 k)
      ∧ (iblk m c 18 t : S1x512.Idx → EReal) (ix2 0 k) = (m ((c.tc : Thread nD τ).loc main_arg18) : S512.Idx → EReal) (ix1 k) := by
  refine ⟨?_, ?_, ?_, ?_⟩ <;> blk_ext! [iblk, V, idx' t]

theorem read_norm (k : Fin 1024) : (iblk m c 2 t : S1x1024.Idx → EReal) (ix2 0 k) = (m ((c.tc : Thread nD τ).loc main_arg2) : S1024.Idx → EReal) (ix1 k) := by
  blk_ext! [iblk, V, idx' t]

theorem read_wg (j : Fin 1024) (k : Fin 4096) :
    (iblk m c 19 t : S1024x4096.Idx → EReal) (ix2 j k) = (m ((c.tc : Thread nD τ).loc main_arg19) : S1024x10832.Idx → EReal) (ix2 j ⟨6736 + k.val, by omega⟩) := by
  have e : (win0_19.blk t).view.emb (ix2 j k) = ix2 j k := by blk_ext [idx' t]
  change V m c main_v1 ((win0_19.blk t).view.emb (ix2 j k)) = _
  rw [e]
  simp only [V, hostOps0]
  after_results_simp
  pointwise

theorem read_wb (i : Fin 4) (j : Fin 512) (k : Fin 1024) :
    (iblk m c 20 t : S4x512x1024.Idx → EReal) (ix3 i j k) = (m ((c.tc : Thread nD τ).loc main_arg20) : S4x512x1024.Idx → EReal) (ix3 i j k) := by
  blk_ext! [iblk, V, idx' t]

theorem read_wo (j k : Fin 1024) :
    (iblk m c 21 t : S1024x1024.Idx → EReal) (ix2 j k) = (m ((c.tc : Thread nD τ).loc main_arg21) : S1024x1024.Idx → EReal) (ix2 j k) := by
  blk_ext! [iblk, V, idx' t]

theorem read_mods (i : Fin 6) (k : Fin 1024) :
    (iblk m c 1 t : S1x6x1024.Idx → EReal) (ix3 0 i k)
      = (m ((c.tc : Thread nD τ).loc main_arg1) : S16x6x1024.Idx → EReal) (ix3 ⟨2 * (seqOf t).val + 1, by omega⟩ i k) := by
  blk_ext [iblk, V, idx t]

/-- A row of a sequence's modulations. -/
theorem read_mod (i : Fin 6) (inb) (k : Fin 1024) :
    (View.ld (iblk m c 1 t) (Rect.unit ![0, i.val, 0] ![1, 1, 1024] inb) : S1x1x1024.Idx → EReal) (ix3 0 0 k)
      = (m ((c.tc : Thread nD τ).loc main_arg1) : S16x6x1024.Idx → EReal) (ix3 ⟨2 * (seqOf t).val + 1, by omega⟩ i k) := by
  refine Eq.trans ?_ (read_mods m c t i k)
  refine congrArg (iblk m c 1 t : S1x6x1024.Idx → EReal) (funext fun a => Fin.ext ?_)
  match a with
  | 0 => rfl
  | 1 => change i.val + 1 * 0 = i.val; omega
  | 2 => change 0 + 1 * k.val = k.val; omega

/-- A gate's columns of its matrix. -/
theorem read_cols (o : ℕ) (ho : o + 1024 ≤ 4096) (inb) (j k : Fin 1024) :
    (View.ld (iblk m c 19 t) (Rect.unit ![0, o] ![1024, 1024] inb) : S1024x1024.Idx → EReal) (ix2 j k)
      = (m ((c.tc : Thread nD τ).loc main_arg19) : S1024x10832.Idx → EReal) (ix2 j ⟨6736 + (o + k.val), by omega⟩) := by
  refine Eq.trans ?_ (read_wg m c t j ⟨o + k.val, by omega⟩)
  refine congrArg (iblk m c 19 t : S1024x4096.Idx → EReal) (funext fun a => Fin.ext ?_)
  match a with
  | 0 => change 0 + 1 * j.val = j.val; omega
  | 1 => change o + 1 * k.val = o + k.val; omega

/-- A branch's matrix. -/
theorem read_branch (i : Fin 4) (inb) (j : Fin 512) (k : Fin 1024) :
    (View.ld (iblk m c 20 t) (Rect.unit ![i.val, 0, 0] ![1, 512, 1024] inb) : S1x512x1024.Idx → EReal) (ix3 0 j k)
      = (m ((c.tc : Thread nD τ).loc main_arg20) : S4x512x1024.Idx → EReal) (ix3 i j k) := by
  refine Eq.trans ?_ (read_wb m c t i j k)
  refine congrArg (iblk m c 20 t : S4x512x1024.Idx → EReal) (funext fun a => Fin.ext ?_)
  match a with
  | 0 => change i.val + 1 * 0 = i.val; omega
  | 1 => change 0 + 1 * j.val = j.val; omega
  | 2 => change 0 + 1 * k.val = k.val; omega

/-- The modulated rows of a block. -/
theorem token_at (r : Fin 512) (j : Fin 1024) :
    k0_pay3 (iblk m c 0 t) (iblk m c 2 t) (View.ld (iblk m c 1 t) (Rect.unit ![0, 0, 0] ![1, 1, 1024] inb_S1x6x1024_S1x1x1024_0_0_0))
        (View.ld (iblk m c 1 t) (Rect.unit ![0, 1, 0] ![1, 1, 1024] inb_S1x6x1024_S1x1x1024_0_1_0)) (ix2 r j)
      = tokenRow (m ((c.tc : Thread nD τ).loc main_arg0)) (m ((c.tc : Thread nD τ).loc main_arg1)) (m ((c.tc : Thread nD τ).loc main_arg2)) (seqOf t) (tokOf t r) j := by
  have e0 : ∀ k, (View.ld (iblk m c 1 t) (Rect.unit ![0, 0, 0] ![1, 1, 1024] inb_S1x6x1024_S1x1x1024_0_0_0) : S1x1x1024.Idx → EReal) (ix3 0 0 k) = _ :=
    read_mod m c t 0 _
  have e1 : ∀ k, (View.ld (iblk m c 1 t) (Rect.unit ![0, 1, 0] ![1, 1, 1024] inb_S1x6x1024_S1x1x1024_0_1_0) : S1x1x1024.Idx → EReal) (ix3 0 0 k) = _ :=
    read_mod m c t 1 _
  refine (Ffn.norm_at _ _ _ _ r j).trans ?_
  simp only [read_h, read_norm, e0, e1]
  rfl

/-- The mixers' rows of a block. -/
theorem row0_at (r i : Fin 512) :
    k0_pay6 (k0_pay4 (iblk m c 3 t) (iblk m c 4 t)) (k0_pay5 (X0_11 m c t)) (iblk m c 15 t) (ix2 r i)
      = row0 (m ((c.tc : Thread nD τ).loc main_arg3)) (m ((c.tc : Thread nD τ).loc main_arg4)) (m ((c.tc : Thread nD τ).loc main_arg11)) (m ((c.tc : Thread nD τ).loc main_arg15)) (seqOf t) (tokOf t r) i := by
  refine (ssd_at _ _ _ _ r i).trans ?_
  simp only [read_sides m c t r, read_norms m c t, read_z]
  rfl

@[inherit_doc row0_at] theorem row1_at (r i : Fin 512) :
    k0_pay10 (k0_pay8 (k0_pay7 (iblk m c 5 t) (iblk m c 6 t))) (k0_pay9 (iblk m c 16 t)) (X0_12 m c t) (ix2 r i)
      = row1 (m ((c.tc : Thread nD τ).loc main_arg5)) (m ((c.tc : Thread nD τ).loc main_arg6)) (m ((c.tc : Thread nD τ).loc main_arg12)) (m ((c.tc : Thread nD τ).loc main_arg16)) (seqOf t) (tokOf t r) i := by
  refine (mlstm_at _ _ _ _ r i).trans ?_
  simp only [read_sides m c t r, read_norms m c t, read_o]
  rfl

@[inherit_doc row0_at] theorem row2_at (r i : Fin 512) :
    k0_pay15 (k0_pay11 (iblk m c 7 t) (iblk m c 8 t)) (k0_pay12 (iblk m c 17 t)) (k0_pay13 (iblk m c 7 t) (iblk m c 8 t))
        (k0_pay14 (iblk m c 7 t) (iblk m c 8 t)) (X0_13 m c t) (ix2 r i)
      = row2 (m ((c.tc : Thread nD τ).loc main_arg7)) (m ((c.tc : Thread nD τ).loc main_arg8)) (m ((c.tc : Thread nD τ).loc main_arg13)) (m ((c.tc : Thread nD τ).loc main_arg17)) (seqOf t) (tokOf t r) i := by
  refine (gdn_at _ _ _ _ r i).trans ?_
  simp only [read_sides m c t r, read_norms m c t, read_gd]
  rfl

@[inherit_doc row0_at] theorem row3_at (r i : Fin 512) :
    k0_pay19 (k0_pay17 (iblk m c 18 t)) (k0_pay18 (k0_pay16 (iblk m c 9 t) (iblk m c 10 t))) (X0_14 m c t) (ix2 r i)
      = row3 (m ((c.tc : Thread nD τ).loc main_arg9)) (m ((c.tc : Thread nD τ).loc main_arg10)) (m ((c.tc : Thread nD τ).loc main_arg14)) (m ((c.tc : Thread nD τ).loc main_arg18)) (seqOf t) (tokOf t r) i := by
  refine (gla_at _ _ _ _ r i).trans ?_
  simp only [read_sides m c t r, read_norms m c t, read_gl]
  rfl

end Reads

/-- The array the kernel leaves. -/
theorem array_eq (m : (ℓ : Loc nD τ sig) → Buf (Elt Ideal) ℓ) (c : Dev nD) :
    (dats m 0 c).arrAt 22 cfg0.N = fun y : S8x4096x1024.Idx =>
      result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (y 0) (y 1) (y 2) := by
  refine (dats m 0 c).arrAt_eq_of_covers 22 _ (by decide +kernel) fun t hf y => ?_
  blk_simp
  rw [after0_22]
  unfold storedAt
  unfold stored bodyRun
  frame_out
  obtain ⟨a, r, k, rfl⟩ : ∃ (a : Fin 1) (r : Fin 512) (k : Fin 1024), y = ix3 a r k := ⟨y 0, y 1, y 2, eq_ix3 y⟩
  obtain rfl : a = 0 := Subsingleton.elim _ _
  refine (stored_at _ _ _ _ _ _ _ _ _ _ _ _ _ _ _ _ r k).trans ?_
  rw [show ((View.whole main_v9).slice (win0_22.rect t)).emb (ix3 0 r k) = ix3 (seqOf t) (tokOf t r) k from by blk_ext [idx t]]
  refine congrArg₂ (· + ·) (read_h m c t r k) (congrArg₂ (· * ·) (read_mod m c t 2 _ k) (Finset.sum_congr rfl fun j _ =>
    congrArg₂ (· * ·) (congrArg₂ (· + ·) (congrArg₂ (· + ·) (congrArg₂ (· + ·) ?_ ?_) ?_) ?_) (read_wo m c t j k)))
  · exact branch_congr (token_at m c t r) (fun i => read_cols m c t 0 (by decide) _ i j) (row0_at m c t r) (fun i => read_branch m c t 0 _ i j)
  · exact branch_congr (token_at m c t r) (fun i => read_cols m c t 1024 (by decide) _ i j) (row1_at m c t r) (fun i => read_branch m c t 1 _ i j)
  · exact branch_congr (token_at m c t r) (fun i => read_cols m c t 2048 (by decide) _ i j) (row2_at m c t r) (fun i => read_branch m c t 2 _ i j)
  · exact branch_congr (token_at m c t r) (fun i => read_cols m c t 3072 (by decide) _ i j) (row3_at m c t r) (fun i => read_branch m c t 3 _ i j)

end Kernel

section Reference

open Cert.Reference3Ideal Cert.Reference3Ideal.Gen Cert.Reference3Ideal.Value

variable (b : Fin 8) (t : Fin 4096)

/-- The reference's norm by halves. -/
def hostHalf (x : FVec Ideal S8x4096x512 .f32) : FVec Ideal S8x4096x512 .f32 :=
  shapeCast _ (mulf (shapeCast _ x shapeCasts_S8x4096x512_S8x4096x2x256) (broadcastInDim S8x4096x2x256 ![0, 1, 2, 3] bcast_S8x4096x2x1_S8x4096x2x256_0_1_2_3 (Host.rsqrt (addf (Host.divf (broadcastInDim S8x4096x2x1 ![0, 1, 2] bcast_S8x4096x2_S8x4096x2x1_0_1_2 (Host.reduceAdd (mulf (shapeCast _ x shapeCasts_S8x4096x512_S8x4096x2x256) (shapeCast _ x shapeCasts_S8x4096x512_S8x4096x2x256)) (constant S_ .f32 0x00000000#32) reducesTo_S8x4096x2x256_S8x4096x2_d3 h_S_)) (broadcastInDim S8x4096x2x1 ![] bcast_S_S8x4096x2x1 (constant S_ .f32 0x43800000#32))) (broadcastInDim S8x4096x2x1 ![] bcast_S_S8x4096x2x1 (constant S_ .f32 0x358637BD#32)))))) shapeCasts_S8x4096x2x256_S8x4096x512

theorem hostHalf_at (x : FVec Ideal S8x4096x512 .f32) (k : Fin 512) :
    hostHalf x (ix3 b t k) = halfNorm (fun k => x (ix3 b t k)) k := by
  pointwise [hostHalf]
  exact halfNorm_of (fun k => x (ix3 b t k)) k k (k.val / 256) rfl (fun j => ⟨k.val / 256 * 256 + j.val, by omega⟩)
    (fun j => by simp only; omega) rfl

/-- The reference's norm by quarters. -/
def hostQuarter (x : FVec Ideal S8x4096x512 .f32) : FVec Ideal S8x4096x512 .f32 :=
  shapeCast _ (mulf (shapeCast _ x shapeCasts_S8x4096x512_S8x4096x4x128) (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf (shapeCast _ x shapeCasts_S8x4096x512_S8x4096x4x128) (shapeCast _ x shapeCasts_S8x4096x512_S8x4096x4x128)) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32)))))) shapeCasts_S8x4096x4x128_S8x4096x512

theorem hostQuarter_at (x : FVec Ideal S8x4096x512 .f32) (k : Fin 512) :
    hostQuarter x (ix3 b t k) = quarterNorm (fun k => x (ix3 b t k)) k := by
  pointwise [hostQuarter]
  exact quarterNorm_of (fun k => x (ix3 b t k)) k k (k.val / 128) rfl (fun j => ⟨k.val / 128 * 128 + j.val, by omega⟩)
    (fun j => by simp only; omega) rfl

/-- The reference's gain of a norm, over every token. -/
def hostGain (w : FVec Ideal S512 .f32) : FVec Ideal S8x4096x512 .f32 :=
  broadcastInDim S8x4096x512 ![0, 1, 2] bcast_S1x1x512_S8x4096x512_0_1_2 (broadcastInDim S1x1x512 ![2] bcast_S512_S1x1x512_2 w)

/-- The reference's logistic function of 512 channels. -/
def hostLogis (g : FVec Ideal S8x4096x512 .f32) : FVec Ideal S8x4096x512 .f32 :=
  Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf g)))

/-- The reference's four mixers' rows. -/
def hostRow0 (f b : FVec Ideal S8x4096x512 .f32) (p : FVec Ideal S8x4096x1664 .f32) (w : FVec Ideal S512 .f32) : FVec Ideal S8x4096x512 .f32 :=
  mulf (hostHalf (mulf (addf f b) (mulf (extractStridedSlice S8x4096x512 ![0, 0, 0] p slices_S8x4096x1664_S8x4096x512_0_0_0) (hostLogis (extractStridedSlice S8x4096x512 ![0, 0, 0] p slices_S8x4096x1664_S8x4096x512_0_0_0))))) (hostGain w)
@[inherit_doc hostRow0] def hostRow1 (f b : FVec Ideal S8x4096x512 .f32) (p : FVec Ideal S8x4096x1664 .f32) (w : FVec Ideal S512 .f32) : FVec Ideal S8x4096x512 .f32 :=
  mulf (mulf (hostQuarter (addf f b)) (hostGain w)) (hostLogis (extractStridedSlice S8x4096x512 ![0, 0, 1024] p slices_S8x4096x1664_S8x4096x512_0_0_1024))
@[inherit_doc hostRow0] def hostRow2 (f b : FVec Ideal S8x4096x512 .f32) (p : FVec Ideal S8x4096x2176 .f32) (w : FVec Ideal S512 .f32) : FVec Ideal S8x4096x512 .f32 :=
  mulf (mulf (hostQuarter (addf f b)) (hostGain w)) (mulf (extractStridedSlice S8x4096x512 ![0, 0, 1536] p slices_S8x4096x2176_S8x4096x512_0_0_1536) (hostLogis (extractStridedSlice S8x4096x512 ![0, 0, 1536] p slices_S8x4096x2176_S8x4096x512_0_0_1536)))
@[inherit_doc hostRow0] def hostRow3 (f b : FVec Ideal S8x4096x512 .f32) (p : FVec Ideal S8x4096x1664 .f32) (w : FVec Ideal S512 .f32) : FVec Ideal S8x4096x512 .f32 :=
  mulf (mulf (hostQuarter (addf f b)) (hostGain w)) (mulf (extractStridedSlice S8x4096x512 ![0, 0, 1024] p slices_S8x4096x1664_S8x4096x512_0_0_1024) (hostLogis (extractStridedSlice S8x4096x512 ![0, 0, 1024] p slices_S8x4096x1664_S8x4096x512_0_0_1024)))

theorem hostRow0_at (f g : FVec Ideal S8x4096x512 .f32) (p : FVec Ideal S8x4096x1664 .f32) (w : FVec Ideal S512 .f32) (k : Fin 512) :
    hostRow0 f g p w (ix3 b t k) = row0 f g p w b t k := by
  have h : ∀ x : FVec Ideal S8x4096x512 .f32, mulf (hostHalf x) (hostGain w) (ix3 b t k) = halfNorm (fun k => x (ix3 b t k)) k * w (ix1 k) :=
    fun x => by
      rw [← hostHalf_at]
      generalize hostHalf x = v
      pointwise [hostGain]
  refine (h _).trans (congrArg (fun x => halfNorm x k * w (ix1 k)) (funext fun k => ?_))
  unfold silu
  pointwise [hostLogis]

theorem hostRow1_at (f g : FVec Ideal S8x4096x512 .f32) (p : FVec Ideal S8x4096x1664 .f32) (w : FVec Ideal S512 .f32) (k : Fin 512) :
    hostRow1 f g p w (ix3 b t k) = row1 f g p w b t k := by
  have h : quarterNorm (fun k => f (ix3 b t k) + g (ix3 b t k)) k = hostQuarter (addf f g) (ix3 b t k) := (hostQuarter_at b t (addf f g) k).symm
  unfold row1 headRow hostRow1 logis
  rw [h]
  generalize hostQuarter (addf f g) = v
  pointwise [hostGain, hostLogis]

theorem hostRow2_at (f g : FVec Ideal S8x4096x512 .f32) (p : FVec Ideal S8x4096x2176 .f32) (w : FVec Ideal S512 .f32) (k : Fin 512) :
    hostRow2 f g p w (ix3 b t k) = row2 f g p w b t k := by
  have h : quarterNorm (fun k => f (ix3 b t k) + g (ix3 b t k)) k = hostQuarter (addf f g) (ix3 b t k) := (hostQuarter_at b t (addf f g) k).symm
  unfold row2 headRow hostRow2 silu
  rw [h]
  generalize hostQuarter (addf f g) = v
  pointwise [hostGain, hostLogis]

theorem hostRow3_at (f g : FVec Ideal S8x4096x512 .f32) (p : FVec Ideal S8x4096x1664 .f32) (w : FVec Ideal S512 .f32) (k : Fin 512) :
    hostRow3 f g p w (ix3 b t k) = row3 f g p w b t k := by
  have h : quarterNorm (fun k => f (ix3 b t k) + g (ix3 b t k)) k = hostQuarter (addf f g) (ix3 b t k) := (hostQuarter_at b t (addf f g) k).symm
  unfold row3 headRow hostRow3 silu
  rw [h]
  generalize hostQuarter (addf f g) = v
  pointwise [hostGain, hostLogis]

/-- The reference's four gates, before the logistic function. -/
def hostGates (h : FVec Ideal S8x4096x1024 .f32) (mods : FVec Ideal S16x6x1024 .f32) (w : FVec Ideal S1024 .f32)
    (wi : FVec Ideal S1024x10832 .f32) : FVec Ideal S8x4096x4096 .f32 :=
  Host.dotGeneral dot_S8x4096x1024_S1024x4096_S8x4096x4096_2_0_01_1_n_n none (hostMod h w (Inproj.hostShift mods) (Inproj.hostScale mods)) (extractStridedSlice S1024x4096 ![0, 6736] wi slices_S1024x10832_S1024x4096_0_6736)

theorem hostGates_at (h : FVec Ideal S8x4096x1024 .f32) (mods : FVec Ideal S16x6x1024 .f32) (w : FVec Ideal S1024 .f32)
    (wi : FVec Ideal S1024x10832 .f32) (k : Fin 4096) :
    hostGates h mods w wi (ix3 b t k) = ∑ j, tokenRow h mods w b t j * wi (ix2 j ⟨6736 + k.val, by omega⟩) := by
  have e : ∀ j, tokenRow h mods w b t j = hostMod h w (Inproj.hostShift mods) (Inproj.hostScale mods) (ix3 b t j) := fun j => by
    rw [hostMod_at]
    simp only [Inproj.hostShift_at, Inproj.hostScale_at]
    rfl
  simp only [e]
  unfold hostGates
  generalize hostMod h w (Inproj.hostShift mods) (Inproj.hostScale mods) = a
  pointwise

/-- The reference's part of a mixer: of its gate, its rows and its matrix. -/
def hostPart (g : FVec Ideal S8x4096x1024 .f32) (y : FVec Ideal S8x4096x512 .f32) (v : FVec Ideal S1x512x1024 .f32) : FVec Ideal S8x4096x1024 .f32 :=
  mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf g)))) (Host.dotGeneral dot_S8x4096x512_S512x1024_S8x4096x1024_2_0_01_1_n_n none y (shapeCast _ v shapeCasts_S1x512x1024_S512x1024))

theorem hostPart_at (g : FVec Ideal S8x4096x1024 .f32) (y : FVec Ideal S8x4096x512 .f32) (v : FVec Ideal S1x512x1024 .f32) (k : Fin 1024) :
    hostPart g y v (ix3 b t k) = logis (g (ix3 b t k)) * ∑ j, y (ix3 b t j) * v (ix3 0 j k) := by
  pointwise [hostPart]
  rfl

/-- The row of the modulations the merge is gated by, for each sequence. -/
def hostGate (mods : FVec Ideal S16x6x1024 .f32) : FVec Ideal S8x1x1024 .f32 :=
  shapeCast _ (extractStridedSlice S8x1x1x1024 ![0, 1, 2, 0] (shapeCast _ mods shapeCasts_S16x6x1024_S8x2x6x1024) slices_S8x2x6x1024_S8x1x1x1024_0_1_2_0) shapeCasts_S8x1x1x1024_S8x1x1024

theorem hostGate_at (mods : FVec Ideal S16x6x1024 .f32) (k : Fin 1024) :
    hostGate mods (ix3 b 0 k) = mods (ix3 ⟨2 * b.val + 1, by omega⟩ 2 k) := by
  pointwise [hostGate]
  blk_ext

/-- The reference's sum of the four parts. -/
def hostSum (h : FVec Ideal S8x4096x1024 .f32) (mods : FVec Ideal S16x6x1024 .f32) (w : FVec Ideal S1024 .f32)
    (f0 b0 f1 b1 f2 b2 f3 b3 : FVec Ideal S8x4096x512 .f32) (p0 p1 : FVec Ideal S8x4096x1664 .f32) (p2 : FVec Ideal S8x4096x2176 .f32)
    (p3 : FVec Ideal S8x4096x1664 .f32) (n0 n1 n2 n3 : FVec Ideal S512 .f32) (wi : FVec Ideal S1024x10832 .f32)
    (wb : FVec Ideal S4x512x1024 .f32) : FVec Ideal S8x4096x1024 .f32 :=
  addf (addf (addf (hostPart (extractStridedSlice S8x4096x1024 ![0, 0, 0] (hostGates h mods w wi) slices_S8x4096x4096_S8x4096x1024_0_0_0) (hostRow0 f0 b0 p0 n0) (extractStridedSlice S1x512x1024 ![0, 0, 0] wb slices_S4x512x1024_S1x512x1024_0_0_0)) (hostPart (extractStridedSlice S8x4096x1024 ![0, 0, 1024] (hostGates h mods w wi) slices_S8x4096x4096_S8x4096x1024_0_0_1024) (hostRow1 f1 b1 p1 n1) (extractStridedSlice S1x512x1024 ![1, 0, 0] wb slices_S4x512x1024_S1x512x1024_1_0_0))) (hostPart (extractStridedSlice S8x4096x1024 ![0, 0, 2048] (hostGates h mods w wi) slices_S8x4096x4096_S8x4096x1024_0_0_2048) (hostRow2 f2 b2 p2 n2) (extractStridedSlice S1x512x1024 ![2, 0, 0] wb slices_S4x512x1024_S1x512x1024_2_0_0))) (hostPart (extractStridedSlice S8x4096x1024 ![0, 0, 3072] (hostGates h mods w wi) slices_S8x4096x4096_S8x4096x1024_0_0_3072) (hostRow3 f3 b3 p3 n3) (extractStridedSlice S1x512x1024 ![3, 0, 0] wb slices_S4x512x1024_S1x512x1024_3_0_0))

/-- The reference's result. -/
def hostMerge (h : FVec Ideal S8x4096x1024 .f32) (mods : FVec Ideal S16x6x1024 .f32) (w : FVec Ideal S1024 .f32)
    (f0 b0 f1 b1 f2 b2 f3 b3 : FVec Ideal S8x4096x512 .f32) (p0 p1 : FVec Ideal S8x4096x1664 .f32) (p2 : FVec Ideal S8x4096x2176 .f32)
    (p3 : FVec Ideal S8x4096x1664 .f32) (n0 n1 n2 n3 : FVec Ideal S512 .f32) (wi : FVec Ideal S1024x10832 .f32)
    (wb : FVec Ideal S4x512x1024 .f32) (wo : FVec Ideal S1024x1024 .f32) : FVec Ideal S8x4096x1024 .f32 :=
  addf h (mulf (broadcastInDim S8x4096x1024 ![0, 1, 2] bcast_S8x1x1024_S8x4096x1024_0_1_2 (hostGate mods)) (Host.dotGeneral dot_S8x4096x1024_S1024x1024_S8x4096x1024_2_0_01_1_n_n none (hostSum h mods w f0 b0 f1 b1 f2 b2 f3 b3 p0 p1 p2 p3 n0 n1 n2 n3 wi wb) wo))

theorem branch_of {row wg : Fin 1024 → EReal} {y y' wb wb' : Fin 512 → EReal} {g : EReal} (h1 : g = ∑ i, row i * wg i)
    (h3 : ∀ i, y i = y' i) (h4 : ∀ i, wb i = wb' i) : logis g * ∑ i, y i * wb i = branch row wg y' wb' := by
  rw [funext h3, funext h4, h1]
  rfl

theorem hostMerge_at (h : FVec Ideal S8x4096x1024 .f32) (mods : FVec Ideal S16x6x1024 .f32) (w : FVec Ideal S1024 .f32)
    (f0 b0 f1 b1 f2 b2 f3 b3 : FVec Ideal S8x4096x512 .f32) (p0 p1 : FVec Ideal S8x4096x1664 .f32) (p2 : FVec Ideal S8x4096x2176 .f32)
    (p3 : FVec Ideal S8x4096x1664 .f32) (n0 n1 n2 n3 : FVec Ideal S512 .f32) (wi : FVec Ideal S1024x10832 .f32)
    (wb : FVec Ideal S4x512x1024 .f32) (wo : FVec Ideal S1024x1024 .f32) (k : Fin 1024) :
    hostMerge h mods w f0 b0 f1 b1 f2 b2 f3 b3 p0 p1 p2 p3 n0 n1 n2 n3 wi wb wo (ix3 b t k) = result h mods w f0 b0 f1 b1 f2 b2 f3 b3 p0 p1 p2 p3 n0 n1 n2 n3 wi wb wo b t k := by
  have e : hostMerge h mods w f0 b0 f1 b1 f2 b2 f3 b3 p0 p1 p2 p3 n0 n1 n2 n3 wi wb wo (ix3 b t k) = h (ix3 b t k) + hostGate mods (ix3 b 0 k) * ∑ j, hostSum h mods w f0 b0 f1 b1 f2 b2 f3 b3 p0 p1 p2 p3 n0 n1 n2 n3 wi wb (ix3 b t j) * wo (ix2 j k) := by
    unfold hostMerge
    generalize hostSum h mods w f0 b0 f1 b1 f2 b2 f3 b3 p0 p1 p2 p3 n0 n1 n2 n3 wi wb = u
    generalize hostGate mods = g
    pointwise
  refine e.trans (congrArg₂ (· + ·) rfl (congrArg₂ (· * ·) (hostGate_at b mods k) (Finset.sum_congr rfl fun j _ => congrArg₂ (· * ·) ?_ rfl)))
  refine congrArg₂ (· + ·) (congrArg₂ (· + ·) (congrArg₂ (· + ·) ?_ ?_) ?_) ?_
  · refine (hostPart_at _ _ _ _ _ _).trans (branch_of ?_ (hostRow0_at b t f0 b0 p0 n0) (fun i => ?_))
    · refine Eq.trans ?_ (hostGates_at b t h mods w wi ⟨0 + j.val, by omega⟩)
      generalize hostGates h mods w wi = a
      pointwise
    · pointwise
  · refine (hostPart_at _ _ _ _ _ _).trans (branch_of ?_ (hostRow1_at b t f1 b1 p1 n1) (fun i => ?_))
    · refine Eq.trans ?_ (hostGates_at b t h mods w wi ⟨1024 + j.val, by omega⟩)
      generalize hostGates h mods w wi = a
      pointwise
    · pointwise
  · refine (hostPart_at _ _ _ _ _ _).trans (branch_of ?_ (hostRow2_at b t f2 b2 p2 n2) (fun i => ?_))
    · refine Eq.trans ?_ (hostGates_at b t h mods w wi ⟨2048 + j.val, by omega⟩)
      generalize hostGates h mods w wi = a
      pointwise
    · pointwise
  · refine (hostPart_at _ _ _ _ _ _).trans (branch_of ?_ (hostRow3_at b t f3 b3 p3 n3) (fun i => ?_))
    · refine Eq.trans ?_ (hostGates_at b t h mods w wi ⟨3072 + j.val, by omega⟩)
      generalize hostGates h mods w wi = a
      pointwise
    · pointwise

end Reference

/-- The kernel and the reference leave the same array. -/
theorem algebraic : Cert.algebraic_Kernel3Ideal_Reference3Ideal := by
  intro m g m' g' _ hm
  refine ⟨fun c => (dats m 0 c).arrAt 22 Kernel3Ideal.cfg0.N,
    (θ_run _ _ _).mono (fun r h c => ⟨(h.1 c).1 22, h.2 c⟩) (θ_run_and (run_main m g) (unchanged m g)),
    (θ_run _ _ _).mono (fun r h c => ⟨(h c).1.trans ?_, (h c).2⟩) (Reference3Ideal.Value.run m' g')⟩
  obtain ⟨h0, h1, h2, h3, h4, h5, h6, h7, h8, h9, h10, h11, h12, h13, h14, h15, h16, h17, h18, h19, h20, h21⟩ := hm c
  have e : ∀ b t k, result (m' ((c.tc : Thread Reference3Ideal.nD Reference3Ideal.τ).loc Reference3Ideal.main_arg0)) (m' ((c.tc : Thread Reference3Ideal.nD Reference3Ideal.τ).loc Reference3Ideal.main_arg1)) (m' ((c.tc : Thread Reference3Ideal.nD Reference3Ideal.τ).loc Reference3Ideal.main_arg2)) (m' ((c.tc : Thread Reference3Ideal.nD Reference3Ideal.τ).loc Reference3Ideal.main_arg3)) (m' ((c.tc : Thread Reference3Ideal.nD Reference3Ideal.τ).loc Reference3Ideal.main_arg4)) (m' ((c.tc : Thread Reference3Ideal.nD Reference3Ideal.τ).loc Reference3Ideal.main_arg5)) (m' ((c.tc : Thread Reference3Ideal.nD Reference3Ideal.τ).loc Reference3Ideal.main_arg6)) (m' ((c.tc : Thread Reference3Ideal.nD Reference3Ideal.τ).loc Reference3Ideal.main_arg7)) (m' ((c.tc : Thread Reference3Ideal.nD Reference3Ideal.τ).loc Reference3Ideal.main_arg8)) (m' ((c.tc : Thread Reference3Ideal.nD Reference3Ideal.τ).loc Reference3Ideal.main_arg9)) (m' ((c.tc : Thread Reference3Ideal.nD Reference3Ideal.τ).loc Reference3Ideal.main_arg10)) (m' ((c.tc : Thread Reference3Ideal.nD Reference3Ideal.τ).loc Reference3Ideal.main_arg11)) (m' ((c.tc : Thread Reference3Ideal.nD Reference3Ideal.τ).loc Reference3Ideal.main_arg12)) (m' ((c.tc : Thread Reference3Ideal.nD Reference3Ideal.τ).loc Reference3Ideal.main_arg13)) (m' ((c.tc : Thread Reference3Ideal.nD Reference3Ideal.τ).loc Reference3Ideal.main_arg14)) (m' ((c.tc : Thread Reference3Ideal.nD Reference3Ideal.τ).loc Reference3Ideal.main_arg15)) (m' ((c.tc : Thread Reference3Ideal.nD Reference3Ideal.τ).loc Reference3Ideal.main_arg16)) (m' ((c.tc : Thread Reference3Ideal.nD Reference3Ideal.τ).loc Reference3Ideal.main_arg17)) (m' ((c.tc : Thread Reference3Ideal.nD Reference3Ideal.τ).loc Reference3Ideal.main_arg18)) (m' ((c.tc : Thread Reference3Ideal.nD Reference3Ideal.τ).loc Reference3Ideal.main_arg19)) (m' ((c.tc : Thread Reference3Ideal.nD Reference3Ideal.τ).loc Reference3Ideal.main_arg20)) (m' ((c.tc : Thread Reference3Ideal.nD Reference3Ideal.τ).loc Reference3Ideal.main_arg21)) b t k
      = result (m ((c.tc : Thread Kernel3Ideal.nD Kernel3Ideal.τ).loc Kernel3Ideal.main_arg0)) (m ((c.tc : Thread Kernel3Ideal.nD Kernel3Ideal.τ).loc Kernel3Ideal.main_arg1)) (m ((c.tc : Thread Kernel3Ideal.nD Kernel3Ideal.τ).loc Kernel3Ideal.main_arg2)) (m ((c.tc : Thread Kernel3Ideal.nD Kernel3Ideal.τ).loc Kernel3Ideal.main_arg3)) (m ((c.tc : Thread Kernel3Ideal.nD Kernel3Ideal.τ).loc Kernel3Ideal.main_arg4)) (m ((c.tc : Thread Kernel3Ideal.nD Kernel3Ideal.τ).loc Kernel3Ideal.main_arg5)) (m ((c.tc : Thread Kernel3Ideal.nD Kernel3Ideal.τ).loc Kernel3Ideal.main_arg6)) (m ((c.tc : Thread Kernel3Ideal.nD Kernel3Ideal.τ).loc Kernel3Ideal.main_arg7)) (m ((c.tc : Thread Kernel3Ideal.nD Kernel3Ideal.τ).loc Kernel3Ideal.main_arg8)) (m ((c.tc : Thread Kernel3Ideal.nD Kernel3Ideal.τ).loc Kernel3Ideal.main_arg9)) (m ((c.tc : Thread Kernel3Ideal.nD Kernel3Ideal.τ).loc Kernel3Ideal.main_arg10)) (m ((c.tc : Thread Kernel3Ideal.nD Kernel3Ideal.τ).loc Kernel3Ideal.main_arg11)) (m ((c.tc : Thread Kernel3Ideal.nD Kernel3Ideal.τ).loc Kernel3Ideal.main_arg12)) (m ((c.tc : Thread Kernel3Ideal.nD Kernel3Ideal.τ).loc Kernel3Ideal.main_arg13)) (m ((c.tc : Thread Kernel3Ideal.nD Kernel3Ideal.τ).loc Kernel3Ideal.main_arg14)) (m ((c.tc : Thread Kernel3Ideal.nD Kernel3Ideal.τ).loc Kernel3Ideal.main_arg15)) (m ((c.tc : Thread Kernel3Ideal.nD Kernel3Ideal.τ).loc Kernel3Ideal.main_arg16)) (m ((c.tc : Thread Kernel3Ideal.nD Kernel3Ideal.τ).loc Kernel3Ideal.main_arg17)) (m ((c.tc : Thread Kernel3Ideal.nD Kernel3Ideal.τ).loc Kernel3Ideal.main_arg18)) (m ((c.tc : Thread Kernel3Ideal.nD Kernel3Ideal.τ).loc Kernel3Ideal.main_arg19)) (m ((c.tc : Thread Kernel3Ideal.nD Kernel3Ideal.τ).loc Kernel3Ideal.main_arg20)) (m ((c.tc : Thread Kernel3Ideal.nD Kernel3Ideal.τ).loc Kernel3Ideal.main_arg21)) b t k := fun b t k => by
    rw [h0, h1, h2, h3, h4, h5, h6, h7, h8, h9, h10, h11, h12, h13, h14, h15, h16, h17, h18, h19, h20, h21]
  refine Eq.trans ?_ (array_eq m c).symm
  funext y
  exact (congrArg _ (eq_ix3 y)).trans ((hostMerge_at (y 0) (y 1) _ _ _ _ _ _ _ _ _ _ _ _ _ _ _ _ _ _ _ _ _ _ (y 2)).trans (e (y 0) (y 1) (y 2)))

end Cert.Merge

end
-- ==== Proof.Mods.lean ====
/-
  The modulation network: for every layer and sample, the context's row and the sample's own row of six times 1024
  numbers, each the product of the row's silu with the layer's matrix plus its bias.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Mods

open Idealize.ShloMosaic

/-- `a` times the logistic function of `a`. -/
def silu (a : EReal) : EReal :=
  a * Ideal.div 1 (1 + Ideal.exp (-a))

/-- Column `n` of a condition's modulation row. -/
def modCol (x : Fin 1024 → EReal) (w : Fin 1024 → EReal) (b : EReal) : EReal :=
  (∑ j, silu (x j) * w j) + b

section Spec

open Cert.Kernel5Ideal

/-- The condition whose row is number `r`: the context's at even numbers, a sample's at odd ones. -/
def condRow (c : S8x1024.Idx → EReal) (cctx : S1024.Idx → EReal) (r : Fin 16) (j : Fin 1024) : EReal :=
  if r.val % 2 = 0 then cctx (ix1 j) else c (ix2 ⟨r.val / 2, by omega⟩ j)

/-- The result for layer `l`, row `r`, column `n`. -/
def result (c : S8x1024.Idx → EReal) (cctx : S1024.Idx → EReal) (w : S4x1024x6144.Idx → EReal) (b : S4x6144.Idx → EReal)
    (l : Fin 4) (r : Fin 16) (n : Fin 6144) : EReal :=
  modCol (condRow c cctx r) (fun j => w (ix3 l j n)) (b (ix2 l n))

end Spec

section Kernel

open Cert.Kernel5Ideal Cert.Kernel5Ideal.Gen

theorem stored_at (x : Vec Ideal S16x1024 .f32) (w : Vec Ideal S1x1024x1024 .f32) (b : Vec Ideal S1x1x1024 .f32) (r : Fin 16) (k : Fin 1024) :
    k0_pay1 x w b (ix3 0 r k) = modCol (fun j => x (ix2 r j)) (fun j => w (ix3 0 j k)) (b (ix3 0 0 k)) := by
  pointwise [k0_pay1, modCol, silu]
  simp only [zero_sub]

/-- The block index of every window at every point. -/
theorem idx : ∀ t : Fin cfg0.grid.N, win0_0.index t = ![0, 0] ∧ win0_1.index t = ![t.val / 6, 0, t.val % 6]
    ∧ win0_2.index t = ![t.val / 6, 0, t.val % 6] ∧ win0_3.index t = ![t.val / 6, 0, t.val % 6] := by decide +kernel

variable (m : (ℓ : Loc nD τ sig) → Buf (Elt Ideal) ℓ) (c : Dev nD) (t : Fin cfg0.grid.N)

/-- The stacked conditions. -/
def hostCond (x : FVec Ideal S8x1024 .f32) (y : FVec Ideal S1024 .f32) : FVec Ideal S16x1024 .f32 :=
  shapeCast _ (concatenate S8x2x1024 1 [⟨S8x1x1024, broadcastInDim S8x1x1024 ![0, 2] bcast_S8x1024_S8x1x1024_0_2 (broadcastInDim S8x1024 ![1] bcast_S1024_S8x1024_1 y)⟩,
    ⟨S8x1x1024, broadcastInDim S8x1x1024 ![0, 2] bcast_S8x1024_S8x1x1024_0_2 x⟩] concatenates_S8x1x1024_S8x1x1024_S8x2x1024_d1) shapeCasts_S8x2x1024_S16x1024

theorem hostCond_at (x : FVec Ideal S8x1024 .f32) (y : FVec Ideal S1024 .f32) (r : Fin 16) (j : Fin 1024) :
    hostCond x y (ix2 r j) = condRow x y r j := by
  pointwise [hostCond, condRow]
  by_cases h : r.val % 2 = 0
  · rw [dif_pos (by omega), if_pos h]
  · rw [dif_neg (by omega), if_neg h]

theorem read_cond (r : Fin 16) (j : Fin 1024) :
    (iblk m c 0 t : S16x1024.Idx → EReal) (ix2 r j)
      = condRow (m ((c.tc : Thread nD τ).loc main_arg0)) (m ((c.tc : Thread nD τ).loc main_arg1)) r j := by
  have e : (win0_0.blk t).view.emb (ix2 r j) = ix2 r j := by blk_ext [idx t]
  refine Eq.trans ?_ (hostCond_at _ _ r j)
  change V m c main_v4 ((win0_0.blk t).view.emb (ix2 r j)) = _
  rw [e]
  simp only [V, hostOps0]
  after_results_simp
  rfl

theorem read_w (j k : Fin 1024) :
    (iblk m c 1 t : S1x1024x1024.Idx → EReal) (ix3 0 j k)
      = (m ((c.tc : Thread nD τ).loc main_arg2) : S4x1024x6144.Idx → EReal)
          (ix3 ⟨t.val / 6, by have := t.isLt; change t.val < 24 at this; omega⟩ j ⟨1024 * (t.val % 6) + k.val, by omega⟩) := by
  blk_ext [iblk, V, idx t]

theorem read_b (k : Fin 1024) :
    (iblk m c 2 t : S1x1x1024.Idx → EReal) (ix3 0 0 k)
      = (m ((c.tc : Thread nD τ).loc main_arg3) : S4x6144.Idx → EReal)
          (ix2 ⟨t.val / 6, by have := t.isLt; change t.val < 24 at this; omega⟩ ⟨1024 * (t.val % 6) + k.val, by omega⟩) := by
  have e : (win0_2.blk t).view.emb (ix3 0 0 k) = ix3 ⟨t.val / 6, by have := t.isLt; change t.val < 24 at this; omega⟩ 0 ⟨1024 * (t.val % 6) + k.val, by omega⟩ := by
    blk_ext [idx t]
  change V m c main_v5 ((win0_2.blk t).view.emb (ix3 0 0 k)) = _
  rw [e]
  simp only [V, hostOps0]
  after_results_simp
  pointwise

theorem array_eq : (dats m 0 c).arrAt 3 cfg0.N = fun y : S4x16x6144.Idx =>
    result (m ((c.tc : Thread nD τ).loc main_arg0)) (m ((c.tc : Thread nD τ).loc main_arg1)) (m ((c.tc : Thread nD τ).loc main_arg2)) (m ((c.tc : Thread nD τ).loc main_arg3)) (y 0) (y 1) (y 2) := by
  refine (dats m 0 c).arrAt_eq_of_covers 3 _ (by decide +kernel) fun t hf y => ?_
  blk_simp
  rw [after0_3]
  frame_out
  obtain ⟨a, r, k, rfl⟩ : ∃ (a : Fin 1) (r : Fin 16) (k : Fin 1024), y = ix3 a r k := ⟨y 0, y 1, y 2, eq_ix3 y⟩
  obtain rfl : a = 0 := Subsingleton.elim _ _
  refine (stored_at _ _ _ r k).trans ?_
  simp only [read_cond, read_w, read_b]
  rw [show ((View.whole main_v6).slice (win0_3.rect t)).emb (ix3 0 r k)
      = ix3 ⟨t.val / 6, by have := t.isLt; change t.val < 24 at this; omega⟩ r ⟨1024 * (t.val % 6) + k.val, by omega⟩ from by
    blk_ext [idx t]]
  rfl

end Kernel

section Reference

open Cert.Reference5Ideal Cert.Reference5Ideal.Gen Cert.Reference5Ideal.Value

/-- The context's rows. -/
def hostCtx (y : FVec Ideal S1024 .f32) (w : FVec Ideal S4x1024x6144 .f32) (b : FVec Ideal S4x6144 .f32) : FVec Ideal S4x6144 .f32 :=
  addf (Host.dotGeneral dot_S1024_S4x1024x6144_S4x6144_0_1_n_02_n_n none (mulf y (Host.divf (broadcastInDim S1024 ![] bcast_S_S1024 (constant S_ .f32 0x3F800000#32)) (addf (broadcastInDim S1024 ![] bcast_S_S1024 (constant S_ .f32 0x3F800000#32)) (Host.exp (Host.negf y))))) w) b

theorem hostCtx_at (y : FVec Ideal S1024 .f32) (w : FVec Ideal S4x1024x6144 .f32) (b : FVec Ideal S4x6144 .f32) (l : Fin 4) (n : Fin 6144) :
    hostCtx y w b (ix2 l n) = modCol (fun j => y (ix1 j)) (fun j => w (ix3 l j n)) (b (ix2 l n)) := by
  pointwise [hostCtx, modCol, silu]

/-- The samples' rows. -/
def hostLat (x : FVec Ideal S8x1024 .f32) (w : FVec Ideal S4x1024x6144 .f32) (b : FVec Ideal S4x6144 .f32) : FVec Ideal S4x8x6144 .f32 :=
  addf (transpose S4x8x6144 [0, 2, 1] (Host.dotGeneral dot_S4x1024x6144_S8x1024_S4x6144x8_1_1_02_0_n_n none w (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x)))))) transposes_S4x6144x8_S4x8x6144_0_2_1) (broadcastInDim S4x8x6144 ![0, 1, 2] bcast_S4x1x6144_S4x8x6144_0_1_2 (broadcastInDim S4x1x6144 ![0, 2] bcast_S4x6144_S4x1x6144_0_2 b))

theorem hostLat_at (x : FVec Ideal S8x1024 .f32) (w : FVec Ideal S4x1024x6144 .f32) (b : FVec Ideal S4x6144 .f32) (l : Fin 4) (i : Fin 8) (n : Fin 6144) :
    hostLat x w b (ix3 l i n) = modCol (fun j => x (ix2 i j)) (fun j => w (ix3 l j n)) (b (ix2 l n)) := by
  pointwise [hostLat, modCol, silu]
  exact congrArg (· + _) (Finset.sum_congr rfl fun j _ => mul_comm _ _)

/-- The rows of both, alternating. -/
def hostBoth (p : FVec Ideal S4x6144 .f32) (q : FVec Ideal S4x8x6144 .f32) : FVec Ideal S4x16x6144 .f32 :=
  shapeCast _ (concatenate S4x8x2x6144 2 [⟨S4x8x1x6144, (broadcastInDim S4x8x1x6144 ![0, 1, 3] bcast_S4x8x6144_S4x8x1x6144_0_1_3 (broadcastInDim S4x8x6144 ![0, 1, 2] bcast_S4x1x6144_S4x8x6144_0_1_2 (broadcastInDim S4x1x6144 ![0, 2] bcast_S4x6144_S4x1x6144_0_2 p)))⟩,
    ⟨S4x8x1x6144, (broadcastInDim S4x8x1x6144 ![0, 1, 3] bcast_S4x8x6144_S4x8x1x6144_0_1_3 q)⟩] concatenates_S4x8x1x6144_S4x8x1x6144_S4x8x2x6144_d2) shapeCasts_S4x8x2x6144_S4x16x6144

theorem hostBoth_at (p : FVec Ideal S4x6144 .f32) (q : FVec Ideal S4x8x6144 .f32) (l : Fin 4) (r : Fin 16) (n : Fin 6144) :
    hostBoth p q (ix3 l r n) = if r.val % 2 = 0 then p (ix2 l n) else q (ix3 l ⟨r.val / 2, by omega⟩ n) := by
  pointwise [hostBoth]
  by_cases h : r.val % 2 = 0
  · rw [dif_pos (by omega), if_pos h]
  · rw [dif_neg (by omega), if_neg h]

end Reference

/-- The kernel and the reference leave the same array. -/
theorem algebraic : Cert.algebraic_Kernel5Ideal_Reference5Ideal := by
  intro m g m' g' _ hm
  refine ⟨fun c => (Kernel5Ideal.Gen.dats m 0 c).arrAt 3 Kernel5Ideal.cfg0.N, Kernel5Ideal.Value.run_blocks m g,
    (θ_run _ _ _).mono (fun r h c => ⟨(h c).1.trans ?_, (h c).2⟩) (Reference5Ideal.Value.run m' g')⟩
  obtain ⟨h0, h1, h2, h3⟩ := hm c
  refine Eq.trans ?_ (array_eq m c).symm
  rw [h0, h1, h2, h3]
  funext y
  refine (congrArg _ (eq_ix3 y)).trans ((hostBoth_at (hostCtx _ _ _) (hostLat _ _ _) (y 0) (y 1) (y 2)).trans ?_)
  unfold result condRow
  by_cases h : (y 1).val % 2 = 0
  · simp only [if_pos h]
    exact hostCtx_at _ _ _ _ _
  · simp only [if_neg h]
    exact hostLat_at _ _ _ _ _ _

end Cert.Mods

end
-- ==== Proof.ScanMath.lean ====
/-
  The gated linear attention scan as mathematics over the extended reals: one chunk of 64 positions of one head, the
  recursion of the state over the chunks, the gate's log-sigmoid, and sums over a chunk's rows built by doubling.
-/
module

public import Idealize.ShloMosaic.Lib.Pointwise

@[expose] public section

noncomputable section

namespace Cert.Gla

open Idealize.ShloMosaic

/-! ## One chunk -/

/-- Key coordinate `κ` of a pair's head `h`, among the pair's 128 lanes. -/
def lane (h : Fin 2) (κ : Fin 64) : Fin 128 := ⟨64 * h.val + κ.val, by omega⟩
/-- Value coordinate `c` of a pair's head `h`, among the pair's 256 value columns. -/
def vcol (h : Fin 2) (c : Fin 128) : Fin 256 := ⟨128 * h.val + c.val, by omega⟩

/-- A sum over a pair's lanes is the sum over its heads and their key coordinates. -/
theorem sum_lane (f : Fin 128 → EReal) : ∑ x, f x = (∑ κ, f (lane 0 κ)) + ∑ κ, f (lane 1 κ) := by
  rw [show (∑ x, f x) = ∑ x : Fin (64 + 64), f x from rfl, Fin.sum_univ_add]
  congr 1

/-- A chunk's outputs: the scores of the earlier positions against their values, and the decayed query against the
    incoming state. `cum` is the running sum of the log gates, and row 32 of it the reference of both rescalings. -/
def chunkOut (cum q k : Fin 64 → Fin 64 → EReal) (v : Fin 64 → Fin 128 → EReal) (S : Fin 64 → Fin 128 → EReal)
    (l : Fin 64) (c : Fin 128) : EReal :=
  (∑ s, (if s ≤ l then ∑ κ, (q l κ * Ideal.exp (cum l κ - cum 32 κ)) * (k s κ * Ideal.exp (cum 32 κ - cum s κ)) else 0) * v s c)
    + ∑ κ, (q l κ * Ideal.exp (cum l κ)) * S κ c

/-- The state a chunk leaves. -/
def chunkState (cum k : Fin 64 → Fin 64 → EReal) (v : Fin 64 → Fin 128 → EReal) (S : Fin 64 → Fin 128 → EReal)
    (κ : Fin 64) (c : Fin 128) : EReal :=
  S κ c * Ideal.exp (cum 63 κ) + ∑ s, v s c * (k s κ * Ideal.exp (cum 63 κ - cum s κ))

/-- One head's sequence of queries, keys, log gates and values, by position. -/
structure Seq where
  q : ℕ → Fin 64 → EReal
  k : ℕ → Fin 64 → EReal
  g : ℕ → Fin 64 → EReal
  v : ℕ → Fin 128 → EReal
  /-- The state before the first position. -/
  s0 : Fin 64 → Fin 128 → EReal

namespace Seq

variable (s : Seq)

/-- Chunk `n`'s queries, keys and values. -/
def qs (n : ℕ) (l : Fin 64) : Fin 64 → EReal := s.q (64 * n + l.val)
def ks (n : ℕ) (l : Fin 64) : Fin 64 → EReal := s.k (64 * n + l.val)
def vs (n : ℕ) (l : Fin 64) : Fin 128 → EReal := s.v (64 * n + l.val)
/-- The running sum of chunk `n`'s log gates. -/
def cum (n : ℕ) (l κ : Fin 64) : EReal := ∑ l' : Fin 64, if l' ≤ l then s.g (64 * n + l'.val) κ else 0

/-- The state before chunk `n`. -/
def state : ℕ → Fin 64 → Fin 128 → EReal
  | 0 => s.s0
  | n + 1 => chunkState (s.cum n) (s.ks n) (s.vs n) (state n)

/-- Chunk `n`'s outputs. -/
def out (n : ℕ) : Fin 64 → Fin 128 → EReal := chunkOut (s.cum n) (s.qs n) (s.ks n) (s.vs n) (s.state n)

end Seq

/-! ## The gate -/

/-- The log-sigmoid. -/
def lsig (x : EReal) : EReal := min x 0 - Ideal.log1p (Ideal.exp (0 - max x (-x)))

/-- The softplus's logarithm is a real number. -/
theorem log1p_exp_real (x : EReal) : ∃ r : ℝ, Ideal.log1p (Ideal.exp (-(max x (-x)))) = (r : EReal) := by
  have h0 : Ideal.log1p (Ideal.exp ⊥) = ((0 : ℝ) : EReal) := by
    rw [Ideal.exp_bot, Ideal.log1p, add_zero, ← EReal.coe_one, Ideal.log_coe, if_neg (by norm_num), Real.log_one]
  induction x with
  | bot => exact ⟨0, by rw [EReal.neg_bot, max_eq_right bot_le, EReal.neg_top, h0]⟩
  | top => exact ⟨0, by rw [max_eq_left le_top, EReal.neg_top, h0]⟩
  | coe r =>
    have hm : max (r : EReal) (-(r : EReal)) = ((max r (-r) : ℝ) : EReal) := by
      rw [← EReal.coe_neg]; exact (EReal.coe_strictMono.monotone.map_max).symm
    rw [hm, ← EReal.coe_neg, Ideal.exp_coe, Ideal.log1p, ← EReal.coe_one, ← EReal.coe_add, Ideal.log_coe,
      if_neg (by have := Real.exp_pos (-max r (-r)); linarith)]
    exact ⟨_, rfl⟩

/-- Negating turns the maximum with zero into the minimum. -/
theorem neg_max_zero (x : EReal) : -(max (-x) 0) = min x 0 := by
  rcases le_total x 0 with h | h
  · rw [min_eq_left h, max_eq_left (EReal.neg_nonneg.mpr h), neg_neg]
  · rw [min_eq_right h, max_eq_right (by rw [← neg_zero]; exact EReal.neg_le_neg_iff.mpr h), neg_zero]

/-- The negated softplus of the negation is the log-sigmoid. -/
theorem neg_softplus (x : EReal) : -(max (-x) 0 + Ideal.log1p (Ideal.exp (-(max (-x - 0) (-(-x - 0)))))) = lsig x := by
  obtain ⟨r, hr⟩ := log1p_exp_real x
  rw [sub_zero, neg_neg, max_comm (-x) x, hr, lsig, zero_sub, hr, EReal.neg_add (.inr (EReal.coe_ne_top r)) (.inr (EReal.coe_ne_bot r)),
    neg_max_zero]

/-! ## Sums by doubling -/

/-- The `w` rows of its chunk ending at row `r`, summed. -/
def backSum (g : ℕ → EReal) (w r : ℕ) : EReal := ∑ j ∈ Finset.range w, if j ≤ r % 64 then g (r - j) else 0
/-- The `w` rows of its chunk starting at row `r`, summed. -/
def fwdSum (g : ℕ → EReal) (w r : ℕ) : EReal := ∑ j ∈ Finset.range w, if r % 64 + j < 64 then g (r + j) else 0

theorem backSum_one (g : ℕ → EReal) (r : ℕ) : backSum g 1 r = g r := by simp [backSum]
theorem fwdSum_one (g : ℕ → EReal) (r : ℕ) : fwdSum g 1 r = g r := by
  simp [fwdSum, Nat.mod_lt]

/-- Doubling the window: the window ending here, and the one ending `w` rows before, if that row is in the chunk. -/
theorem backSum_double (g : ℕ → EReal) (w r : ℕ) :
    backSum g (w + w) r = backSum g w r + if w ≤ r % 64 then backSum g w (r - w) else 0 := by
  rw [backSum, Finset.sum_range_add, ← backSum]
  congr 1
  split
  · rename_i h
    have hm : (r - w) % 64 = r % 64 - w := by omega
    refine Finset.sum_congr rfl fun j _ => ?_
    rw [hm, Nat.sub_sub]
    exact if_congr (by omega) rfl rfl
  · rename_i h
    exact Finset.sum_eq_zero fun j _ => if_neg (by omega)

theorem fwdSum_double (g : ℕ → EReal) (w r : ℕ) :
    fwdSum g (w + w) r = fwdSum g w r + if r % 64 < 64 - w then fwdSum g w (r + w) else 0 := by
  rw [fwdSum, Finset.sum_range_add, ← fwdSum]
  congr 1
  split
  · rename_i h
    have hm : (r + w) % 64 = r % 64 + w := by omega
    refine Finset.sum_congr rfl fun j _ => ?_
    rw [hm, ← Nat.add_assoc, ← Nat.add_assoc]
  · rename_i h
    exact Finset.sum_eq_zero fun j _ => if_neg (by omega)

/-- All 64 rows: the chunk's running sum. -/
theorem backSum_eq (g : ℕ → EReal) (n : ℕ) (l : Fin 64) :
    backSum g 64 (64 * n + l.val) = ∑ l' : Fin 64, if l' ≤ l then g (64 * n + l'.val) else 0 := by
  have hm : (64 * n + l.val) % 64 = l.val := by omega
  rw [backSum, hm, ← Finset.sum_filter, ← Finset.sum_filter]
  refine Finset.sum_bij' (fun j _ => (⟨l.val - j, by omega⟩ : Fin 64)) (fun l' _ => l.val - l'.val) ?_ ?_ ?_ ?_ ?_
  · exact fun j _ => Finset.mem_filter.mpr ⟨Finset.mem_univ _, Nat.sub_le _ _⟩
  · exact fun j hj => Finset.mem_filter.mpr ⟨Finset.mem_range.mpr (by omega), Nat.sub_le _ _⟩
  · intro j hj
    have := (Finset.mem_filter.mp hj).2
    dsimp only; omega
  · intro j hj
    have : j.val ≤ l.val := (Finset.mem_filter.mp hj).2
    exact Fin.ext (by dsimp only; omega)
  · intro j hj
    have := (Finset.mem_filter.mp hj).2
    exact congrArg g (by dsimp only; omega)

/-- The running sum from the other end, at the mirrored row of mirrored gates. -/
theorem fwdSum_eq (g g' : ℕ → EReal) (n n' : ℕ) (h : ∀ l : Fin 64, g (64 * n + l.val) = g' (64 * n' + (63 - l.val))) (l : Fin 64) :
    fwdSum g 64 (64 * n + (63 - l.val)) = ∑ l' : Fin 64, if l' ≤ l then g' (64 * n' + l'.val) else 0 := by
  have hm : (64 * n + (63 - l.val)) % 64 = 63 - l.val := by omega
  rw [fwdSum, hm, ← Finset.sum_filter, ← Finset.sum_filter]
  refine Finset.sum_bij' (fun j _ => (⟨l.val - j, by omega⟩ : Fin 64)) (fun l' _ => l.val - l'.val) ?_ ?_ ?_ ?_ ?_
  · exact fun j _ => Finset.mem_filter.mpr ⟨Finset.mem_univ _, Nat.sub_le _ _⟩
  · exact fun j hj => Finset.mem_filter.mpr ⟨Finset.mem_range.mpr (by omega), by have : j.val ≤ l.val := (Finset.mem_filter.mp hj).2; omega⟩
  · intro j hj
    have := (Finset.mem_filter.mp hj).2
    dsimp only; omega
  · intro j hj
    have : j.val ≤ l.val := (Finset.mem_filter.mp hj).2
    exact Fin.ext (by dsimp only; omega)
  · intro j hj
    have := (Finset.mem_filter.mp hj).2
    have h' := h ⟨63 - l.val + j, by omega⟩
    dsimp only at h' ⊢
    rw [Nat.add_assoc, h']
    exact congrArg g' (by omega)

end Cert.Gla

end
-- ==== Proof.ScanUnit.lean ====
/-
  One chunk of one pair of heads, as the kernel's body computes it on 64 rows and 128 lanes, and what it is index by
  index. Lane `64 * h + κ` of a pair is key coordinate `κ` of its head `h`.
-/
module

public import proofs.«01_k».proof.Proof.Gen.KernelIdeal.Skeleton
public import proofs.«01_k».proof.Proof.ScanMath

@[expose] public section

set_option maxRecDepth 16384

noncomputable section

namespace Cert.Gla

open Idealize.ShloMosaic Cert.KernelIdeal Cert.KernelIdeal.Gen

variable {F : FTy → Type} [FloatOps F]

/-- The lanes of a pair's second head. -/
def hiLane : IVec S64x128 1 :=
  cmpi .sge (iota .tc S64x128 32 [1] iota_S64x128_d1_w32) (broadcast S64x128 64#32)
/-- A lane's number within its head. -/
def laneIn : IVec S64x128 32 :=
  andi (iota .tc S64x128 32 [1] iota_S64x128_d1_w32) (broadcast S64x128 63#32)
/-- A row's number. -/
def rowNo : IVec S64x128 32 := iota .tc S64x128 32 [0] iota_S64x128_d0_w32

/-- The zero the kernel selects. -/
def zeroV : FVec F S64x128 .f32 := broadcast S64x128 (Scalar.ofBits .f32 0x00000000#32)

/-- The masked scores of the two heads side by side: the queries against the keys, both rescaled to the row `mid`. -/
def scoreV (keep : IVec S64x128 1) (mid : FVec F S1x128 .f32) (cum q k : FVec F S64x128 .f32) : FVec F S64x128 .f32 :=
  have kk : FVec F S64x128 .f32 := mulf k (exp (subf (broadcastTo S64x128 mid broadcasts_S1x128_S64x128) cum))
  have kd : FVec F S128x128 .f32 :=
    concatenate S128x128 0 [⟨S64x128, select hiLane zeroV kk⟩, ⟨S64x128, select hiLane kk zeroV⟩] concatenates_S64x128_S64x128_S128x128_d0
  have qq : FVec F S64x128 .f32 := mulf q (exp (subf cum (broadcastTo S64x128 mid broadcasts_S1x128_S64x128)))
  select keep
    (matmul dot_S64x128_S128x128_S64x128_1_1_0_0_n_n none (truncf .bf16 qq bitsLt_bf16_f32) (truncf .bf16 kd bitsLt_bf16_f32)
      (constant S64x128 .f32 0x00000000#32)) zeroV

/-- The two heads' outputs side by side: the scores against the values, and the decayed queries against the state. -/
def outV (sc qe v0 v1 : FVec F S64x128 .f32) (st : FVec F S256x128 .f32) : FVec F S64x256 .f32 :=
  have vv : FVec F S128x256 .f32 :=
    concatenate S128x256 0
      [⟨S64x256, concatenate S64x256 1 [⟨S64x128, v0⟩, ⟨S64x128, zeroV⟩] concatenates_S64x128_S64x128_S64x256_d1⟩,
       ⟨S64x256, concatenate S64x256 1 [⟨S64x128, zeroV⟩, ⟨S64x128, v1⟩] concatenates_S64x128_S64x128_S64x256_d1⟩]
      concatenates_S64x256_S64x256_S128x256_d0
  addf
    (matmul dot_S64x128_S128x256_S64x256_1_0_0_1_n_n none (truncf .bf16 sc bitsLt_bf16_f32) (truncf .bf16 vv bitsLt_bf16_f32)
      (constant S64x256 .f32 0x00000000#32))
    (matmul dot_S64x128_S256x128_S64x256_1_1_0_0_n_n none (truncf .bf16 qe bitsLt_bf16_f32) (truncf .bf16 st bitsLt_bf16_f32)
      (constant S64x256 .f32 0x00000000#32))

/-- One head's 128 rows of the state after the chunk: the old ones decayed, and the values against its keys `kh`. -/
def stateV (tot : FVec F S1x128 .f32) (kh v : FVec F S64x128 .f32) (st : FVec F S128x128 .f32) : FVec F S128x128 .f32 :=
  addf (mulf st (broadcastTo S128x128 (exp tot) broadcasts_S1x128_S128x128))
    (matmul dot_S64x128_S64x128_S128x128_0_0_1_1_n_n none (truncf .bf16 v bitsLt_bf16_f32) (truncf .bf16 kh bitsLt_bf16_f32)
      (constant S128x128 .f32 0x00000000#32))

/-- The keys decayed to the chunk's end. -/
def keyV (tot : FVec F S1x128 .f32) (cum k : FVec F S64x128 .f32) : FVec F S64x128 .f32 :=
  mulf k (exp (subf (broadcastTo S64x128 tot broadcasts_S1x128_S64x128) cum))

/-- Row `r` of a chunk's running sums. -/
def row32 (cum : FVec F S64x128 .f32) : FVec F S1x128 .f32 := extractStridedSlice S1x128 ![32, 0] cum slices_S64x128_o32_0_S1x128
def row31 (cum : FVec F S64x128 .f32) : FVec F S1x128 .f32 := extractStridedSlice S1x128 ![31, 0] cum slices_S64x128_o31_0_S1x128
def row63 (cum : FVec F S64x128 .f32) : FVec F S1x128 .f32 := extractStridedSlice S1x128 ![63, 0] cum slices_S64x128_o63_0_S1x128
def row0 (cum : FVec F S64x128 .f32) : FVec F S1x128 .f32 := extractStridedSlice S1x128 ![0, 0] cum slices_S64x128_o0_0_S1x128

/-- The row both rescalings refer to, in direction `d`. -/
def midV (d : Fin 2) (cum : FVec F S64x128 .f32) : FVec F S1x128 .f32 := if d = 0 then row32 cum else row31 cum
/-- The chunk's last row, in direction `d`. -/
def totV (d : Fin 2) (cum : FVec F S64x128 .f32) : FVec F S1x128 .f32 := if d = 0 then row63 cum else row0 cum
/-- Which scores direction `d` keeps. -/
def keepV (d : Fin 2) : IVec S64x128 1 := if d = 0 then cmpi .sle laneIn rowNo else cmpi .sge laneIn rowNo

/-- A block of 64 rows as loaded. -/
def rows (x : Vec F S1x64x128 .f32) : FVec F S64x128 .f32 := shapeCast S64x128 x shapeCasts_S1x64x128_S64x128
/-- The queries, scaled. -/
def scaled (x : Vec F S1x64x128 .f32) : FVec F S64x128 .f32 := mulf (rows x) (broadcast S64x128 (Scalar.ofBits .f32 0x3E000000#32))

/-- What the body stores of a pair's outputs, from the running sums, queries, keys, values and state it loads. -/
def unitY (d : Fin 2) (C Q K V0 V1 : Vec F S1x64x128 .f32) (st : Vec F S1x1x1x256x128 .f32) : FVec F S1x64x256 .f32 :=
  shapeCast S1x64x256
    (outV (scoreV (keepV d) (midV d (rows C)) (rows C) (scaled Q) (rows K)) (mulf (scaled Q) (exp (rows C))) (rows V0) (rows V1)
      (shapeCast S256x128 st shapeCasts_S1x1x1x256x128_S256x128))
    shapeCasts_S64x256_S1x64x256

/-- The keys of a pair's head `h` alone. -/
def headKeys (h : Fin 2) (x : FVec F S64x128 .f32) : FVec F S64x128 .f32 :=
  if h = 0 then select hiLane zeroV x else select hiLane x zeroV

/-- What the body stores of head `h`'s state. -/
def unitS (d h : Fin 2) (C K V : Vec F S1x64x128 .f32) (st : Vec F S1x1x1x128x128 .f32) : FVec F S1x1x1x128x128 .f32 :=
  shapeCast S1x1x1x128x128
    (stateV (totV d (rows C)) (headKeys h (keyV (totV d (rows C)) (rows C) (rows K))) (rows V)
      (shapeCast S128x128 st shapeCasts_S1x1x1x128x128_S128x128))
    shapeCasts_S128x128_S1x1x1x128x128

/-! ## At an index -/

/-- The row of its chunk that direction `d` meets `l`-th. -/
def rowOf (d : Fin 2) : Fin 64 ≃ Fin 64 := if d = 0 then Equiv.refl _ else Fin.revPerm

theorem rows_at (x : Vec Ideal S1x64x128 .f32) (r : Fin 64) (l : Fin 128) : rows x (ix2 r l) = x (ix3 0 r l) := by
  pointwise [rows]

/-- The factor the queries are scaled by. -/
def scaleC : EReal := Ideal.ofBits .f32 0x3E000000#32

theorem scaled_at (x : Vec Ideal S1x64x128 .f32) (r : Fin 64) (l : Fin 128) : scaled x (ix2 r l) = x (ix3 0 r l) * scaleC := by
  pointwise [scaled, rows]
  rfl

theorem mid_at (d : Fin 2) (x : FVec Ideal S64x128 .f32) (l : Fin 128) : midV d x (ix2 0 l) = x (ix2 (rowOf d 32) l) := by
  fin_cases d
  · show row32 x _ = x (ix2 32 l)
    pointwise [row32]
  · show row31 x _ = x (ix2 31 l)
    pointwise [row31]

theorem tot_at (d : Fin 2) (x : FVec Ideal S64x128 .f32) (l : Fin 128) : totV d x (ix2 0 l) = x (ix2 (rowOf d 63) l) := by
  fin_cases d
  · show row63 x _ = x (ix2 63 l)
    pointwise [row63]
  · show row0 x _ = x (ix2 0 l)
    pointwise [row0]

theorem keep_at (d : Fin 2) (t s : Fin 64) (h : Fin 2) :
    keepV d (ix2 (rowOf d t) (lane h (rowOf d s))) = if s ≤ t then 1#1 else 0#1 := by
  revert d t s h
  decide +kernel

theorem hi_at (r : Fin 64) (h : Fin 2) (κ : Fin 64) : hiLane (ix2 r (lane h κ)) = if h = 0 then 0#1 else 1#1 := by
  revert r h κ
  decide +kernel

theorem select_zero {α : Type} (x y : α) : Scalar.select 0#1 x y = y := rfl
theorem select_one {α : Type} (x y : α) : Scalar.select 1#1 x y = x := rfl

theorem score_at (d : Fin 2) (mid : FVec Ideal S1x128 .f32) (cum q k : FVec Ideal S64x128 .f32) (t s : Fin 64) (h : Fin 2) :
    scoreV (keepV d) mid cum q k (ix2 (rowOf d t) (lane h (rowOf d s))) =
      if s ≤ t then ∑ κ, (q (ix2 (rowOf d t) (lane h κ)) * Ideal.exp (cum (ix2 (rowOf d t) (lane h κ)) - mid (ix2 0 (lane h κ))))
        * (k (ix2 (rowOf d s) (lane h κ)) * Ideal.exp (mid (ix2 0 (lane h κ)) - cum (ix2 (rowOf d s) (lane h κ)))) else 0 := by
  have hk := keep_at d t s h
  generalize rowOf d t = t' at *
  generalize rowOf d s = s' at *
  generalize keepV d = keep at *
  pointwise [scoreV, zeroV]
  rw [hk]
  split
  · rw [select_one, sum_lane]
    fin_cases h
    · have hlt : (lane 0 s').val < 64 := by simp [lane]
      have hs : (⟨(lane 0 s').val, hlt⟩ : Fin 64) = s' := Fin.ext (by simp [lane])
      simp only [Fin.zero_eta, dif_pos hlt, hs, hi_at, if_true, select_zero, select_one, ite_true, if_neg (show ¬(1 : Fin 2) = 0 by decide), mul_zero,
        Finset.sum_const_zero, add_zero]
    · have hlt : ¬(lane 1 s').val < 64 := by simp [lane]
      have hs (p) : (⟨(lane 1 s').val - 64, p⟩ : Fin 64) = s' := Fin.ext (by simp [lane])
      simp only [Fin.mk_one, dif_neg hlt, hs, hi_at, if_true, select_zero, select_one, ite_true, if_neg (show ¬(1 : Fin 2) = 0 by decide), mul_zero,
        Finset.sum_const_zero, zero_add]
  · rw [select_zero]

theorem out_at (e : Fin 64 ≃ Fin 64) (sc qe v0 v1 : FVec Ideal S64x128 .f32) (st : FVec Ideal S256x128 .f32) (t : Fin 64) (h : Fin 2) (c : Fin 128) :
    outV sc qe v0 v1 st (ix2 t (vcol h c)) =
      (∑ s, sc (ix2 t (lane h (e s))) * (if h = 0 then v0 else v1) (ix2 (e s) c)) + ∑ x, qe (ix2 t x) * st (ix2 (vcol h c) x) := by
  fin_cases h
  · have hlt : (vcol 0 c).val < 128 := by simp [vcol]
    have hc : (⟨(vcol 0 c).val, hlt⟩ : Fin 128) = c := Fin.ext (by simp [vcol])
    have hx (x : Fin 64) (p) : (⟨x.val, p⟩ : Fin 128) = lane 0 x := Fin.ext (by simp [lane])
    pointwise [outV, zeroV]
    simp only [dif_pos hlt, hc, hx, mul_zero, Finset.sum_const_zero, add_zero, if_pos]
    rw [← Equiv.sum_comp e]
  · have hlt : ¬(vcol 1 c).val < 128 := by simp [vcol]
    have hc (p) : (⟨(vcol 1 c).val - 128, p⟩ : Fin 128) = c := Fin.ext (by simp [vcol])
    have hx (x : Fin 64) (p) : (⟨64 + x.val, p⟩ : Fin 128) = lane 1 x := Fin.ext (by simp [lane])
    pointwise [outV, zeroV]
    simp only [dif_neg hlt, hc, hx, mul_zero, Finset.sum_const_zero, zero_add, if_neg (show ¬(1 : Fin 2) = 0 by decide)]
    rw [← Equiv.sum_comp e]

theorem state_at (tot : FVec Ideal S1x128 .f32) (kh v : FVec Ideal S64x128 .f32) (st : FVec Ideal S128x128 .f32) (t c : Fin 128) :
    stateV tot kh v st (ix2 t c) = st (ix2 t c) * Ideal.exp (tot (ix2 0 c)) + ∑ x, v (ix2 x t) * kh (ix2 x c) := by
  pointwise [stateV]

theorem headKeys_at (h : Fin 2) (x : FVec Ideal S64x128 .f32) (r : Fin 64) (h' : Fin 2) (κ : Fin 64) :
    headKeys h x (ix2 r (lane h' κ)) = if h' = h then x (ix2 r (lane h' κ)) else 0 := by
  have h0 := hi_at r h' κ
  fin_cases h
  · show select hiLane zeroV x _ = _
    pointwise [zeroV]
    rw [h0]
    fin_cases h' <;> rfl
  · show select hiLane x zeroV _ = _
    pointwise [zeroV]
    rw [h0]
    fin_cases h' <;> rfl

theorem key_at (tot : FVec Ideal S1x128 .f32) (cum k : FVec Ideal S64x128 .f32) (t : Fin 64) (c : Fin 128) :
    keyV tot cum k (ix2 t c) = k (ix2 t c) * Ideal.exp (tot (ix2 0 c) - cum (ix2 t c)) := by
  pointwise [keyV]

/-- A pair's outputs are the chunk's, of the head whose column is read: the state, block diagonal in the two heads, is
    transposed. -/
theorem unitY_at (d : Fin 2) (C Q K V0 V1 : Vec Ideal S1x64x128 .f32) (st : Vec Ideal S1x1x1x256x128 .f32)
    (S : Fin 2 → Fin 64 → Fin 128 → EReal)
    (hst : ∀ h c h' κ, st (ix5 0 0 0 (vcol h c) (lane h' κ)) = if h' = h then S h κ c else 0)
    (h : Fin 2) (t : Fin 64) (c : Fin 128) :
    unitY d C Q K V0 V1 st (ix3 0 (rowOf d t) (vcol h c)) =
      chunkOut (fun l κ => C (ix3 0 (rowOf d l) (lane h κ))) (fun l κ => Q (ix3 0 (rowOf d l) (lane h κ)) * scaleC)
        (fun l κ => K (ix3 0 (rowOf d l) (lane h κ))) (fun l c => (if h = 0 then V0 else V1) (ix3 0 (rowOf d l) c)) (S h) t c := by
  pointwise [unitY]
  rw [out_at (rowOf d), chunkOut, sum_lane]
  have hc (x : Fin 128) : shapeCast S256x128 st shapeCasts_S1x1x1x256x128_S256x128 (ix2 (vcol h c) x)
      = st (ix5 0 0 0 (vcol h c) x) := by pointwise
  have hm (x : Fin 64) (y : Fin 128) : mulf (scaled Q) (exp (rows C)) (ix2 x y) = Q (ix3 0 x y) * scaleC * Ideal.exp (C (ix3 0 x y)) := by
    pointwise [scaled, rows]; rfl
  simp only [score_at, hc, hst, hm, mid_at, rows_at, scaled_at]
  fin_cases h
  · simp [rows_at]
  · simp [rows_at]

/-- A head's state rows are the chunk's state, transposed, in that head's lanes. -/
theorem unitS_at (d h : Fin 2) (C K V : Vec Ideal S1x64x128 .f32) (st : Vec Ideal S1x1x1x128x128 .f32) (S : Fin 64 → Fin 128 → EReal)
    (hst : ∀ c h' κ, st (ix5 0 0 0 c (lane h' κ)) = if h' = h then S κ c else 0) (c : Fin 128) (h' : Fin 2) (κ : Fin 64) :
    unitS d h C K V st (ix5 0 0 0 c (lane h' κ)) = if h' = h then
      chunkState (fun l κ => C (ix3 0 (rowOf d l) (lane h κ))) (fun l κ => K (ix3 0 (rowOf d l) (lane h κ)))
        (fun l c => V (ix3 0 (rowOf d l) c)) S κ c else 0 := by
  have hc (x : Fin 128) : shapeCast S128x128 st shapeCasts_S1x1x1x128x128_S128x128 (ix2 c x) = st (ix5 0 0 0 c x) := by pointwise
  have hu : unitS d h C K V st (ix5 0 0 0 c (lane h' κ)) =
      stateV (totV d (rows C)) (headKeys h (keyV (totV d (rows C)) (rows C) (rows K))) (rows V)
        (shapeCast S128x128 st shapeCasts_S1x1x1x128x128_S128x128) (ix2 c (lane h' κ)) := by
    pointwise [unitS]
  rw [hu, state_at, hc, hst, chunkState]
  simp only [headKeys_at, key_at, tot_at, rows_at]
  split
  · rename_i hh
    subst hh
    rw [← Equiv.sum_comp (rowOf d)]
  · simp

end Cert.Gla
end
-- ==== Proof.ScanBody.lean ====
/-
  What the scan's body leaves in its buffers, as lists over the chunks: eight chunks of two directions, two pairs of
  heads and two heads each.
-/
module

public import proofs.«01_k».proof.Proof.ScanUnit
public import proofs.«01_k».proof.Proof.Gen.KernelIdeal.Frame

@[expose] public section

set_option maxRecDepth 16384

noncomputable section

namespace Cert.Gla

open Idealize.ShloMosaic Cert.KernelIdeal Cert.KernelIdeal.Gen

variable {F : FTy → Type} [FloatOps F]

section Lists

variable (c : Dev nD) (arg2 : Memref sig .tc .vmem S1x512x1664 .f32) (harg2 : arg2.IsWhole)
  (arg3 : Memref sig .tc .vmem S1x512x1664 .f32) (harg3 : arg3.IsWhole)
  (arg4 : Memref sig .tc .vmem S2x128x256 .bf16) (harg4 : arg4.IsWhole) (arg5 : Memref sig .tc .vmem S2x256 .f32) (harg5 : arg5.IsWhole)
  (arg9 : Memref sig .tc .vmem S1x2x2x256x128 .f32) (harg9 : arg9.IsWhole) (arg10 : Memref sig .tc .vmem S2x512x256 .f32)
  (x0 x1 : Vec F S1x512x1664 .f32) (x2 : Vec F S2x128x256 .bf16) (x3 : Vec F S2x256 .f32) (x4 xo7 : Vec F S1x2x2x256x128 .f32)

/-- The direction, pair and head that step `n` of the body updates. -/
def dirOf (n : ℕ) : Fin 2 := ⟨n / 4 % 2, Nat.mod_lt _ (by decide)⟩
def pairOf (n : ℕ) : Fin 2 := ⟨n / 2 % 2, Nat.mod_lt _ (by decide)⟩
def headOf (n : ℕ) : Fin 2 := ⟨n % 2, Nat.mod_lt _ (by decide)⟩
/-- The first row of the chunk that step `n` works on: the second direction takes the chunks from the end. -/
def rowAt (n : ℕ) : ℕ := if n / 4 % 2 = 0 then 64 * (n / 8 % 8) else 64 * (7 - n / 8 % 8)

theorem rowAt_le (n : ℕ) : rowAt n + 64 ≤ 512 := by unfold rowAt; split <;> omega

/-- Step `n`'s rows of the tokens, 128 of their columns. -/
def ldP (n col : ℕ) (hcol : col + 128 ≤ 1664) : Vec F S1x64x128 .f32 :=
  if n / 4 % 2 = 0 then
    View.readAt (Elt F) arg2.view (Rect.unit (s := S1x512x1664) ![0, rowAt n, col] S1x64x128.size
      (by have := rowAt_le n; intro a; fin_cases a <;> simp [S1x64x128, S1x512x1664] <;> omega)).toLoadRect (harg2.unread x0)
  else
    View.readAt (Elt F) arg3.view (Rect.unit (s := S1x512x1664) ![0, rowAt n, col] S1x64x128.size
      (by have := rowAt_le n; intro a; fin_cases a <;> simp [S1x64x128, S1x512x1664] <;> omega)).toLoadRect (harg3.unread x1)

/-- Step `n`'s running sums, from the scratch. -/
def ldC (LT : List (View.Piece (Elt F) S2x512x256 .f32)) (n : ℕ) : Vec F S1x64x128 .f32 :=
  arg10.view.readCov LT (Rect.unit (s := S2x512x256) ![n / 4 % 2, rowAt n, 128 * (n / 2 % 2)] S1x64x128.size
    (by have := rowAt_le n; intro a; fin_cases a <;> simp [S1x64x128, S2x512x256] <;> omega)).toLoadRect

/-- Where step `n` stores its head's state. -/
def stRect (n : ℕ) : Rect S1x2x2x256x128 :=
  Rect.unit ![0, n / 4 % 2, n / 2 % 2, 128 * (n % 2), 0] S1x1x1x128x128.size
    (by intro a; fin_cases a <;> simp [S1x1x1x128x128, S1x2x2x256x128] <;> omega)
/-- A pair's whole state. -/
def prRect (n : ℕ) : Rect S1x2x2x256x128 :=
  Rect.unit ![0, n / 4 % 2, n / 2 % 2, 0, 0] S1x1x1x256x128.size
    (by intro a; fin_cases a <;> simp [S1x1x1x256x128, S1x2x2x256x128] <;> omega)
/-- Where step `n` stores its pair's outputs. -/
def yRect (n : ℕ) : Rect S1x512x512 :=
  Rect.unit ![0, rowAt n, 256 * (n / 2 % 2)] S1x64x256.size
    (by have := rowAt_le n; intro a; fin_cases a <;> simp [S1x64x256, S1x512x512] <;> omega)

/-- A load of the state at a step, from the pieces stored before it. -/
abbrev StLoad (F : FTy → Type) [FloatOps F] :=
  (n : ℕ) → List (View.Piece (Elt F) S1x2x2x256x128 .f32) → (B : LoadRect S1x2x2x256x128) → B.shape.Idx → Elt F .f32

/-- Step `n` puts its head's new state before the pieces `L`. -/
def stStep (ld : StLoad F) (LT : List (View.Piece (Elt F) S2x512x256 .f32)) (n : ℕ) (L : List (View.Piece (Elt F) S1x2x2x256x128 .f32)) :
    List (View.Piece (Elt F) S1x2x2x256x128 .f32) :=
  ⟨stRect n, unitS (dirOf n) (headOf n) (ldC arg10 LT n) (ldP arg2 harg2 arg3 harg3 x0 x1 n (256 + 128 * (n / 2 % 2)) (by omega))
    (ldP arg2 harg2 arg3 harg3 x0 x1 n (512 + 128 * (n % 4)) (by omega)) (ld n L (stRect n).toLoadRect)⟩ :: L

/-- The state's pieces after `n` steps, where a load is `ld`. -/
def stL (ld : StLoad F) (base : List (View.Piece (Elt F) S1x2x2x256x128 .f32)) (LT : List (View.Piece (Elt F) S2x512x256 .f32)) :
    ℕ → List (View.Piece (Elt F) S1x2x2x256x128 .f32)
  | 0 => base
  | n + 1 => stStep arg2 harg2 arg3 harg3 arg10 x0 x1 ld LT n (stL ld base LT n)

/-- The pair's outputs that are stored before step `n`, where the state's pieces are `L`. -/
def yPiece (ld : StLoad F) (LT : List (View.Piece (Elt F) S2x512x256 .f32)) (n : ℕ) (L : List (View.Piece (Elt F) S1x2x2x256x128 .f32)) :
    View.Piece (Elt F) S1x512x512 .f32 :=
  ⟨yRect n, unitY (dirOf n) (ldC arg10 LT n)
    (ldP arg2 harg2 arg3 harg3 x0 x1 n (128 * (n / 2 % 2)) (by omega))
    (ldP arg2 harg2 arg3 harg3 x0 x1 n (256 + 128 * (n / 2 % 2)) (by omega))
    (ldP arg2 harg2 arg3 harg3 x0 x1 n (512 + 256 * (n / 2 % 2)) (by omega))
    (ldP arg2 harg2 arg3 harg3 x0 x1 n (640 + 256 * (n / 2 % 2)) (by omega))
    (ld n L (prRect n).toLoadRect)⟩

/-- The step before which direction `d` stores its `k`-th outputs, of sixteen. -/
def yOf (d k : ℕ) : ℕ := 8 * (k / 2) + 4 * d + 2 * (k % 2)

/-- Direction `d`'s outputs' pieces after `k` stores. -/
def yL (ld : StLoad F) (LT : List (View.Piece (Elt F) S2x512x256 .f32)) (L : ℕ → List (View.Piece (Elt F) S1x2x2x256x128 .f32)) (d : ℕ) :
    ℕ → List (View.Piece (Elt F) S1x512x512 .f32)
  | 0 => []
  | k + 1 => yPiece arg2 harg2 arg3 harg3 arg10 x0 x1 ld LT (yOf d k) (L (yOf d k)) :: yL ld LT L d k

/-- A load in case B: from the contents before in the first chunk, later from the pieces stored. -/
def ldB : StLoad F := fun n L B =>
  if n / 8 = 0 then View.readAt (Elt F) arg9.view B (harg9.unread xo7) else arg9.view.readCov L B

/-- A load in case A: from the pieces stored. -/
def ldA : StLoad F := fun _ L B => arg9.view.readCov L B

/-- The entry of a list of lists. -/
def pick {α : Type} : List (List α) → ℕ → List α
  | [], _ => []
  | a :: _, 0 => a
  | _ :: t, n + 1 => pick t n

/-- The state's pieces that the run of case B has before each step from the second chunk on. -/
def listsB : List (List (View.Piece (Elt F) S1x2x2x256x128 .f32)) :=
  [kernelRun0_B.sl.H7_8 c arg2 harg2 arg3 harg3 arg4 harg4 arg5 harg5 arg9 harg9 arg10 x0 x1 x2 x3 xo7,
    kernelRun0_B.sl.H7_9 c arg2 harg2 arg3 harg3 arg4 harg4 arg5 harg5 arg9 harg9 arg10 x0 x1 x2 x3 xo7,
    kernelRun0_B.sl.H7_10 c arg2 harg2 arg3 harg3 arg4 harg4 arg5 harg5 arg9 harg9 arg10 x0 x1 x2 x3 xo7,
    kernelRun0_B.sl.H7_11 c arg2 harg2 arg3 harg3 arg4 harg4 arg5 harg5 arg9 harg9 arg10 x0 x1 x2 x3 xo7,
    kernelRun0_B.sl.H7_12 c arg2 harg2 arg3 harg3 arg4 harg4 arg5 harg5 arg9 harg9 arg10 x0 x1 x2 x3 xo7,
    kernelRun0_B.sl.H7_13 c arg2 harg2 arg3 harg3 arg4 harg4 arg5 harg5 arg9 harg9 arg10 x0 x1 x2 x3 xo7,
    kernelRun0_B.sl.H7_14 c arg2 harg2 arg3 harg3 arg4 harg4 arg5 harg5 arg9 harg9 arg10 x0 x1 x2 x3 xo7,
    kernelRun0_B.sl.H7_15 c arg2 harg2 arg3 harg3 arg4 harg4 arg5 harg5 arg9 harg9 arg10 x0 x1 x2 x3 xo7,
    kernelRun0_B.sl.H7_16 c arg2 harg2 arg3 harg3 arg4 harg4 arg5 harg5 arg9 harg9 arg10 x0 x1 x2 x3 xo7,
    kernelRun0_B.sl.H7_17 c arg2 harg2 arg3 harg3 arg4 harg4 arg5 harg5 arg9 harg9 arg10 x0 x1 x2 x3 xo7,
    kernelRun0_B.sl.H7_18 c arg2 harg2 arg3 harg3 arg4 harg4 arg5 harg5 arg9 harg9 arg10 x0 x1 x2 x3 xo7,
    kernelRun0_B.sl.H7_19 c arg2 harg2 arg3 harg3 arg4 harg4 arg5 harg5 arg9 harg9 arg10 x0 x1 x2 x3 xo7,
    kernelRun0_B.sl.H7_20 c arg2 harg2 arg3 harg3 arg4 harg4 arg5 harg5 arg9 harg9 arg10 x0 x1 x2 x3 xo7,
    kernelRun0_B.sl.H7_21 c arg2 harg2 arg3 harg3 arg4 harg4 arg5 harg5 arg9 harg9 arg10 x0 x1 x2 x3 xo7,
    kernelRun0_B.sl.H7_22 c arg2 harg2 arg3 harg3 arg4 harg4 arg5 harg5 arg9 harg9 arg10 x0 x1 x2 x3 xo7,
    kernelRun0_B.sl.H7_23 c arg2 harg2 arg3 harg3 arg4 harg4 arg5 harg5 arg9 harg9 arg10 x0 x1 x2 x3 xo7,
    kernelRun0_B.sl.H7_24 c arg2 harg2 arg3 harg3 arg4 harg4 arg5 harg5 arg9 harg9 arg10 x0 x1 x2 x3 xo7,
    kernelRun0_B.sl.H7_25 c arg2 harg2 arg3 harg3 arg4 harg4 arg5 harg5 arg9 harg9 arg10 x0 x1 x2 x3 xo7,
    kernelRun0_B.sl.H7_26 c arg2 harg2 arg3 harg3 arg4 harg4 arg5 harg5 arg9 harg9 arg10 x0 x1 x2 x3 xo7,
    kernelRun0_B.sl.H7_27 c arg2 harg2 arg3 harg3 arg4 harg4 arg5 harg5 arg9 harg9 arg10 x0 x1 x2 x3 xo7,
    kernelRun0_B.sl.H7_28 c arg2 harg2 arg3 harg3 arg4 harg4 arg5 harg5 arg9 harg9 arg10 x0 x1 x2 x3 xo7,
    kernelRun0_B.sl.H7_29 c arg2 harg2 arg3 harg3 arg4 harg4 arg5 harg5 arg9 harg9 arg10 x0 x1 x2 x3 xo7,
    kernelRun0_B.sl.H7_30 c arg2 harg2 arg3 harg3 arg4 harg4 arg5 harg5 arg9 harg9 arg10 x0 x1 x2 x3 xo7,
    kernelRun0_B.sl.H7_31 c arg2 harg2 arg3 harg3 arg4 harg4 arg5 harg5 arg9 harg9 arg10 x0 x1 x2 x3 xo7,
    kernelRun0_B.sl.H7_32 c arg2 harg2 arg3 harg3 arg4 harg4 arg5 harg5 arg9 harg9 arg10 x0 x1 x2 x3 xo7,
    kernelRun0_B.sl.H7_33 c arg2 harg2 arg3 harg3 arg4 harg4 arg5 harg5 arg9 harg9 arg10 x0 x1 x2 x3 xo7,
    kernelRun0_B.sl.H7_34 c arg2 harg2 arg3 harg3 arg4 harg4 arg5 harg5 arg9 harg9 arg10 x0 x1 x2 x3 xo7,
    kernelRun0_B.sl.H7_35 c arg2 harg2 arg3 harg3 arg4 harg4 arg5 harg5 arg9 harg9 arg10 x0 x1 x2 x3 xo7,
    kernelRun0_B.sl.H7_36 c arg2 harg2 arg3 harg3 arg4 harg4 arg5 harg5 arg9 harg9 arg10 x0 x1 x2 x3 xo7,
    kernelRun0_B.sl.H7_37 c arg2 harg2 arg3 harg3 arg4 harg4 arg5 harg5 arg9 harg9 arg10 x0 x1 x2 x3 xo7,
    kernelRun0_B.sl.H7_38 c arg2 harg2 arg3 harg3 arg4 harg4 arg5 harg5 arg9 harg9 arg10 x0 x1 x2 x3 xo7,
    kernelRun0_B.sl.H7_39 c arg2 harg2 arg3 harg3 arg4 harg4 arg5 harg5 arg9 harg9 arg10 x0 x1 x2 x3 xo7,
    kernelRun0_B.sl.H7_40 c arg2 harg2 arg3 harg3 arg4 harg4 arg5 harg5 arg9 harg9 arg10 x0 x1 x2 x3 xo7,
    kernelRun0_B.sl.H7_41 c arg2 harg2 arg3 harg3 arg4 harg4 arg5 harg5 arg9 harg9 arg10 x0 x1 x2 x3 xo7,
    kernelRun0_B.sl.H7_42 c arg2 harg2 arg3 harg3 arg4 harg4 arg5 harg5 arg9 harg9 arg10 x0 x1 x2 x3 xo7,
    kernelRun0_B.sl.H7_43 c arg2 harg2 arg3 harg3 arg4 harg4 arg5 harg5 arg9 harg9 arg10 x0 x1 x2 x3 xo7,
    kernelRun0_B.sl.H7_44 c arg2 harg2 arg3 harg3 arg4 harg4 arg5 harg5 arg9 harg9 arg10 x0 x1 x2 x3 xo7,
    kernelRun0_B.sl.H7_45 c arg2 harg2 arg3 harg3 arg4 harg4 arg5 harg5 arg9 harg9 arg10 x0 x1 x2 x3 xo7,
    kernelRun0_B.sl.H7_46 c arg2 harg2 arg3 harg3 arg4 harg4 arg5 harg5 arg9 harg9 arg10 x0 x1 x2 x3 xo7,
    kernelRun0_B.sl.H7_47 c arg2 harg2 arg3 harg3 arg4 harg4 arg5 harg5 arg9 harg9 arg10 x0 x1 x2 x3 xo7,
    kernelRun0_B.sl.H7_48 c arg2 harg2 arg3 harg3 arg4 harg4 arg5 harg5 arg9 harg9 arg10 x0 x1 x2 x3 xo7,
    kernelRun0_B.sl.H7_49 c arg2 harg2 arg3 harg3 arg4 harg4 arg5 harg5 arg9 harg9 arg10 x0 x1 x2 x3 xo7,
    kernelRun0_B.sl.H7_50 c arg2 harg2 arg3 harg3 arg4 harg4 arg5 harg5 arg9 harg9 arg10 x0 x1 x2 x3 xo7,
    kernelRun0_B.sl.H7_51 c arg2 harg2 arg3 harg3 arg4 harg4 arg5 harg5 arg9 harg9 arg10 x0 x1 x2 x3 xo7,
    kernelRun0_B.sl.H7_52 c arg2 harg2 arg3 harg3 arg4 harg4 arg5 harg5 arg9 harg9 arg10 x0 x1 x2 x3 xo7,
    kernelRun0_B.sl.H7_53 c arg2 harg2 arg3 harg3 arg4 harg4 arg5 harg5 arg9 harg9 arg10 x0 x1 x2 x3 xo7,
    kernelRun0_B.sl.H7_54 c arg2 harg2 arg3 harg3 arg4 harg4 arg5 harg5 arg9 harg9 arg10 x0 x1 x2 x3 xo7,
    kernelRun0_B.sl.H7_55 c arg2 harg2 arg3 harg3 arg4 harg4 arg5 harg5 arg9 harg9 arg10 x0 x1 x2 x3 xo7,
    kernelRun0_B.sl.H7_56 c arg2 harg2 arg3 harg3 arg4 harg4 arg5 harg5 arg9 harg9 arg10 x0 x1 x2 x3 xo7,
    kernelRun0_B.sl.H7_57 c arg2 harg2 arg3 harg3 arg4 harg4 arg5 harg5 arg9 harg9 arg10 x0 x1 x2 x3 xo7,
    kernelRun0_B.sl.H7_58 c arg2 harg2 arg3 harg3 arg4 harg4 arg5 harg5 arg9 harg9 arg10 x0 x1 x2 x3 xo7,
    kernelRun0_B.sl.H7_59 c arg2 harg2 arg3 harg3 arg4 harg4 arg5 harg5 arg9 harg9 arg10 x0 x1 x2 x3 xo7,
    kernelRun0_B.sl.H7_60 c arg2 harg2 arg3 harg3 arg4 harg4 arg5 harg5 arg9 harg9 arg10 x0 x1 x2 x3 xo7,
    kernelRun0_B.sl.H7_61 c arg2 harg2 arg3 harg3 arg4 harg4 arg5 harg5 arg9 harg9 arg10 x0 x1 x2 x3 xo7,
    kernelRun0_B.sl.H7_62 c arg2 harg2 arg3 harg3 arg4 harg4 arg5 harg5 arg9 harg9 arg10 x0 x1 x2 x3 xo7,
    kernelRun0_B.sl.H7_63 c arg2 harg2 arg3 harg3 arg4 harg4 arg5 harg5 arg9 harg9 arg10 x0 x1 x2 x3 xo7]

/-- The scratch's pieces. -/
abbrev cumL := kernelRun0_B.sl.HS0_2 c arg2 harg2 arg3 harg3 arg4 harg4 arg5 harg5 x0 x1 x2 x3

theorem firstB : kernelRun0_B.sl.H7_8 c arg2 harg2 arg3 harg3 arg4 harg4 arg5 harg5 arg9 harg9 arg10 x0 x1 x2 x3 xo7
    = stL arg2 harg2 arg3 harg3 arg10 x0 x1 (ldB arg9 harg9 xo7) []
      (cumL c arg2 harg2 arg3 harg3 arg4 harg4 arg5 harg5 x0 x1 x2 x3) 8 := rfl

/-- Each list of the run is the one before with a step's piece. -/
theorem stepsB (n : ℕ) (h0 : 8 ≤ n) (h : n < 63) :
    pick (listsB c arg2 harg2 arg3 harg3 arg4 harg4 arg5 harg5 arg9 harg9 arg10 x0 x1 x2 x3 xo7) (n + 1 - 8)
      = stStep arg2 harg2 arg3 harg3 arg10 x0 x1 (ldB arg9 harg9 xo7) (cumL c arg2 harg2 arg3 harg3 arg4 harg4 arg5 harg5 x0 x1 x2 x3) n
        (pick (listsB c arg2 harg2 arg3 harg3 arg4 harg4 arg5 harg5 arg9 harg9 arg10 x0 x1 x2 x3 xo7) (n - 8)) := by
  interval_cases n <;> rfl

variable (i : grid0.Coords) (arg6 : Memref sig .tc .vmem S1x2x2x256x128 .f32) (harg6 : arg6.IsWhole) (arg7 : Memref sig .tc .vmem S1x512x512 .f32) (harg7 : arg7.IsWhole) (arg8 : Memref sig .tc .vmem S1x512x512 .f32) (harg8 : arg8.IsWhole)
  (harg10 : arg10.IsWhole)

theorem lastB (hc0 : ¬cond0_0 i) :
    (kernelRun0_B c i arg2 harg2 arg3 harg3 arg4 harg4 arg5 harg5 arg6 harg6 arg7 harg7 arg8 harg8 arg9 harg9 arg10 harg10 hc0 x0 x1 x2 x3 x4 xo7).2.2.1
    = stStep arg2 harg2 arg3 harg3 arg10 x0 x1 (ldB arg9 harg9 xo7) (cumL c arg2 harg2 arg3 harg3 arg4 harg4 arg5 harg5 x0 x1 x2 x3) 63
        (pick (listsB c arg2 harg2 arg3 harg3 arg4 harg4 arg5 harg5 arg9 harg9 arg10 x0 x1 x2 x3 xo7) (63 - 8)) := rfl

theorem outs5B (hc0 : ¬cond0_0 i) :
    (kernelRun0_B c i arg2 harg2 arg3 harg3 arg4 harg4 arg5 harg5 arg6 harg6 arg7 harg7 arg8 harg8 arg9 harg9 arg10 harg10 hc0 x0 x1 x2 x3 x4 xo7).1
    = yL arg2 harg2 arg3 harg3 arg10 x0 x1 (ldB arg9 harg9 xo7) (cumL c arg2 harg2 arg3 harg3 arg4 harg4 arg5 harg5 x0 x1 x2 x3)
        (fun n => pick (listsB c arg2 harg2 arg3 harg3 arg4 harg4 arg5 harg5 arg9 harg9 arg10 x0 x1 x2 x3 xo7) (n - 8)) 0 16 := rfl

theorem outs6B (hc0 : ¬cond0_0 i) :
    (kernelRun0_B c i arg2 harg2 arg3 harg3 arg4 harg4 arg5 harg5 arg6 harg6 arg7 harg7 arg8 harg8 arg9 harg9 arg10 harg10 hc0 x0 x1 x2 x3 x4 xo7).2.1
    = yL arg2 harg2 arg3 harg3 arg10 x0 x1 (ldB arg9 harg9 xo7) (cumL c arg2 harg2 arg3 harg3 arg4 harg4 arg5 harg5 x0 x1 x2 x3)
        (fun n => pick (listsB c arg2 harg2 arg3 harg3 arg4 harg4 arg5 harg5 arg9 harg9 arg10 x0 x1 x2 x3 xo7) (n - 8)) 1 16 := rfl

/-- The scratch's pieces in case A. -/
abbrev cumA := kernelRun0_A.sl.HS0_2 c arg2 harg2 arg3 harg3 arg4 harg4 arg5 harg5 x0 x1 x2 x3

theorem cumA_eq : cumA c arg2 harg2 arg3 harg3 arg4 harg4 arg5 harg5 x0 x1 x2 x3 = cumL c arg2 harg2 arg3 harg3 arg4 harg4 arg5 harg5 x0 x1 x2 x3 := rfl

/-- The state's pieces that the run of case A has before each step. -/
def listsA : List (List (View.Piece (Elt F) S1x2x2x256x128 .f32)) :=
  [kernelRun0_A.sl.H7_1 c arg6 harg6 x4,
    kernelRun0_A.sl.H7_2 c arg2 harg2 arg3 harg3 arg4 harg4 arg5 harg5 arg6 harg6 arg9 arg10 x0 x1 x2 x3 x4,
    kernelRun0_A.sl.H7_3 c arg2 harg2 arg3 harg3 arg4 harg4 arg5 harg5 arg6 harg6 arg9 arg10 x0 x1 x2 x3 x4,
    kernelRun0_A.sl.H7_4 c arg2 harg2 arg3 harg3 arg4 harg4 arg5 harg5 arg6 harg6 arg9 arg10 x0 x1 x2 x3 x4,
    kernelRun0_A.sl.H7_5 c arg2 harg2 arg3 harg3 arg4 harg4 arg5 harg5 arg6 harg6 arg9 arg10 x0 x1 x2 x3 x4,
    kernelRun0_A.sl.H7_6 c arg2 harg2 arg3 harg3 arg4 harg4 arg5 harg5 arg6 harg6 arg9 arg10 x0 x1 x2 x3 x4,
    kernelRun0_A.sl.H7_7 c arg2 harg2 arg3 harg3 arg4 harg4 arg5 harg5 arg6 harg6 arg9 arg10 x0 x1 x2 x3 x4,
    kernelRun0_A.sl.H7_8 c arg2 harg2 arg3 harg3 arg4 harg4 arg5 harg5 arg6 harg6 arg9 arg10 x0 x1 x2 x3 x4,
    kernelRun0_A.sl.H7_9 c arg2 harg2 arg3 harg3 arg4 harg4 arg5 harg5 arg6 harg6 arg9 arg10 x0 x1 x2 x3 x4,
    kernelRun0_A.sl.H7_10 c arg2 harg2 arg3 harg3 arg4 harg4 arg5 harg5 arg6 harg6 arg9 arg10 x0 x1 x2 x3 x4,
    kernelRun0_A.sl.H7_11 c arg2 harg2 arg3 harg3 arg4 harg4 arg5 harg5 arg6 harg6 arg9 arg10 x0 x1 x2 x3 x4,
    kernelRun0_A.sl.H7_12 c arg2 harg2 arg3 harg3 arg4 harg4 arg5 harg5 arg6 harg6 arg9 arg10 x0 x1 x2 x3 x4,
    kernelRun0_A.sl.H7_13 c arg2 harg2 arg3 harg3 arg4 harg4 arg5 harg5 arg6 harg6 arg9 arg10 x0 x1 x2 x3 x4,
    kernelRun0_A.sl.H7_14 c arg2 harg2 arg3 harg3 arg4 harg4 arg5 harg5 arg6 harg6 arg9 arg10 x0 x1 x2 x3 x4,
    kernelRun0_A.sl.H7_15 c arg2 harg2 arg3 harg3 arg4 harg4 arg5 harg5 arg6 harg6 arg9 arg10 x0 x1 x2 x3 x4,
    kernelRun0_A.sl.H7_16 c arg2 harg2 arg3 harg3 arg4 harg4 arg5 harg5 arg6 harg6 arg9 arg10 x0 x1 x2 x3 x4,
    kernelRun0_A.sl.H7_17 c arg2 harg2 arg3 harg3 arg4 harg4 arg5 harg5 arg6 harg6 arg9 arg10 x0 x1 x2 x3 x4,
    kernelRun0_A.sl.H7_18 c arg2 harg2 arg3 harg3 arg4 harg4 arg5 harg5 arg6 harg6 arg9 arg10 x0 x1 x2 x3 x4,
    kernelRun0_A.sl.H7_19 c arg2 harg2 arg3 harg3 arg4 harg4 arg5 harg5 arg6 harg6 arg9 arg10 x0 x1 x2 x3 x4,
    kernelRun0_A.sl.H7_20 c arg2 harg2 arg3 harg3 arg4 harg4 arg5 harg5 arg6 harg6 arg9 arg10 x0 x1 x2 x3 x4,
    kernelRun0_A.sl.H7_21 c arg2 harg2 arg3 harg3 arg4 harg4 arg5 harg5 arg6 harg6 arg9 arg10 x0 x1 x2 x3 x4,
    kernelRun0_A.sl.H7_22 c arg2 harg2 arg3 harg3 arg4 harg4 arg5 harg5 arg6 harg6 arg9 arg10 x0 x1 x2 x3 x4,
    kernelRun0_A.sl.H7_23 c arg2 harg2 arg3 harg3 arg4 harg4 arg5 harg5 arg6 harg6 arg9 arg10 x0 x1 x2 x3 x4,
    kernelRun0_A.sl.H7_24 c arg2 harg2 arg3 harg3 arg4 harg4 arg5 harg5 arg6 harg6 arg9 arg10 x0 x1 x2 x3 x4,
    kernelRun0_A.sl.H7_25 c arg2 harg2 arg3 harg3 arg4 harg4 arg5 harg5 arg6 harg6 arg9 arg10 x0 x1 x2 x3 x4,
    kernelRun0_A.sl.H7_26 c arg2 harg2 arg3 harg3 arg4 harg4 arg5 harg5 arg6 harg6 arg9 arg10 x0 x1 x2 x3 x4,
    kernelRun0_A.sl.H7_27 c arg2 harg2 arg3 harg3 arg4 harg4 arg5 harg5 arg6 harg6 arg9 arg10 x0 x1 x2 x3 x4,
    kernelRun0_A.sl.H7_28 c arg2 harg2 arg3 harg3 arg4 harg4 arg5 harg5 arg6 harg6 arg9 arg10 x0 x1 x2 x3 x4,
    kernelRun0_A.sl.H7_29 c arg2 harg2 arg3 harg3 arg4 harg4 arg5 harg5 arg6 harg6 arg9 arg10 x0 x1 x2 x3 x4,
    kernelRun0_A.sl.H7_30 c arg2 harg2 arg3 harg3 arg4 harg4 arg5 harg5 arg6 harg6 arg9 arg10 x0 x1 x2 x3 x4,
    kernelRun0_A.sl.H7_31 c arg2 harg2 arg3 harg3 arg4 harg4 arg5 harg5 arg6 harg6 arg9 arg10 x0 x1 x2 x3 x4,
    kernelRun0_A.sl.H7_32 c arg2 harg2 arg3 harg3 arg4 harg4 arg5 harg5 arg6 harg6 arg9 arg10 x0 x1 x2 x3 x4,
    kernelRun0_A.sl.H7_33 c arg2 harg2 arg3 harg3 arg4 harg4 arg5 harg5 arg6 harg6 arg9 arg10 x0 x1 x2 x3 x4,
    kernelRun0_A.sl.H7_34 c arg2 harg2 arg3 harg3 arg4 harg4 arg5 harg5 arg6 harg6 arg9 arg10 x0 x1 x2 x3 x4,
    kernelRun0_A.sl.H7_35 c arg2 harg2 arg3 harg3 arg4 harg4 arg5 harg5 arg6 harg6 arg9 arg10 x0 x1 x2 x3 x4,
    kernelRun0_A.sl.H7_36 c arg2 harg2 arg3 harg3 arg4 harg4 arg5 harg5 arg6 harg6 arg9 arg10 x0 x1 x2 x3 x4,
    kernelRun0_A.sl.H7_37 c arg2 harg2 arg3 harg3 arg4 harg4 arg5 harg5 arg6 harg6 arg9 arg10 x0 x1 x2 x3 x4,
    kernelRun0_A.sl.H7_38 c arg2 harg2 arg3 harg3 arg4 harg4 arg5 harg5 arg6 harg6 arg9 arg10 x0 x1 x2 x3 x4,
    kernelRun0_A.sl.H7_39 c arg2 harg2 arg3 harg3 arg4 harg4 arg5 harg5 arg6 harg6 arg9 arg10 x0 x1 x2 x3 x4,
    kernelRun0_A.sl.H7_40 c arg2 harg2 arg3 harg3 arg4 harg4 arg5 harg5 arg6 harg6 arg9 arg10 x0 x1 x2 x3 x4,
    kernelRun0_A.sl.H7_41 c arg2 harg2 arg3 harg3 arg4 harg4 arg5 harg5 arg6 harg6 arg9 arg10 x0 x1 x2 x3 x4,
    kernelRun0_A.sl.H7_42 c arg2 harg2 arg3 harg3 arg4 harg4 arg5 harg5 arg6 harg6 arg9 arg10 x0 x1 x2 x3 x4,
    kernelRun0_A.sl.H7_43 c arg2 harg2 arg3 harg3 arg4 harg4 arg5 harg5 arg6 harg6 arg9 arg10 x0 x1 x2 x3 x4,
    kernelRun0_A.sl.H7_44 c arg2 harg2 arg3 harg3 arg4 harg4 arg5 harg5 arg6 harg6 arg9 arg10 x0 x1 x2 x3 x4,
    kernelRun0_A.sl.H7_45 c arg2 harg2 arg3 harg3 arg4 harg4 arg5 harg5 arg6 harg6 arg9 arg10 x0 x1 x2 x3 x4,
    kernelRun0_A.sl.H7_46 c arg2 harg2 arg3 harg3 arg4 harg4 arg5 harg5 arg6 harg6 arg9 arg10 x0 x1 x2 x3 x4,
    kernelRun0_A.sl.H7_47 c arg2 harg2 arg3 harg3 arg4 harg4 arg5 harg5 arg6 harg6 arg9 arg10 x0 x1 x2 x3 x4,
    kernelRun0_A.sl.H7_48 c arg2 harg2 arg3 harg3 arg4 harg4 arg5 harg5 arg6 harg6 arg9 arg10 x0 x1 x2 x3 x4,
    kernelRun0_A.sl.H7_49 c arg2 harg2 arg3 harg3 arg4 harg4 arg5 harg5 arg6 harg6 arg9 arg10 x0 x1 x2 x3 x4,
    kernelRun0_A.sl.H7_50 c arg2 harg2 arg3 harg3 arg4 harg4 arg5 harg5 arg6 harg6 arg9 arg10 x0 x1 x2 x3 x4,
    kernelRun0_A.sl.H7_51 c arg2 harg2 arg3 harg3 arg4 harg4 arg5 harg5 arg6 harg6 arg9 arg10 x0 x1 x2 x3 x4,
    kernelRun0_A.sl.H7_52 c arg2 harg2 arg3 harg3 arg4 harg4 arg5 harg5 arg6 harg6 arg9 arg10 x0 x1 x2 x3 x4,
    kernelRun0_A.sl.H7_53 c arg2 harg2 arg3 harg3 arg4 harg4 arg5 harg5 arg6 harg6 arg9 arg10 x0 x1 x2 x3 x4,
    kernelRun0_A.sl.H7_54 c arg2 harg2 arg3 harg3 arg4 harg4 arg5 harg5 arg6 harg6 arg9 arg10 x0 x1 x2 x3 x4,
    kernelRun0_A.sl.H7_55 c arg2 harg2 arg3 harg3 arg4 harg4 arg5 harg5 arg6 harg6 arg9 arg10 x0 x1 x2 x3 x4,
    kernelRun0_A.sl.H7_56 c arg2 harg2 arg3 harg3 arg4 harg4 arg5 harg5 arg6 harg6 arg9 arg10 x0 x1 x2 x3 x4,
    kernelRun0_A.sl.H7_57 c arg2 harg2 arg3 harg3 arg4 harg4 arg5 harg5 arg6 harg6 arg9 arg10 x0 x1 x2 x3 x4,
    kernelRun0_A.sl.H7_58 c arg2 harg2 arg3 harg3 arg4 harg4 arg5 harg5 arg6 harg6 arg9 arg10 x0 x1 x2 x3 x4,
    kernelRun0_A.sl.H7_59 c arg2 harg2 arg3 harg3 arg4 harg4 arg5 harg5 arg6 harg6 arg9 arg10 x0 x1 x2 x3 x4,
    kernelRun0_A.sl.H7_60 c arg2 harg2 arg3 harg3 arg4 harg4 arg5 harg5 arg6 harg6 arg9 arg10 x0 x1 x2 x3 x4,
    kernelRun0_A.sl.H7_61 c arg2 harg2 arg3 harg3 arg4 harg4 arg5 harg5 arg6 harg6 arg9 arg10 x0 x1 x2 x3 x4,
    kernelRun0_A.sl.H7_62 c arg2 harg2 arg3 harg3 arg4 harg4 arg5 harg5 arg6 harg6 arg9 arg10 x0 x1 x2 x3 x4,
    kernelRun0_A.sl.H7_63 c arg2 harg2 arg3 harg3 arg4 harg4 arg5 harg5 arg6 harg6 arg9 arg10 x0 x1 x2 x3 x4,
    kernelRun0_A.sl.H7_64 c arg2 harg2 arg3 harg3 arg4 harg4 arg5 harg5 arg6 harg6 arg9 arg10 x0 x1 x2 x3 x4]

/-- The first is the incoming state, whole. -/
theorem firstA : pick (listsA c arg2 harg2 arg3 harg3 arg4 harg4 arg5 harg5 arg9 arg10 x0 x1 x2 x3 x4 arg6 harg6) 0 = [⟨Rect.unit ![0, 0, 0, 0, 0] S1x2x2x256x128.size inb_S1x2x2x256x128_S1x2x2x256x128_0_0_0_0_0,
    k0_pay2 (View.readAt (Elt F) arg6.view (Rect.unit ![0, 0, 0, 0, 0] S1x2x2x256x128.size inb_S1x2x2x256x128_S1x2x2x256x128_0_0_0_0_0).toLoadRect (harg6.unread x4))⟩] := rfl

theorem stepsA (n : ℕ) (h : n < 63) :
    pick (listsA c arg2 harg2 arg3 harg3 arg4 harg4 arg5 harg5 arg9 arg10 x0 x1 x2 x3 x4 arg6 harg6) (n + 1)
      = stStep arg2 harg2 arg3 harg3 arg10 x0 x1 (ldA arg9) (cumA c arg2 harg2 arg3 harg3 arg4 harg4 arg5 harg5 x0 x1 x2 x3) n
        (pick (listsA c arg2 harg2 arg3 harg3 arg4 harg4 arg5 harg5 arg9 arg10 x0 x1 x2 x3 x4 arg6 harg6) n) := by
  interval_cases n <;> rfl

theorem outs5A (hc0 : cond0_0 i) :
    (kernelRun0_A c i arg2 harg2 arg3 harg3 arg4 harg4 arg5 harg5 arg6 harg6 arg7 harg7 arg8 harg8 arg9 harg9 arg10 harg10 hc0 x0 x1 x2 x3 x4).1
    = yL arg2 harg2 arg3 harg3 arg10 x0 x1 (ldA arg9) (cumA c arg2 harg2 arg3 harg3 arg4 harg4 arg5 harg5 x0 x1 x2 x3)
        (pick (listsA c arg2 harg2 arg3 harg3 arg4 harg4 arg5 harg5 arg9 arg10 x0 x1 x2 x3 x4 arg6 harg6)) 0 16 := rfl

theorem outs6A (hc0 : cond0_0 i) :
    (kernelRun0_A c i arg2 harg2 arg3 harg3 arg4 harg4 arg5 harg5 arg6 harg6 arg7 harg7 arg8 harg8 arg9 harg9 arg10 harg10 hc0 x0 x1 x2 x3 x4).2.1
    = yL arg2 harg2 arg3 harg3 arg10 x0 x1 (ldA arg9) (cumA c arg2 harg2 arg3 harg3 arg4 harg4 arg5 harg5 x0 x1 x2 x3)
        (pick (listsA c arg2 harg2 arg3 harg3 arg4 harg4 arg5 harg5 arg9 arg10 x0 x1 x2 x3 x4 arg6 harg6)) 1 16 := rfl

theorem lastA (hc0 : cond0_0 i) :
    (kernelRun0_A c i arg2 harg2 arg3 harg3 arg4 harg4 arg5 harg5 arg6 harg6 arg7 harg7 arg8 harg8 arg9 harg9 arg10 harg10 hc0 x0 x1 x2 x3 x4).2.2.1
    = stStep arg2 harg2 arg3 harg3 arg10 x0 x1 (ldA arg9) (cumA c arg2 harg2 arg3 harg3 arg4 harg4 arg5 harg5 x0 x1 x2 x3) 63
        (pick (listsA c arg2 harg2 arg3 harg3 arg4 harg4 arg5 harg5 arg9 arg10 x0 x1 x2 x3 x4 arg6 harg6) 63) := rfl

end Lists
end Cert.Gla
end
-- ==== Proof.ScanState.lean ====
/-
  What one block of the scan leaves, index by index: the state of each head after its chunks, and the chunks' outputs.
-/
module

public import proofs.«01_k».proof.Proof.ScanBody
public import Idealize.ShloMosaic.Lib.WholeRead

@[expose] public section

set_option maxRecDepth 16384

noncomputable section

namespace Cert.Gla

open Idealize.ShloMosaic Cert.KernelIdeal Cert.KernelIdeal.Gen

/-! ## Where the pieces lie -/

/-- Row `c`, lane `l` of a head's state. -/
def stIx (d hp h : Fin 2) (c l : Fin 128) : S1x2x2x256x128.Idx := ix5 0 d hp (vcol h c) l

theorem stRect_idx (n : ℕ) (c l : Fin 128) :
    (stRect n).toLoadRect.idx (ix5 0 0 0 c l : S1x1x1x128x128.Idx) = stIx (dirOf n) (pairOf n) (headOf n) c l := by
  funext a
  apply Fin.ext
  fin_cases a
  · rfl
  · rfl
  · rfl
  · show 128 * (n % 2) + 1 * c.val = 128 * (n % 2) + c.val
    omega
  · show 0 + 1 * l.val = l.val
    omega

theorem prRect_idx (n : ℕ) (h : Fin 2) (c l : Fin 128) :
    (prRect n).toLoadRect.idx (ix5 0 0 0 (vcol h c) l : S1x1x1x256x128.Idx) = stIx (dirOf n) (pairOf n) h c l := by
  funext a
  apply Fin.ext
  fin_cases a
  · rfl
  · rfl
  · rfl
  · show 0 + 1 * (vcol h c).val = (vcol h c).val
    omega
  · show 0 + 1 * l.val = l.val
    omega

/-- The number of a head among the eight. -/
def slot (d hp h : Fin 2) : ℕ := 4 * d.val + 2 * hp.val + h.val

theorem slot_lt (d hp h : Fin 2) : slot d hp h < 8 := by unfold slot; omega

theorem slot_step (n : ℕ) : slot (dirOf n) (pairOf n) (headOf n) = n % 8 := by
  simp only [slot, dirOf, pairOf, headOf]; omega

theorem slot_inj {d hp h d' hp' h' : Fin 2} (e : slot d hp h = slot d' hp' h') : d = d' ∧ hp = hp' ∧ h = h' := by
  simp only [slot] at e
  refine ⟨Fin.ext ?_, Fin.ext ?_, Fin.ext ?_⟩ <;> omega

theorem stRect_mem {n : ℕ} {d hp h : Fin 2} {c l : Fin 128} (hm : stIx d hp h c l ∈ (stRect n).set) : slot d hp h = n % 8 := by
  obtain ⟨j, hj⟩ := LoadRect.exists_idx_of_mem _ hm
  have h1 := congrArg (fun y : S1x2x2x256x128.Idx => (y 1).val) hj
  have h2 := congrArg (fun y : S1x2x2x256x128.Idx => (y 2).val) hj
  have h3 := congrArg (fun y : S1x2x2x256x128.Idx => (y 3).val) hj
  have j1 : (j 1).val < 1 := (j 1).isLt
  have j2 : (j 2).val < 1 := (j 2).isLt
  have j3 : (j 3).val < 128 := (j 3).isLt
  have c1 : n / 4 % 2 + 1 * (j 1).val = d.val := h1
  have c2 : n / 2 % 2 + 1 * (j 2).val = hp.val := h2
  have c3 : 128 * (n % 2) + 1 * (j 3).val = 128 * h.val + c.val := h3
  have := h.isLt
  have := c.isLt
  simp only [slot]; omega

/-! ## A block's rows -/

/-- The row of a block that direction `d` meets `l`-th in its chunk `c`. -/
def brow (d : Fin 2) (c : ℕ) (l : Fin 64) : Fin 512 :=
  ⟨(if d.val = 0 then 64 * (c % 8) else 64 * (7 - c % 8)) + (rowOf d l).val, by have := (rowOf d l).isLt; split <;> omega⟩

theorem rowAt_brow (n : ℕ) (l : Fin 64) : rowAt n + (rowOf (dirOf n) l).val = (brow (dirOf n) (n / 8) l).val := rfl

/-- Outside the last piece, the contents are those of the pieces before it. -/
theorem canon_skip {s : Shape} (p : View.Piece (Elt Ideal) s .f32) (L : List (View.Piece (Elt Ideal) s .f32)) (y : s.Idx)
    (h : y ∉ p.1.set) : View.canon (p :: L) y = View.canon L y :=
  View.canon_cons_of_not_mem p L h

section Block

variable (arg2 : Memref sig .tc .vmem S1x512x1664 .f32) (harg2 : arg2.IsWhole)
  (arg3 : Memref sig .tc .vmem S1x512x1664 .f32) (harg3 : arg3.IsWhole)
  (arg9 : Memref sig .tc .vmem S1x2x2x256x128 .f32) (harg9 : arg9.IsWhole) (arg10 : Memref sig .tc .vmem S2x512x256 .f32)
  (x0 x1 : Vec Ideal S1x512x1664 .f32) (X : Vec Ideal S1x2x2x256x128 .f32)
  (LT : List (View.Piece (Elt Ideal) S2x512x256 .f32))

/-- The tokens that a direction reads. -/
def tokB (d : Fin 2) : Vec Ideal S1x512x1664 .f32 := if d.val = 0 then x0 else x1

theorem ldP_at (n col : ℕ) (hcol : col + 128 ≤ 1664) (l : Fin 64) (j : Fin 128) :
    ldP arg2 harg2 arg3 harg3 x0 x1 n col hcol (ix3 0 (rowOf (dirOf n) l) j)
      = tokB x0 x1 (dirOf n) (ix3 0 (brow (dirOf n) (n / 8) l) ⟨col + j.val, by omega⟩) := by
  unfold ldP tokB
  have hd : (dirOf n).val = n / 4 % 2 := rfl
  rw [hd]
  split <;>
  · rw [Memref.IsWhole.readAt_unread]
    congr 1
    funext a
    apply Fin.ext
    fin_cases a
    · rfl
    · show rowAt n + 1 * (rowOf (dirOf n) l).val = _
      rw [Nat.one_mul, rowAt_brow]; rfl
    · show col + 1 * j.val = col + j.val
      omega

theorem ldC_at (n : ℕ) (l : Fin 64) (j : Fin 128) :
    ldC arg10 LT n (ix3 0 (rowOf (dirOf n) l) j)
      = View.canon LT (ix3 (dirOf n) (brow (dirOf n) (n / 8) l) ⟨128 * (pairOf n).val + j.val, by omega⟩ : S2x512x256.Idx) := by
  unfold ldC
  rw [View.readCov_eq_canon']
  refine congrArg (View.canon LT) ?_
  funext a
  apply Fin.ext
  fin_cases a
  · rfl
  · show rowAt n + 1 * (rowOf (dirOf n) l).val = _
    rw [Nat.one_mul, rowAt_brow]; rfl
  · show 128 * (n / 2 % 2) + 1 * j.val = 128 * (n / 2 % 2) + j.val
    omega

/-- A head's queries, keys, values and running sums in its direction's chunk `c`. -/
def qB (d hp h : Fin 2) (c : ℕ) (l κ : Fin 64) : EReal :=
  tokB x0 x1 d (ix3 0 (brow d c l) ⟨128 * hp.val + (lane h κ).val, by omega⟩) * scaleC
def kB (d hp h : Fin 2) (c : ℕ) (l κ : Fin 64) : EReal :=
  tokB x0 x1 d (ix3 0 (brow d c l) ⟨256 + 128 * hp.val + (lane h κ).val, by omega⟩)
def vB (d hp h : Fin 2) (c : ℕ) (l : Fin 64) (j : Fin 128) : EReal :=
  tokB x0 x1 d (ix3 0 (brow d c l) ⟨512 + 256 * hp.val + 128 * h.val + j.val, by omega⟩)
def cB (d hp h : Fin 2) (c : ℕ) (l κ : Fin 64) : EReal :=
  View.canon LT (ix3 d (brow d c l) ⟨128 * hp.val + (lane h κ).val, by omega⟩ : S2x512x256.Idx)

/-- A head's state after `c` chunks of the block. -/
def stB (S0 : Fin 2 → Fin 2 → Fin 2 → Fin 64 → Fin 128 → EReal) (d hp h : Fin 2) : ℕ → Fin 64 → Fin 128 → EReal
  | 0 => S0 d hp h
  | c + 1 => chunkState (cB LT d hp h c) (kB x0 x1 d hp h c) (vB x0 x1 d hp h c) (stB S0 d hp h c)

variable (S0 : Fin 2 → Fin 2 → Fin 2 → Fin 64 → Fin 128 → EReal)
  (hX : ∀ d hp h c h' κ, X (stIx d hp h c (lane h' κ)) = if h' = h then S0 d hp h κ c else 0)
  (ld : StLoad Ideal) (base : List (View.Piece (Elt Ideal) S1x2x2x256x128 .f32))
  (h0 : ∀ n < 8, ∀ (B : LoadRect S1x2x2x256x128) (j : B.shape.Idx) (d hp h : Fin 2) (c l : Fin 128), n ≤ slot d hp h →
    B.idx j = stIx d hp h c l → ld n (stL arg2 harg2 arg3 harg3 arg10 x0 x1 ld base LT n) B j = X (stIx d hp h c l))
  (h1 : ∀ n, 8 ≤ n → ∀ (L : List (View.Piece (Elt Ideal) S1x2x2x256x128 .f32)) (B : LoadRect S1x2x2x256x128) (j : B.shape.Idx),
    ld n L B j = View.canon L (B.idx j))

omit hX h0 h1 in
/-- A step leaves the other heads' states. -/
theorem stStep_skip (n : ℕ) (L : List (View.Piece (Elt Ideal) S1x2x2x256x128 .f32)) (y : S1x2x2x256x128.Idx) (h : y ∉ (stRect n).set) :
    View.canon (stStep arg2 harg2 arg3 harg3 arg10 x0 x1 ld LT n L) y = View.canon L y := by
  unfold stStep
  rw [canon_skip]
  exact h

include hX h0 h1 in
/-- A load of a head's state that the step's chunk has not yet updated, from what the pieces hold. -/
theorem load_at (n : ℕ)
    (ih : ∀ d hp h c h' κ, slot d hp h < n → View.canon (stL arg2 harg2 arg3 harg3 arg10 x0 x1 ld base LT n) (stIx d hp h c (lane h' κ))
      = if h' = h then stB x0 x1 LT S0 d hp h ((n + 7 - slot d hp h) / 8) κ c else 0)
    (B : LoadRect S1x2x2x256x128) (j : B.shape.Idx) (d hp h : Fin 2) (c : Fin 128) (h' : Fin 2) (κ : Fin 64) (hs : n % 8 ≤ slot d hp h)
    (hj : B.idx j = stIx d hp h c (lane h' κ)) :
    ld n (stL arg2 harg2 arg3 harg3 arg10 x0 x1 ld base LT n) B j = if h' = h then stB x0 x1 LT S0 d hp h (n / 8) κ c else 0 := by
  have hl := slot_lt d hp h
  by_cases hn : n < 8
  · rw [h0 n hn B j d hp h c _ (by omega) hj, hX, show n / 8 = 0 by omega]
    rfl
  · rw [h1 n (by omega), hj, ih d hp h c h' κ (by omega), show (n + 7 - slot d hp h) / 8 = n / 8 by omega]

include hX h0 h1 in
/-- After `n` steps a head that has been updated holds its state after as many chunks as have updated it, in its own lanes. -/
theorem state_canon (n : ℕ) : ∀ d hp h c h' κ, slot d hp h < n → View.canon (stL arg2 harg2 arg3 harg3 arg10 x0 x1 ld base LT n) (stIx d hp h c (lane h' κ))
    = if h' = h then stB x0 x1 LT S0 d hp h ((n + 7 - slot d hp h) / 8) κ c else 0 := by
  induction n with
  | zero => intro d hp h c h' κ hs; omega
  | succ n ih =>
    intro d hp h c h' κ hs
    have hl := slot_lt d hp h
    by_cases hm : slot d hp h = n % 8
    · obtain ⟨rfl, rfl, rfl⟩ := slot_inj (hm.trans (slot_step n).symm)
      rw [show (n + 1 + 7 - slot (dirOf n) (pairOf n) (headOf n)) / 8 = n / 8 + 1 by rw [hm]; omega]
      show View.canon (stStep arg2 harg2 arg3 harg3 arg10 x0 x1 ld LT n (stL arg2 harg2 arg3 harg3 arg10 x0 x1 ld base LT n)) _ = _
      unfold stStep
      rw [← stRect_idx]
      refine (View.canon_cons_emb (stRect n) _ _ _).trans ?_
      rw [unitS_at (S := stB x0 x1 LT S0 (dirOf n) (pairOf n) (headOf n) (n / 8))
        (hst := fun c h' κ => load_at arg2 harg2 arg3 harg3 arg10 x0 x1 X LT S0 hX ld base h0 h1 n ih _ _ _ _ _ c h' κ (by rw [hm]) (stRect_idx n c _))]
      refine if_congr Iff.rfl ?_ rfl
      rw [stB]
      congr 1
      · funext l κ
        rw [ldC_at]; rfl
      · funext l κ
        rw [ldP_at]; rfl
      · funext l c
        rw [ldP_at]
        unfold vB
        congr 2
        apply Fin.ext
        simp only [pairOf, headOf]
        omega
    · have hnm : stIx d hp h c (lane h' κ) ∉ (stRect n).set := fun h => hm (stRect_mem h)
      rw [stL, stStep_skip arg2 harg2 arg3 harg3 arg10 x0 x1 LT ld n _ _ hnm, ih d hp h c h' κ (by omega)]
      rw [show (n + 1 + 7 - slot d hp h) / 8 = (n + 7 - slot d hp h) / 8 by omega]

/-! ## The outputs -/

/-- The place of head `h`'s value column `c` of pair `hp` at the row that the direction meets `l`-th in its chunk. -/
def yIx (d hp h : Fin 2) (ch : ℕ) (l : Fin 64) (c : Fin 128) : S1x512x512.Idx :=
  ix3 0 (brow d ch l) ⟨256 * hp.val + (vcol h c).val, by omega⟩

theorem yRect_idx (n : ℕ) (h : Fin 2) (l : Fin 64) (c : Fin 128) :
    (yRect n).toLoadRect.idx (ix3 0 (rowOf (dirOf n) l) (vcol h c) : S1x64x256.Idx) = yIx (dirOf n) (pairOf n) h (n / 8) l c := by
  funext a
  apply Fin.ext
  fin_cases a
  · rfl
  · show rowAt n + 1 * (rowOf (dirOf n) l).val = _
    rw [Nat.one_mul, rowAt_brow]; rfl
  · show 256 * (n / 2 % 2) + 1 * (vcol h c).val = 256 * (n / 2 % 2) + (vcol h c).val
    omega

theorem yRect_mem {n ch : ℕ} {d hp h : Fin 2} {l : Fin 64} {c : Fin 128} (hn : n < 64) (hch : ch < 8) (hd : d = dirOf n)
    (hm : yIx d hp h ch l c ∈ (yRect n).set) : n / 8 = ch ∧ pairOf n = hp := by
  obtain ⟨j, hj⟩ := LoadRect.exists_idx_of_mem _ hm
  have h1 := congrArg (fun y : S1x512x512.Idx => (y 1).val) hj
  have h2 := congrArg (fun y : S1x512x512.Idx => (y 2).val) hj
  have j1 : (j 1).val < 64 := (j 1).isLt
  have j2 : (j 2).val < 256 := (j 2).isLt
  have c1 : rowAt n + 1 * (j 1).val = (brow d ch l).val := h1
  have c2 : 256 * (n / 2 % 2) + 1 * (j 2).val = 256 * hp.val + (vcol h c).val := h2
  have := (rowOf d l).isLt
  have := (vcol h c).isLt
  have hd' : d.val = n / 4 % 2 := by rw [hd]; rfl
  have hb : (brow d ch l).val = (if d.val = 0 then 64 * (ch % 8) else 64 * (7 - ch % 8)) + (rowOf d l).val := rfl
  rw [hb, hd', rowAt] at c1
  refine ⟨?_, Fin.ext (by simp only [pairOf]; omega)⟩
  split at c1 <;> omega

include hX h0 h1 in
/-- Direction `d`'s outputs, of the chunks stored. -/
theorem out_canon (d : Fin 2) (k : ℕ) (hk : k ≤ 16) : ∀ (hp h : Fin 2) (ch : ℕ) (l : Fin 64) (c : Fin 128), 2 * ch + hp.val < k →
    View.canon (yL arg2 harg2 arg3 harg3 arg10 x0 x1 ld LT (stL arg2 harg2 arg3 harg3 arg10 x0 x1 ld base LT) d.val k) (yIx d hp h ch l c)
      = chunkOut (cB LT d hp h ch) (qB x0 x1 d hp h ch) (kB x0 x1 d hp h ch) (vB x0 x1 d hp h ch) (stB x0 x1 LT S0 d hp h ch) l c := by
  induction k with
  | zero => intro hp h ch l c hs; omega
  | succ k ih =>
    intro hp h ch l c hs
    have hdn : d = dirOf (yOf d.val k) := Fin.ext (by simp only [dirOf, yOf]; omega)
    have hpn : (pairOf (yOf d.val k)).val = k % 2 := by simp only [pairOf, yOf]; omega
    have hcn : yOf d.val k / 8 = k / 2 := by simp only [yOf]; omega
    have hln : yOf d.val k < 64 := by simp only [yOf]; omega
    rw [yL]
    unfold yPiece
    by_cases hm : 2 * ch + hp.val = k
    · have hpe : hp = pairOf (yOf d.val k) := Fin.ext (by omega)
      have hce : ch = yOf d.val k / 8 := by omega
      have hsl : ∀ h, yOf d.val k % 8 ≤ slot (dirOf (yOf d.val k)) (pairOf (yOf d.val k)) h := by
        intro h; simp only [slot, dirOf, pairOf, yOf]; omega
      generalize hnn : yOf d.val k = n at *
      rw [hdn, hpe, hce, ← yRect_idx]
      refine (View.canon_cons_emb (yRect n) _ _ _).trans ?_
      rw [unitY_at (S := fun h => stB x0 x1 LT S0 (dirOf n) (pairOf n) h (n / 8))
        (hst := fun h c h' κ => load_at arg2 harg2 arg3 harg3 arg10 x0 x1 X LT S0 hX ld base h0 h1 n
          (state_canon arg2 harg2 arg3 harg3 arg10 x0 x1 X LT S0 hX ld base h0 h1 n) _ _ _ _ _ c h' κ (hsl h) (prRect_idx n h c _))]
      congr 1
      · funext l κ
        rw [ldC_at]; rfl
      · funext l κ
        rw [ldP_at]; rfl
      · funext l κ
        rw [ldP_at]; rfl
      · funext l c
        fin_cases h
        · refine (congrFun (if_pos (c := ((0 : Fin 2) = 0)) rfl) _).trans ?_
          rw [ldP_at]; rfl
        · refine (congrFun (if_neg (c := ((1 : Fin 2) = 0)) (by decide)) _).trans ?_
          rw [ldP_at]
          unfold vB
          congr 2
          apply Fin.ext
          simp only [pairOf]
          show _ = 512 + 256 * (n / 2 % 2) + 128 * 1 + c.val
          omega
    · have hnm : yIx d hp h ch l c ∉ (yRect (yOf d.val k)).set := by
        intro h
        have := yRect_mem hln (by omega) hdn h
        have h2 := congrArg Fin.val this.2
        omega
      rw [canon_skip]
      · exact ih (by omega) hp h ch l c (by omega)
      · exact hnm

end Block
end Cert.Gla
end
-- ==== Proof.ScanCum.lean ====
/-
  The scratch of running sums: the gates' log-sigmoids of a block, summed within each chunk of 64 rows.
-/
module

public import proofs.«01_k».proof.Proof.ScanState
public import Idealize.ShloMosaic.Lib.KernelVsHost

@[expose] public section

set_option maxRecDepth 16384

noncomputable section

namespace Cert.Gla

open Idealize.ShloMosaic Cert.KernelIdeal Cert.KernelIdeal.Gen

variable {F : FTy → Type} [FloatOps F]

/-- A block's gates before the log-sigmoid. -/
def gateV (g : Vec F S1x512x128 .f32) (up : Vec F S1x128x256 .bf16) (b : Vec F S1x256 .f32) : FVec F S512x256 .f32 :=
  addf (matmul dot_S512x128_S128x256_S512x256_1_0_0_1_n_n none
      (truncf .bf16 (shapeCast S512x128 g shapeCasts_S1x512x128_S512x128) bitsLt_bf16_f32)
      (shapeCast S128x256 up shapeCasts_S1x128x256_S128x256) (constant S512x256 .f32 0x00000000#32))
    (broadcastTo S512x256 b broadcasts_S1x256_S512x256)

/-- A block's log gates. -/
def lgV (x : FVec F S512x256 .f32) : FVec F S512x256 .f32 :=
  mulf (subf (minimumf x (broadcast S512x256 (Scalar.ofBits .f32 0x00000000#32)))
    (log1p (exp (subf (broadcast S512x256 (Scalar.ofBits .f32 0x00000000#32)) (absf x)))))
    (broadcast S512x256 (Scalar.ofBits .f32 0x3D800000#32))

/-- One doubling from the rows before. -/
def backStep (w : BitVec 32) (x : FVec F S512x256 .f32) : FVec F S512x256 .f32 :=
  addf x (select (cmpi .sge k0_pay3 (broadcast S512x256 w)) (dynamicRotate 0 w none x rotates_S512x256_d0)
    (broadcast S512x256 (Scalar.ofBits .f32 0x00000000#32)))
/-- One doubling from the rows after. -/
def fwdStep (m w : BitVec 32) (x : FVec F S512x256 .f32) : FVec F S512x256 .f32 :=
  addf x (select (cmpi .slt k0_pay8 (broadcast S512x256 m)) (dynamicRotate 0 w none x rotates_S512x256_d0)
    (broadcast S512x256 (Scalar.ofBits .f32 0x00000000#32)))

theorem pay6_eq (g : Vec F S1x512x128 .f32) (up : Vec F S1x128x256 .bf16) (b : Vec F S1x256 .f32) :
    k0_pay6 k0_pay3 (k0_pay4 g up b) (k0_pay5 g up b) = shapeCast S1x512x256
      (backStep 32#32 (backStep 16#32 (backStep 8#32 (backStep 4#32 (backStep 2#32 (backStep 1#32 (lgV (gateV g up b))))))))
      shapeCasts_S512x256_S1x512x256 := rfl

theorem pay12_eq (g : Vec F S1x512x128 .f32) (up : Vec F S1x128x256 .bf16) (b : Vec F S1x256 .f32) :
    k0_pay12 k0_pay8 (k0_pay9 (k0_pay7 g up) b) k0_pay10 (k0_pay11 (k0_pay7 g up) b) = shapeCast S1x512x256
      (fwdStep 32#32 480#32 (fwdStep 48#32 496#32 (fwdStep 56#32 504#32 (fwdStep 60#32 508#32 (fwdStep 62#32 510#32
        (fwdStep 63#32 511#32 (lgV (gateV g up b)))))))) shapeCasts_S512x256_S1x512x256 := rfl

/-! ## At an index -/

/-- The gate norm's reciprocal. -/
def normC : EReal := Scalar.ofBits (F := Ideal) .f32 0x3D800000#32

theorem row_toNat (r : Fin 512) (c : Fin 256) : (k0_pay3 (ix2 r c)).toNat = r.val % 64 := by
  have h : k0_pay3 (ix2 r c) = BitVec.ofNat 32 r.val &&& 63#32 := by
    pointwise [k0_pay3]
    rfl
  rw [h, BitVec.toNat_and, BitVec.toNat_ofNat, Nat.mod_eq_of_lt (by omega)]
  exact Nat.and_two_pow_sub_one_eq_mod r.val 6

theorem pay8_eq : k0_pay8 = k0_pay3 := rfl

theorem cmp_sge (x y : BitVec 32) (hx : x.toNat < 64) (hy : y.toNat < 64) :
    Scalar.cmpi .sge x y = if y.toNat ≤ x.toNat then 1#1 else 0#1 := by
  have h : y.sle x = decide (y.toNat ≤ x.toNat) := by
    rw [BitVec.sle_eq_decide, BitVec.toInt_eq_toNat_of_lt (by omega), BitVec.toInt_eq_toNat_of_lt (by omega)]
    simp
  simp only [Scalar.cmpi, IntOp.cmpi, h]
  split
  · rename_i hh
    rw [decide_eq_true hh]; rfl
  · rename_i hh
    rw [decide_eq_false hh]; rfl

theorem cmp_slt (x y : BitVec 32) (hx : x.toNat < 64) (hy : y.toNat < 64) :
    Scalar.cmpi .slt x y = if x.toNat < y.toNat then 1#1 else 0#1 := by
  have h : x.slt y = decide (x.toNat < y.toNat) := by
    rw [BitVec.slt_eq_decide, BitVec.toInt_eq_toNat_of_lt (by omega), BitVec.toInt_eq_toNat_of_lt (by omega)]
    simp
  simp only [Scalar.cmpi, IntOp.cmpi, h]
  split
  · rename_i hh
    rw [decide_eq_true hh]; rfl
  · rename_i hh
    rw [decide_eq_false hh]; rfl

theorem zero32 : (Scalar.ofBits .f32 0x00000000#32 : Ideal .f32) = (0 : EReal) := by
  exact Ideal.ofBits_zero .f32

theorem backStep_at (x : FVec Ideal S512x256 .f32) (g : ℕ → EReal) (c : Fin 256) (w : ℕ) (hw : w < 64)
    (hx : ∀ r : Fin 512, x (ix2 r c) = backSum g w r.val) (r : Fin 512) :
    backStep (BitVec.ofNat 32 w) x (ix2 r c) = backSum g (w + w) r.val := by
  have hr := row_toNat r c
  have hwn : (BitVec.ofNat 32 w).toNat = w := by rw [BitVec.toNat_ofNat, Nat.mod_eq_of_lt (by omega)]
  have h1 : backStep (BitVec.ofNat 32 w) x (ix2 r c) = x (ix2 r c) + Scalar.select (Scalar.cmpi .sge (k0_pay3 (ix2 r c)) (BitVec.ofNat 32 w))
      (dynamicRotate 0 (BitVec.ofNat 32 w) none x rotates_S512x256_d0 (ix2 r c)) (Scalar.ofBits .f32 0x00000000#32 : Ideal .f32) := rfl
  rw [h1, cmp_sge _ _ (by omega) (by omega), hr, hwn, backSum_double, hx]
  congr 1
  split
  · rename_i hle
    have hle' : w ≤ r.val := le_trans hle (Nat.mod_le _ _)
    rw [select_one, dynamicRotate_apply 0 _ x _ _ (ix2 (⟨r.val - w, by omega⟩ : Fin 512) c), hx]
    intro b
    rw [hwn]
    fin_cases b
    · show r.val - w = (r.val + 512 - w % 512) % 512
      omega
    · rfl
  · rw [select_zero, zero32]

theorem fwdStep_at (x : FVec Ideal S512x256 .f32) (g : ℕ → EReal) (c : Fin 256) (w : ℕ) (hw : 0 < w ∧ w < 64)
    (hx : ∀ r : Fin 512, x (ix2 r c) = fwdSum g w r.val) (r : Fin 512) :
    fwdStep (BitVec.ofNat 32 (64 - w)) (BitVec.ofNat 32 (512 - w)) x (ix2 r c) = fwdSum g (w + w) r.val := by
  have hr := row_toNat r c
  have hmn : (BitVec.ofNat 32 (64 - w)).toNat = 64 - w := by rw [BitVec.toNat_ofNat, Nat.mod_eq_of_lt (by omega)]
  have hwn : (BitVec.ofNat 32 (512 - w)).toNat = 512 - w := by rw [BitVec.toNat_ofNat, Nat.mod_eq_of_lt (by omega)]
  have h1 : fwdStep (BitVec.ofNat 32 (64 - w)) (BitVec.ofNat 32 (512 - w)) x (ix2 r c)
      = x (ix2 r c) + Scalar.select (Scalar.cmpi .slt (k0_pay3 (ix2 r c)) (BitVec.ofNat 32 (64 - w)))
      (dynamicRotate 0 (BitVec.ofNat 32 (512 - w)) none x rotates_S512x256_d0 (ix2 r c)) (Scalar.ofBits .f32 0x00000000#32 : Ideal .f32) := rfl
  rw [h1, cmp_slt _ _ (by omega) (by omega), hr, hmn, fwdSum_double, hx]
  congr 1
  split
  · rename_i hlt
    have hlt' : r.val + w < 512 := by omega
    rw [select_one, dynamicRotate_apply 0 _ x _ _ (ix2 (⟨r.val + w, hlt'⟩ : Fin 512) c), hx]
    intro b
    rw [hwn]
    fin_cases b
    · show r.val + w = (r.val + 512 - (512 - w) % 512) % 512
      omega
    · rfl
  · rw [select_zero, zero32]

theorem lg_at (x : FVec Ideal S512x256 .f32) (j : S512x256.Idx) : lgV x j = lsig (x j) * normC := by
  show (min (x j) (Scalar.ofBits .f32 0x00000000#32 : Ideal .f32) - Ideal.log1p (Ideal.exp ((Scalar.ofBits .f32 0x00000000#32 : Ideal .f32) - max (x j) (-(x j))))) * normC = _
  rw [zero32, lsig]

theorem gate_at (g : Vec Ideal S1x512x128 .f32) (up : Vec Ideal S1x128x256 .bf16) (b : Vec Ideal S1x256 .f32) (r : Fin 512) (c : Fin 256) :
    gateV g up b (ix2 r c) = (∑ x : Fin 128, g (ix3 0 r x) * up (ix3 0 x c)) + b (ix2 0 c) := by
  pointwise [gateV]

section Scratch

variable (c : Dev nD) (arg2 : Memref sig .tc .vmem S1x512x1664 .f32) (harg2 : arg2.IsWhole)
  (arg3 : Memref sig .tc .vmem S1x512x1664 .f32) (harg3 : arg3.IsWhole)
  (arg4 : Memref sig .tc .vmem S2x128x256 .bf16) (harg4 : arg4.IsWhole) (arg5 : Memref sig .tc .vmem S2x256 .f32) (harg5 : arg5.IsWhole)
  (x0 x1 : Vec Ideal S1x512x1664 .f32) (x2 : Vec Ideal S2x128x256 .bf16) (x3 : Vec Ideal S2x256 .f32)

/-- The log gate of a block's row. -/
def gB (d : Fin 2) (col : Fin 256) (r : Fin 512) : EReal :=
  lsig ((∑ x : Fin 128, tokB x0 x1 d (ix3 0 r ⟨1536 + x.val, by omega⟩) * x2 (ix3 d x col)) + x3 (ix2 d col)) * normC

/-- The same by the row's number. -/
def gN (d : Fin 2) (col : Fin 256) (r : ℕ) : EReal := if h : r < 512 then gB x0 x1 x2 x3 d col ⟨r, h⟩ else 0

theorem gN_fin (d : Fin 2) (col : Fin 256) (r : Fin 512) : gN x0 x1 x2 x3 d col r.val = gB x0 x1 x2 x3 d col r := dif_pos r.isLt

theorem chain_back (x : FVec Ideal S512x256 .f32) (g : ℕ → EReal) (col : Fin 256) (hx : ∀ r : Fin 512, x (ix2 r col) = g r.val) (r : Fin 512) :
    backStep 32#32 (backStep 16#32 (backStep 8#32 (backStep 4#32 (backStep 2#32 (backStep 1#32 x))))) (ix2 r col) = backSum g 64 r.val :=
  backStep_at _ g col 32 (by decide) (backStep_at _ g col 16 (by decide) (backStep_at _ g col 8 (by decide) (backStep_at _ g col 4 (by decide)
    (backStep_at _ g col 2 (by decide) (backStep_at _ g col 1 (by decide) (fun r => (hx r).trans (backSum_one g _).symm)))))) r

theorem chain_fwd (x : FVec Ideal S512x256 .f32) (g : ℕ → EReal) (col : Fin 256) (hx : ∀ r : Fin 512, x (ix2 r col) = g r.val) (r : Fin 512) :
    fwdStep 32#32 480#32 (fwdStep 48#32 496#32 (fwdStep 56#32 504#32 (fwdStep 60#32 508#32 (fwdStep 62#32 510#32 (fwdStep 63#32 511#32 x)))))
      (ix2 r col) = fwdSum g 64 r.val :=
  fwdStep_at _ g col 32 (by decide) (fwdStep_at _ g col 16 (by decide) (fwdStep_at _ g col 8 (by decide) (fwdStep_at _ g col 4 (by decide)
    (fwdStep_at _ g col 2 (by decide) (fwdStep_at _ g col 1 (by decide) (fun r => (hx r).trans (fwdSum_one g _).symm)))))) r

/-- Where a direction's sums lie in the scratch. -/
theorem scr_idx0 (h) (r : Fin 512) (col : Fin 256) :
    (Rect.unit (s := S2x512x256) ![0, 0, 0] S1x512x256.size h).toLoadRect.idx (ix3 0 r col : S1x512x256.Idx)
      = (ix3 0 r col : S2x512x256.Idx) := by
  funext a
  apply Fin.ext
  fin_cases a
  · rfl
  · show 0 + 1 * r.val = r.val
    omega
  · show 0 + 1 * col.val = col.val
    omega

theorem scr_idx1 (h) (r : Fin 512) (col : Fin 256) :
    (Rect.unit (s := S2x512x256) ![1, 0, 0] S1x512x256.size h).toLoadRect.idx (ix3 0 r col : S1x512x256.Idx)
      = (ix3 1 r col : S2x512x256.Idx) := by
  funext a
  apply Fin.ext
  fin_cases a
  · rfl
  · show 0 + 1 * r.val = r.val
    omega
  · show 0 + 1 * col.val = col.val
    omega

theorem scr_not_mem (h) (r : Fin 512) (col : Fin 256) :
    (ix3 0 r col : S2x512x256.Idx) ∉ (Rect.unit (s := S2x512x256) ![1, 0, 0] S1x512x256.size h).set := by
  intro hm
  obtain ⟨j, hj⟩ := LoadRect.exists_idx_of_mem _ hm
  have h1 := congrArg (fun y : S2x512x256.Idx => (y 0).val) hj
  have c1 : 1 + 1 * (j 0).val = 0 := h1
  omega

/-- The gates' columns of a direction's tokens, as the body loads them. -/
def gLd (d : Fin 2) : Vec Ideal S1x512x128 .f32 :=
  if d = 0 then View.readAt (Elt Ideal) arg2.view (Rect.unit (s := S1x512x1664) ![0, 0, 1536] S1x512x128.size (by decide)).toLoadRect (harg2.unread x0)
  else View.readAt (Elt Ideal) arg3.view (Rect.unit (s := S1x512x1664) ![0, 0, 1536] S1x512x128.size (by decide)).toLoadRect (harg3.unread x1)
/-- A direction's up-projection. -/
def uLd (d : Fin 2) : Vec Ideal S1x128x256 .bf16 :=
  View.readAt (Elt Ideal) arg4.view (Rect.unit (s := S2x128x256) ![d.val, 0, 0] S1x128x256.size (by
    intro a; fin_cases a <;> simp [S1x128x256, S2x128x256]; omega)).toLoadRect (harg4.unread x2)
/-- A direction's bias. -/
def bLd (d : Fin 2) : Vec Ideal S1x256 .f32 :=
  View.readAt (Elt Ideal) arg5.view (Rect.unit (s := S2x256) ![d.val, 0] S1x256.size (by
    intro a; fin_cases a <;> simp [S1x256, S2x256]; omega)).toLoadRect (harg5.unread x3)

theorem ld_gate (d : Fin 2) (r : Fin 512) (col : Fin 256) :
    lgV (gateV (gLd arg2 harg2 arg3 harg3 x0 x1 d) (uLd arg4 harg4 x2 d) (bLd arg5 harg5 x3 d)) (ix2 r col) = gN x0 x1 x2 x3 d col r.val := by
  rw [lg_at, gate_at, gN_fin, gB]
  have hg (x : Fin 128) : gLd arg2 harg2 arg3 harg3 x0 x1 d (ix3 0 r x) = tokB x0 x1 d (ix3 0 r ⟨1536 + x.val, by omega⟩) := by
    unfold gLd tokB
    fin_cases d
    · refine (congrFun (if_pos (c := ((0 : Fin 2) = 0)) rfl) _).trans ?_
      rw [Memref.IsWhole.readAt_unread]
      refine congrArg x0 (funext fun a => Fin.ext ?_)
      fin_cases a
      · rfl
      · show 0 + 1 * r.val = r.val
        omega
      · show 1536 + 1 * x.val = 1536 + x.val
        omega
    · refine (congrFun (if_neg (c := ((1 : Fin 2) = 0)) (by decide)) _).trans ?_
      rw [Memref.IsWhole.readAt_unread]
      refine congrArg x1 (funext fun a => Fin.ext ?_)
      fin_cases a
      · rfl
      · show 0 + 1 * r.val = r.val
        omega
      · show 1536 + 1 * x.val = 1536 + x.val
        omega
  have hu (x : Fin 128) : uLd arg4 harg4 x2 d (ix3 0 x col) = x2 (ix3 d x col) := by
    unfold uLd
    rw [Memref.IsWhole.readAt_unread]
    refine congrArg x2 (funext fun a => Fin.ext ?_)
    fin_cases a
    · rfl
    · show 0 + 1 * x.val = x.val
      omega
    · show 0 + 1 * col.val = col.val
      omega
  have hb : bLd arg5 harg5 x3 d (ix2 0 col) = x3 (ix2 d col) := by
    unfold bLd
    rw [Memref.IsWhole.readAt_unread]
    refine congrArg x3 (funext fun a => Fin.ext ?_)
    fin_cases a
    · rfl
    · show 0 + 1 * col.val = col.val
      omega
  simp only [hg, hu, hb]

/-- The scratch's pieces, named. -/
theorem cumL_eq : cumL c arg2 harg2 arg3 harg3 arg4 harg4 arg5 harg5 x0 x1 x2 x3 =
    [⟨Rect.unit (s := S2x512x256) ![1, 0, 0] S1x512x256.size (by decide), shapeCast S1x512x256
      (fwdStep 32#32 480#32 (fwdStep 48#32 496#32 (fwdStep 56#32 504#32 (fwdStep 60#32 508#32 (fwdStep 62#32 510#32
        (fwdStep 63#32 511#32 (lgV (gateV (gLd arg2 harg2 arg3 harg3 x0 x1 1) (uLd arg4 harg4 x2 1) (bLd arg5 harg5 x3 1)))))))))
        shapeCasts_S512x256_S1x512x256⟩,
    ⟨Rect.unit (s := S2x512x256) ![0, 0, 0] S1x512x256.size (by decide), shapeCast S1x512x256
      (backStep 32#32 (backStep 16#32 (backStep 8#32 (backStep 4#32 (backStep 2#32 (backStep 1#32
        (lgV (gateV (gLd arg2 harg2 arg3 harg3 x0 x1 0) (uLd arg4 harg4 x2 0) (bLd arg5 harg5 x3 0)))))))))
      shapeCasts_S512x256_S1x512x256⟩] := rfl

theorem cast_at (x : FVec Ideal S512x256 .f32) (r : Fin 512) (col : Fin 256) :
    shapeCast S1x512x256 x shapeCasts_S512x256_S1x512x256 (ix3 0 r col) = x (ix2 r col) := by pointwise

/-- The scratch holds the running sums. -/
theorem cum_canon (d : Fin 2) (r : Fin 512) (col : Fin 256) :
    View.canon (cumL c arg2 harg2 arg3 harg3 arg4 harg4 arg5 harg5 x0 x1 x2 x3) (ix3 d r col : S2x512x256.Idx)
      = if d = 0 then backSum (gN x0 x1 x2 x3 0 col) 64 r.val else fwdSum (gN x0 x1 x2 x3 1 col) 64 r.val := by
  rw [cumL_eq]
  have hd : d = 0 ∨ d = 1 := by omega
  rcases hd with rfl | rfl
  · rw [canon_skip, if_pos rfl]
    · rw [← scr_idx0 (by decide) r col]
      refine (View.canon_cons_emb (Rect.unit (s := S2x512x256) ![0, 0, 0] S1x512x256.size _) _ _ _).trans ?_
      rw [cast_at]
      exact chain_back _ _ col (fun r => ld_gate arg2 harg2 arg3 harg3 arg4 harg4 arg5 harg5 x0 x1 x2 x3 0 r col) r
    · exact scr_not_mem (by decide) r col
  · rw [if_neg (by decide), ← scr_idx1 (by decide) r col]
    refine (View.canon_cons_emb (Rect.unit (s := S2x512x256) ![1, 0, 0] S1x512x256.size _) _ _ _).trans ?_
    rw [cast_at]
    exact chain_fwd _ _ col (fun r => ld_gate arg2 harg2 arg3 harg3 arg4 harg4 arg5 harg5 x0 x1 x2 x3 1 r col) r

/-- A chunk's running sum in its direction's own order. -/
theorem cB_eq (d hp h : Fin 2) (ch : ℕ) (l κ : Fin 64) :
    cB (cumL c arg2 harg2 arg3 harg3 arg4 harg4 arg5 harg5 x0 x1 x2 x3) d hp h ch l κ
      = ∑ l' : Fin 64, if l' ≤ l then gB x0 x1 x2 x3 d ⟨128 * hp.val + (lane h κ).val, by omega⟩ (brow d ch l') else 0 := by
  unfold cB
  rw [cum_canon]
  have hd : d = 0 ∨ d = 1 := by omega
  rcases hd with rfl | rfl
  · rw [if_pos rfl]
    have hb (l : Fin 64) : (brow 0 ch l).val = 64 * (ch % 8) + l.val := rfl
    rw [hb, backSum_eq]
    refine Finset.sum_congr rfl fun l' _ => if_congr Iff.rfl ?_ rfl
    rw [← hb, gN_fin]
  · rw [if_neg (by decide)]
    have hb (l : Fin 64) : (brow 1 ch l).val = 64 * (7 - ch % 8) + (63 - l.val) := by
      show 64 * (7 - ch % 8) + (Fin.rev l).val = _
      rw [Fin.val_rev]; omega
    rw [hb, fwdSum_eq _ (fun j => gN x0 x1 x2 x3 1 ⟨128 * hp.val + (lane h κ).val, by omega⟩ (64 * (7 - ch % 8) + (63 - j))) _ 0
      (fun l => by congr 1; omega)]
    refine Finset.sum_congr rfl fun l' _ => if_congr Iff.rfl ?_ rfl
    rw [← gN_fin, hb]
    congr 1
    omega

end Scratch
end Cert.Gla
end
-- ==== Proof.ScanBlock.lean ====
/-
  What the scan's body leaves at each grid point, index by index: the running sums put in, both cases joined.
-/
module

public import proofs.«01_k».proof.Proof.ScanCum

@[expose] public section

set_option maxRecDepth 16384

noncomputable section

namespace Cert.Gla

open Idealize.ShloMosaic Cert.KernelIdeal Cert.KernelIdeal.Gen

section Math

variable (x0 x1 : Vec Ideal S1x512x1664 .f32) (x2 : Vec Ideal S2x128x256 .bf16) (x3 : Vec Ideal S2x256 .f32)

/-- A chunk's running sum of log gates, in its direction's order. -/
def cG (d hp h : Fin 2) (ch : ℕ) (l κ : Fin 64) : EReal :=
  ∑ l' : Fin 64, if l' ≤ l then gB x0 x1 x2 x3 d ⟨128 * hp.val + (lane h κ).val, by omega⟩ (brow d ch l') else 0

/-- A head's state after `c` chunks of the block. -/
def stG (S0 : Fin 64 → Fin 128 → EReal) (d hp h : Fin 2) : ℕ → Fin 64 → Fin 128 → EReal
  | 0 => S0
  | c + 1 => chunkState (cG x0 x1 x2 x3 d hp h c) (kB x0 x1 d hp h c) (vB x0 x1 d hp h c) (stG S0 d hp h c)

/-- A head's outputs in chunk `ch` of the block. -/
def yG (S0 : Fin 64 → Fin 128 → EReal) (d hp h : Fin 2) (ch : ℕ) : Fin 64 → Fin 128 → EReal :=
  chunkOut (cG x0 x1 x2 x3 d hp h ch) (qB x0 x1 d hp h ch) (kB x0 x1 d hp h ch) (vB x0 x1 d hp h ch) (stG x0 x1 x2 x3 S0 d hp h ch)

end Math

section Cases

variable {c : Dev nD} {arg2 : Memref sig .tc .vmem S1x512x1664 .f32} {harg2 : arg2.IsWhole}
  {arg3 : Memref sig .tc .vmem S1x512x1664 .f32} {harg3 : arg3.IsWhole}
  {arg4 : Memref sig .tc .vmem S2x128x256 .bf16} {harg4 : arg4.IsWhole} {arg5 : Memref sig .tc .vmem S2x256 .f32} {harg5 : arg5.IsWhole}
  {arg9 : Memref sig .tc .vmem S1x2x2x256x128 .f32} {harg9 : arg9.IsWhole} {arg10 : Memref sig .tc .vmem S2x512x256 .f32}
  {x0 x1 : Vec Ideal S1x512x1664 .f32} {x2 : Vec Ideal S2x128x256 .bf16} {x3 : Vec Ideal S2x256 .f32} {x4 xo7 : Vec Ideal S1x2x2x256x128 .f32}
  {i : grid0.Coords} {arg6 : Memref sig .tc .vmem S1x2x2x256x128 .f32} {harg6 : arg6.IsWhole} {arg7 : Memref sig .tc .vmem S1x512x512 .f32} {harg7 : arg7.IsWhole} {arg8 : Memref sig .tc .vmem S1x512x512 .f32} {harg8 : arg8.IsWhole}
  {harg10 : arg10.IsWhole}

theorem cB_fun (d hp h : Fin 2) (n : ℕ) : cB (cumL c arg2 harg2 arg3 harg3 arg4 harg4 arg5 harg5 x0 x1 x2 x3) d hp h n = cG x0 x1 x2 x3 d hp h n := by
  funext l κ
  exact cB_eq c arg2 harg2 arg3 harg3 arg4 harg4 arg5 harg5 x0 x1 x2 x3 d hp h n l κ

theorem stB_eq (S0 : Fin 2 → Fin 2 → Fin 2 → Fin 64 → Fin 128 → EReal) (d hp h : Fin 2) (n : ℕ) :
    stB x0 x1 (cumL c arg2 harg2 arg3 harg3 arg4 harg4 arg5 harg5 x0 x1 x2 x3) S0 d hp h n = stG x0 x1 x2 x3 (S0 d hp h) d hp h n := by
  induction n with
  | zero => rfl
  | succ n ih =>
    rw [stB, stG, ih, cB_fun]

theorem yB_eq (S0 : Fin 2 → Fin 2 → Fin 2 → Fin 64 → Fin 128 → EReal) (d hp h : Fin 2) (ch : ℕ) :
    chunkOut (cB (cumL c arg2 harg2 arg3 harg3 arg4 harg4 arg5 harg5 x0 x1 x2 x3) d hp h ch) (qB x0 x1 d hp h ch) (kB x0 x1 d hp h ch) (vB x0 x1 d hp h ch) (stB x0 x1 (cumL c arg2 harg2 arg3 harg3 arg4 harg4 arg5 harg5 x0 x1 x2 x3) S0 d hp h ch)
      = yG x0 x1 x2 x3 (S0 d hp h) d hp h ch := by
  rw [stB_eq, yG, cB_fun]

/-- The outputs' pieces from equal pieces of the state. -/
theorem yL_congr (ld : StLoad Ideal) (T : List (View.Piece (Elt Ideal) S2x512x256 .f32)) (L L' : ℕ → List (View.Piece (Elt Ideal) S1x2x2x256x128 .f32))
    (d : ℕ) (hd : d < 2) (hL : ∀ n < 63, yPiece arg2 harg2 arg3 harg3 arg10 x0 x1 ld T n (L n) = yPiece arg2 harg2 arg3 harg3 arg10 x0 x1 ld T n (L' n))
    (k : ℕ) (hk : k ≤ 16) : yL arg2 harg2 arg3 harg3 arg10 x0 x1 ld T L d k = yL arg2 harg2 arg3 harg3 arg10 x0 x1 ld T L' d k := by
  induction k with
  | zero => rfl
  | succ k ih => rw [yL, yL, ih (by omega), hL _ (by simp only [yOf]; omega)]

/-! ### The first block of a batch -/

theorem picks_A (n : ℕ) (hn : n ≤ 63) :
    pick (listsA c arg2 harg2 arg3 harg3 arg4 harg4 arg5 harg5 arg9 arg10 x0 x1 x2 x3 x4 arg6 harg6) n
      = stL arg2 harg2 arg3 harg3 arg10 x0 x1 (ldA arg9)
        (pick (listsA c arg2 harg2 arg3 harg3 arg4 harg4 arg5 harg5 arg9 arg10 x0 x1 x2 x3 x4 arg6 harg6) 0) (cumL c arg2 harg2 arg3 harg3 arg4 harg4 arg5 harg5 x0 x1 x2 x3) n := by
  induction n with
  | zero => rfl
  | succ n ih =>
    rw [stepsA _ _ _ _ _ _ _ _ _ _ _ _ _ _ _ _ _ _ n (by omega), ih (by omega), stL]
    rfl

theorem whole_idx (h) (y : S1x2x2x256x128.Idx) :
    (Rect.unit (s := S1x2x2x256x128) ![0, 0, 0, 0, 0] S1x2x2x256x128.size h).toLoadRect.idx y = y := by
  funext a
  apply Fin.ext
  fin_cases a
  · show 0 + 1 * (y 0).val = (y 0).val
    omega
  · show 0 + 1 * (y 1).val = (y 1).val
    omega
  · show 0 + 1 * (y 2).val = (y 2).val
    omega
  · show 0 + 1 * (y 3).val = (y 3).val
    omega
  · show 0 + 1 * (y 4).val = (y 4).val
    omega

theorem base_A (y : S1x2x2x256x128.Idx) :
    View.canon (pick (listsA c arg2 harg2 arg3 harg3 arg4 harg4 arg5 harg5 arg9 arg10 x0 x1 x2 x3 x4 arg6 harg6) 0) y = x4 y := by
  rw [firstA]
  conv_lhs => rw [← whole_idx inb_S1x2x2x256x128_S1x2x2x256x128_0_0_0_0_0 y]
  refine (View.canon_cons_emb (Rect.unit (s := S1x2x2x256x128) ![0, 0, 0, 0, 0] S1x2x2x256x128.size _) _ _ y).trans ?_
  have hp (X : Vec Ideal S1x2x2x256x128 .f32) : k0_pay2 X = X := by
    unfold k0_pay2
    exact shapeCast_shapeCast _ _ _
  rw [hp, Memref.IsWhole.readAt_unread, whole_idx]

theorem fresh_A (n : ℕ) (hn : n < 8) (B : LoadRect S1x2x2x256x128) (j : B.shape.Idx) (d hp h : Fin 2) (cc l : Fin 128) (hs : n ≤ slot d hp h)
    (hj : B.idx j = stIx d hp h cc l) :
    ldA arg9 n (stL arg2 harg2 arg3 harg3 arg10 x0 x1 (ldA arg9)
        (pick (listsA c arg2 harg2 arg3 harg3 arg4 harg4 arg5 harg5 arg9 arg10 x0 x1 x2 x3 x4 arg6 harg6) 0) (cumL c arg2 harg2 arg3 harg3 arg4 harg4 arg5 harg5 x0 x1 x2 x3) n) B j = x4 (stIx d hp h cc l) := by
  refine (congrFun (View.readCov_eq_canon' _ _ _) j).trans ?_
  show View.canon _ (B.idx j) = _
  rw [hj]
  clear hj j B
  induction n with
  | zero => exact base_A _
  | succ n ih =>
    rw [stL, stStep_skip _ _ _ _ _ _ _ _ _ _ _ _ (fun hm => by have := stRect_mem hm; omega)]
    exact ih (by omega) (by omega)

section A

variable (S0 : Fin 2 → Fin 2 → Fin 2 → Fin 64 → Fin 128 → EReal)
  (hX : ∀ d hp h cc h' κ, x4 (stIx d hp h cc (lane h' κ)) = if h' = h then S0 d hp h κ cc else 0) (hc0 : cond0_0 i)

include hX in
/-- The state that a batch's first block leaves. -/
theorem st_A (d hp h : Fin 2) (cc : Fin 128) (h' : Fin 2) (κ : Fin 64) :
    out0_A_7 c i arg2 harg2 arg3 harg3 arg4 harg4 arg5 harg5 arg6 harg6 arg7 harg7 arg8 harg8 arg9 harg9 arg10 harg10 hc0 x0 x1 x2 x3 x4
      (stIx d hp h cc (lane h' κ)) = if h' = h then stG x0 x1 x2 x3 (S0 d hp h) d hp h 8 κ cc else 0 := by
  unfold out0_A_7
  rw [View.read_writes_junk_eq_canon, lastA]
  have hl := slot_lt d hp h
  have e := state_canon arg2 harg2 arg3 harg3 arg10 x0 x1 x4 (cumL c arg2 harg2 arg3 harg3 arg4 harg4 arg5 harg5 x0 x1 x2 x3) S0 hX (ldA arg9) _
    (fun n hn B j d hp h cc l hs hj => fresh_A (arg6 := arg6) (harg6 := harg6) n hn B j d hp h cc l hs hj)
    (fun n _ L B j => congrFun (View.readCov_eq_canon' _ _ _) j) 64 d hp h cc h' κ (by omega)
  rw [show (64 + 7 - slot d hp h) / 8 = 8 by omega, stB_eq] at e
  rw [← e, picks_A 63 (by decide)]
  rfl

include hX in
/-- The outputs of a batch's first block, of the first direction. -/
theorem y5_A (hp h : Fin 2) (ch : ℕ) (hch : ch < 8) (l : Fin 64) (cc : Fin 128) :
    out0_A_5 c i arg2 harg2 arg3 harg3 arg4 harg4 arg5 harg5 arg6 harg6 arg7 harg7 arg8 harg8 arg9 harg9 arg10 harg10 hc0 x0 x1 x2 x3 x4
      (yIx 0 hp h ch l cc) = yG x0 x1 x2 x3 (S0 0 hp h) 0 hp h ch l cc := by
  unfold out0_A_5
  rw [View.read_writes_junk_eq_canon, outs5A]
  have e := out_canon arg2 harg2 arg3 harg3 arg10 x0 x1 x4 (cumL c arg2 harg2 arg3 harg3 arg4 harg4 arg5 harg5 x0 x1 x2 x3) S0 hX (ldA arg9) _
    (fun n hn B j d hp h cc l hs hj => fresh_A (arg6 := arg6) (harg6 := harg6) n hn B j d hp h cc l hs hj)
    (fun n _ L B j => congrFun (View.readCov_eq_canon' _ _ _) j) 0 16 le_rfl hp h ch l cc (by omega)
  rw [yB_eq] at e
  rw [← e, cumA_eq]
  refine congrFun (congrArg View.canon (yL_congr _ _ _ _ 0 (by decide) (fun n hn => ?_) 16 le_rfl)) _
  rw [picks_A n (by omega)]

include hX in
/-- And of the second. -/
theorem y6_A (hp h : Fin 2) (ch : ℕ) (hch : ch < 8) (l : Fin 64) (cc : Fin 128) :
    out0_A_6 c i arg2 harg2 arg3 harg3 arg4 harg4 arg5 harg5 arg6 harg6 arg7 harg7 arg8 harg8 arg9 harg9 arg10 harg10 hc0 x0 x1 x2 x3 x4
      (yIx 1 hp h ch l cc) = yG x0 x1 x2 x3 (S0 1 hp h) 1 hp h ch l cc := by
  unfold out0_A_6
  rw [View.read_writes_junk_eq_canon, outs6A]
  have e := out_canon arg2 harg2 arg3 harg3 arg10 x0 x1 x4 (cumL c arg2 harg2 arg3 harg3 arg4 harg4 arg5 harg5 x0 x1 x2 x3) S0 hX (ldA arg9) _
    (fun n hn B j d hp h cc l hs hj => fresh_A (arg6 := arg6) (harg6 := harg6) n hn B j d hp h cc l hs hj)
    (fun n _ L B j => congrFun (View.readCov_eq_canon' _ _ _) j) 1 16 le_rfl hp h ch l cc (by omega)
  rw [yB_eq] at e
  rw [← e, cumA_eq]
  refine congrFun (congrArg View.canon (yL_congr _ _ _ _ 1 (by decide) (fun n hn => ?_) 16 le_rfl)) _
  rw [picks_A n (by omega)]

end A

/-! ### A later block -/

theorem picks_B (n : ℕ) (h0 : 8 ≤ n) (hn : n ≤ 63) :
    pick (listsB c arg2 harg2 arg3 harg3 arg4 harg4 arg5 harg5 arg9 harg9 arg10 x0 x1 x2 x3 xo7) (n - 8)
      = stL arg2 harg2 arg3 harg3 arg10 x0 x1 (ldB arg9 harg9 xo7) [] (cumL c arg2 harg2 arg3 harg3 arg4 harg4 arg5 harg5 x0 x1 x2 x3) n := by
  induction n, h0 using Nat.le_induction with
  | base => exact firstB _ _ _ _ _ _ _ _ _ _ _ _ _ _ _ _ _
  | succ n h0 ih => rw [stepsB _ _ _ _ _ _ _ _ _ _ _ _ _ _ _ _ _ n h0 (by omega), ih (by omega), stL]

theorem fresh_B (n : ℕ) (hn : n < 8) (L : List (View.Piece (Elt Ideal) S1x2x2x256x128 .f32)) (B : LoadRect S1x2x2x256x128) (j : B.shape.Idx) :
    ldB arg9 harg9 xo7 n L B j = xo7 (B.idx j) := by
  unfold ldB
  rw [if_pos (by omega), Memref.IsWhole.readAt_unread]

theorem later_B (n : ℕ) (hn : 8 ≤ n) (L : List (View.Piece (Elt Ideal) S1x2x2x256x128 .f32)) (B : LoadRect S1x2x2x256x128) (j : B.shape.Idx) :
    ldB arg9 harg9 xo7 n L B j = View.canon L (B.idx j) := by
  unfold ldB
  rw [if_neg (by omega)]
  exact congrFun (View.readCov_eq_canon' _ _ _) j

theorem yPiece_B (n : ℕ) (hn : n ≤ 63) :
    yPiece arg2 harg2 arg3 harg3 arg10 x0 x1 (ldB arg9 harg9 xo7) (cumL c arg2 harg2 arg3 harg3 arg4 harg4 arg5 harg5 x0 x1 x2 x3) n
      (pick (listsB c arg2 harg2 arg3 harg3 arg4 harg4 arg5 harg5 arg9 harg9 arg10 x0 x1 x2 x3 xo7) (n - 8))
    = yPiece arg2 harg2 arg3 harg3 arg10 x0 x1 (ldB arg9 harg9 xo7) (cumL c arg2 harg2 arg3 harg3 arg4 harg4 arg5 harg5 x0 x1 x2 x3) n
      (stL arg2 harg2 arg3 harg3 arg10 x0 x1 (ldB arg9 harg9 xo7) [] (cumL c arg2 harg2 arg3 harg3 arg4 harg4 arg5 harg5 x0 x1 x2 x3) n) := by
  by_cases h : 8 ≤ n
  · rw [picks_B n h hn]
  · have e (L L' : List (View.Piece (Elt Ideal) S1x2x2x256x128 .f32)) : ldB arg9 harg9 xo7 n L = ldB arg9 harg9 xo7 n L' := by
      funext B j
      rw [fresh_B n (by omega), fresh_B n (by omega)]
    unfold yPiece
    rw [e]

section B

variable (S0 : Fin 2 → Fin 2 → Fin 2 → Fin 64 → Fin 128 → EReal)
  (hX : ∀ d hp h cc h' κ, xo7 (stIx d hp h cc (lane h' κ)) = if h' = h then S0 d hp h κ cc else 0) (hc0 : ¬cond0_0 i)

include hX in
/-- The state that a later block leaves. -/
theorem st_B (d hp h : Fin 2) (cc : Fin 128) (h' : Fin 2) (κ : Fin 64) :
    out0_B_7 c i arg2 harg2 arg3 harg3 arg4 harg4 arg5 harg5 arg6 harg6 arg7 harg7 arg8 harg8 arg9 harg9 arg10 harg10 hc0 x0 x1 x2 x3 x4 xo7
      (stIx d hp h cc (lane h' κ)) = if h' = h then stG x0 x1 x2 x3 (S0 d hp h) d hp h 8 κ cc else 0 := by
  unfold out0_B_7
  rw [View.read_writes_junk_eq_canon, lastB]
  have hl := slot_lt d hp h
  have e := state_canon arg2 harg2 arg3 harg3 arg10 x0 x1 xo7 (cumL c arg2 harg2 arg3 harg3 arg4 harg4 arg5 harg5 x0 x1 x2 x3) S0 hX (ldB arg9 harg9 xo7) []
    (fun n hn B j d hp h cc l _ hj => (fresh_B n hn _ B j).trans (congrArg xo7 hj)) later_B 64 d hp h cc h' κ (by omega)
  rw [show (64 + 7 - slot d hp h) / 8 = 8 by omega, stB_eq] at e
  rw [← e, picks_B 63 (by decide) (by decide)]
  rfl

include hX in
/-- The outputs of a later block, of the first direction. -/
theorem y5_B (hp h : Fin 2) (ch : ℕ) (hch : ch < 8) (l : Fin 64) (cc : Fin 128) :
    out0_B_5 c i arg2 harg2 arg3 harg3 arg4 harg4 arg5 harg5 arg6 harg6 arg7 harg7 arg8 harg8 arg9 harg9 arg10 harg10 hc0 x0 x1 x2 x3 x4 xo7
      (yIx 0 hp h ch l cc) = yG x0 x1 x2 x3 (S0 0 hp h) 0 hp h ch l cc := by
  unfold out0_B_5
  rw [View.read_writes_junk_eq_canon, outs5B]
  have e := out_canon arg2 harg2 arg3 harg3 arg10 x0 x1 xo7 (cumL c arg2 harg2 arg3 harg3 arg4 harg4 arg5 harg5 x0 x1 x2 x3) S0 hX (ldB arg9 harg9 xo7) []
    (fun n hn B j d hp h cc l _ hj => (fresh_B n hn _ B j).trans (congrArg xo7 hj)) later_B 0 16 le_rfl hp h ch l cc (by omega)
  rw [yB_eq] at e
  rw [← e]
  refine congrFun (congrArg View.canon (yL_congr _ _ _ _ 0 (by decide) (fun n hn => ?_) 16 le_rfl)) _
  exact yPiece_B n (by omega)

include hX in
/-- And of the second. -/
theorem y6_B (hp h : Fin 2) (ch : ℕ) (hch : ch < 8) (l : Fin 64) (cc : Fin 128) :
    out0_B_6 c i arg2 harg2 arg3 harg3 arg4 harg4 arg5 harg5 arg6 harg6 arg7 harg7 arg8 harg8 arg9 harg9 arg10 harg10 hc0 x0 x1 x2 x3 x4 xo7
      (yIx 1 hp h ch l cc) = yG x0 x1 x2 x3 (S0 1 hp h) 1 hp h ch l cc := by
  unfold out0_B_6
  rw [View.read_writes_junk_eq_canon, outs6B]
  have e := out_canon arg2 harg2 arg3 harg3 arg10 x0 x1 xo7 (cumL c arg2 harg2 arg3 harg3 arg4 harg4 arg5 harg5 x0 x1 x2 x3) S0 hX (ldB arg9 harg9 xo7) []
    (fun n hn B j d hp h cc l _ hj => (fresh_B n hn _ B j).trans (congrArg xo7 hj)) later_B 1 16 le_rfl hp h ch l cc (by omega)
  rw [yB_eq] at e
  rw [← e]
  refine congrFun (congrArg View.canon (yL_congr _ _ _ _ 1 (by decide) (fun n hn => ?_) 16 le_rfl)) _
  exact yPiece_B n (by omega)

end B

end Cases
end Cert.Gla
end
-- ==== Proof.ScanPack.lean ====
/-
  What the kernel's host code hands the scan: the up-projection in a frame of zeros, and the state packed in pairs of heads.
-/
module

public import proofs.«01_k».proof.Proof.ScanBlock
public import proofs.«01_k».proof.Proof.Gen.KernelIdeal.Value
public import Idealize.ShloMosaic.Lib.Pipeline.ValueKit
public import Idealize.ShloMosaic.Lib.Pointwise
public import Idealize.ShloMosaic.Lib.Routing.OpsSet
public import Idealize.ShloMosaic.Lib.StableHlo.RunRead

@[expose] public section

set_option maxRecDepth 16384

noncomputable section

namespace Cert.Gla

open Idealize.ShloMosaic Idealize.ShloMosaic.TcCoe Idealize.ShloMosaic.Routing Cert.KernelIdeal Cert.KernelIdeal.Gen

/-! ## The set rows of the frame -/

theorem start_0 (idx : IVec S2 32) (j : S16x256.Idx) :
    scatter_S2x128x256_S2_S16x256_01_0_01_0.start j idx (0 : Fin 3) = (idx (ix1 (0 : Fin 2))).toInt := by
  unfold ScatterDims.start
  rw [dif_pos (by decide)]
  congr 2
  funext a; apply Fin.ext; fin_cases a; rfl

theorem start_1 (idx : IVec S2 32) (j : S16x256.Idx) :
    scatter_S2x128x256_S2_S16x256_01_0_01_0.start j idx (1 : Fin 3) = (idx (ix1 (1 : Fin 2))).toInt := by
  unfold ScatterDims.start
  rw [dif_pos (by decide)]
  congr 2
  funext a; apply Fin.ext; fin_cases a; rfl

/-- An update's row and column land at the given page, `idx`'s second word further down. -/
theorem lands (idx : IVec S2 32) (x : Fin 16) (y : Fin 256) (d : Fin 2) (r : Fin 128) (col : Fin 256) :
    scatter_S2x128x256_S2_S16x256_01_0_01_0.resultIdx? (ix2 x y) idx = some (ix3 d r col)
      ↔ (idx (ix1 (0 : Fin 2))).toInt = d.val ∧ (idx (ix1 (1 : Fin 2))).toInt + x.val = r.val ∧ y = col := by
  have s0 := start_0 idx (ix2 x y)
  have s1 := start_1 idx (ix2 x y)
  have s2 : scatter_S2x128x256_S2_S16x256_01_0_01_0.start (ix2 x y) idx (2 : Fin 3) = 0 := rfl
  have w0 : scatter_S2x128x256_S2_S16x256_01_0_01_0.window (ix2 x y) (0 : Fin 3) = 0 := rfl
  have w1 : scatter_S2x128x256_S2_S16x256_01_0_01_0.window (ix2 x y) (1 : Fin 3) = x.val := rfl
  have w2 : scatter_S2x128x256_S2_S16x256_01_0_01_0.window (ix2 x y) (2 : Fin 3) = y.val := rfl
  unfold ScatterDims.resultIdx?
  constructor
  · intro h
    split at h
    · rename_i hh
      have e := Option.some.inj h
      have e0 := congrArg Fin.val (congrFun e (0 : Fin 3))
      have e1 := congrArg Fin.val (congrFun e (1 : Fin 3))
      have e2 := congrArg Fin.val (congrFun e (2 : Fin 3))
      have h0 := hh (0 : Fin 3)
      have h1 := hh (1 : Fin 3)
      have h2 := hh (2 : Fin 3)
      simp only [s0, s1, s2, w0, w1, w2] at e0 e1 e2 h0 h1 h2
      refine ⟨?_, ?_, Fin.ext ?_⟩
      · change _ = d.val at e0; omega
      · change _ = r.val at e1; omega
      · change _ = col.val at e2; omega
    · exact absurd h (by simp)
  · rintro ⟨h0, h1, rfl⟩
    rw [dif_pos]
    · congr 1
      funext a; apply Fin.ext; fin_cases a
      · show (scatter_S2x128x256_S2_S16x256_01_0_01_0.start (ix2 x y) idx (0 : Fin 3) + scatter_S2x128x256_S2_S16x256_01_0_01_0.window (ix2 x y) (0 : Fin 3)).toNat = d.val
        rw [s0, w0]; omega
      · show (scatter_S2x128x256_S2_S16x256_01_0_01_0.start (ix2 x y) idx (1 : Fin 3) + scatter_S2x128x256_S2_S16x256_01_0_01_0.window (ix2 x y) (1 : Fin 3)).toNat = r.val
        rw [s1, w1]; omega
      · show (scatter_S2x128x256_S2_S16x256_01_0_01_0.start (ix2 x y) idx (2 : Fin 3) + scatter_S2x128x256_S2_S16x256_01_0_01_0.window (ix2 x y) (2 : Fin 3)).toNat = y.val
        rw [s2, w2]; omega
    · intro a
      fin_cases a
      · show 0 ≤ scatter_S2x128x256_S2_S16x256_01_0_01_0.start (ix2 x y) idx (0 : Fin 3) + scatter_S2x128x256_S2_S16x256_01_0_01_0.window (ix2 x y) (0 : Fin 3) ∧ scatter_S2x128x256_S2_S16x256_01_0_01_0.start (ix2 x y) idx (0 : Fin 3) + scatter_S2x128x256_S2_S16x256_01_0_01_0.window (ix2 x y) (0 : Fin 3) < 2
        rw [s0, w0]; omega
      · show 0 ≤ scatter_S2x128x256_S2_S16x256_01_0_01_0.start (ix2 x y) idx (1 : Fin 3) + scatter_S2x128x256_S2_S16x256_01_0_01_0.window (ix2 x y) (1 : Fin 3) ∧ scatter_S2x128x256_S2_S16x256_01_0_01_0.start (ix2 x y) idx (1 : Fin 3) + scatter_S2x128x256_S2_S16x256_01_0_01_0.window (ix2 x y) (1 : Fin 3) < 128
        rw [s1, w1]; omega
      · show 0 ≤ scatter_S2x128x256_S2_S16x256_01_0_01_0.start (ix2 x y) idx (2 : Fin 3) + scatter_S2x128x256_S2_S16x256_01_0_01_0.window (ix2 x y) (2 : Fin 3) ∧ scatter_S2x128x256_S2_S16x256_01_0_01_0.start (ix2 x y) idx (2 : Fin 3) + scatter_S2x128x256_S2_S16x256_01_0_01_0.window (ix2 x y) (2 : Fin 3) < 256
        rw [s2, w2]; omega

/-- Sixteen rows set from row `o` of page `p`, read at an index. -/
theorem set_rows (x0 : Vec Ideal S2x128x256 .f32) (idx : IVec S2 32) (u : Vec Ideal S16x256 .f32) (p o : ℕ)
    (hp : (idx (ix1 (0 : Fin 2))).toInt = p) (ho : (idx (ix1 (1 : Fin 2))).toInt = o) (d : Fin 2) (r : Fin 128) (col : Fin 256) :
    Host.scatter scatter_S2x128x256_S2_S16x256_01_0_01_0 (fun _ b => b) x0 idx u (ix3 d r col)
      = if h : d.val = p ∧ o ≤ r.val ∧ r.val < o + 16 then u (ix2 ⟨r.val - o, by omega⟩ col) else x0 (ix3 d r col) := by
  split
  · rename_i h
    refine scatter_set_hit _ x0 idx u _ _ (fun k hk => ?_) (ix2 ⟨r.val - o, by omega⟩ col) ((lands ..).mpr ⟨by omega, ?_, rfl⟩)
    · obtain ⟨x, y, rfl⟩ : ∃ (x : Fin 16) (y : Fin 256), k = ix2 x y := ⟨k 0, k 1, eq_ix2 k⟩
      obtain ⟨_, h1, h2⟩ := (lands ..).mp hk
      rw [h2, show (⟨r.val - o, by omega⟩ : Fin 16) = x from Fin.ext (by show r.val - o = x.val; omega)]
    · show _ + ((r.val - o : ℕ) : ℤ) = _
      omega
  · rename_i h
    refine scatter_set_miss _ x0 idx u _ fun k hk => h ?_
    obtain ⟨x, y, rfl⟩ : ∃ (x : Fin 16) (y : Fin 256), k = ix2 x y := ⟨k 0, k 1, eq_ix2 k⟩
    obtain ⟨h0, h1, h2⟩ := (lands ..).mp hk
    omega

/-- A row times a column of the frame: only the sixteen set rows count. -/
theorem sum_frame (f : Fin 128 → EReal) (u : Fin 16 → EReal) (d : Fin 2) :
    ∑ x : Fin 128, f x * (if h : 16 * d.val ≤ x.val ∧ x.val < 16 * d.val + 16 then u ⟨x.val - 16 * d.val, by omega⟩ else 0)
      = ∑ x : Fin 16, f ⟨16 * d.val + x.val, by omega⟩ * u x := by
  symm
  refine Finset.sum_of_injOn (fun x : Fin 16 => (⟨16 * d.val + x.val, by omega⟩ : Fin 128)) ?_ (fun _ _ => Finset.mem_coe.mpr (Finset.mem_univ _)) ?_ ?_
  · intro x _ y _ e
    have := congrArg Fin.val e
    exact Fin.ext (by simpa using this)
  · intro x _ hx
    rw [dif_neg, mul_zero]
    rintro ⟨h1, h2⟩
    exact hx ⟨⟨x.val - 16 * d.val, by omega⟩, Finset.mem_coe.mpr (Finset.mem_univ _), Fin.ext (by show 16 * d.val + (x.val - 16 * d.val) = x.val; omega)⟩
  · intro x _
    rw [dif_pos ⟨by show 16 * d.val ≤ 16 * d.val + x.val; omega, by show 16 * d.val + x.val < _; omega⟩]
    congr 2
    exact Fin.ext (by show x.val = 16 * d.val + x.val - 16 * d.val; omega)

variable (m : (ℓ : Loc nD τ sig) → Buf (Elt Ideal) ℓ) (c : Dev nD)

/-- The state's heads in pairs, key coordinates last. -/
def heads (x : Vec Ideal S8x2x4x64x128 .f32) : Vec Ideal S8x2x2x2x128x64 .f32 :=
  shapeCast S8x2x2x2x128x64 (transpose S8x2x4x128x64 [0, 1, 2, 4, 3] x transposes_S8x2x4x64x128_S8x2x4x128x64_0_1_2_4_3) shapeCasts_S8x2x4x128x64_S8x2x2x2x128x64
/-- The state packed: each pair's two heads on a block diagonal. -/
def packed (x : Vec Ideal S8x2x4x64x128 .f32) : Vec Ideal S8x2x2x256x128 .f32 :=
  concatenate S8x2x2x256x128 3
    [⟨S8x2x2x128x128, concatenate S8x2x2x128x128 4
        [⟨S8x2x2x128x64, shapeCast S8x2x2x128x64 (extractStridedSlice S8x2x2x1x128x64 ![0, 0, 0, 0, 0, 0] (heads x) slices_S8x2x2x2x128x64_S8x2x2x1x128x64_0_0_0_0_0_0) shapeCasts_S8x2x2x1x128x64_S8x2x2x128x64⟩,
         ⟨S8x2x2x128x64, broadcastInDim S8x2x2x128x64 ![] bcast_S_S8x2x2x128x64 (constant (F := Ideal) S_ .f32 0x00000000#32 : Vec Ideal S_ .f32)⟩] concatenates_S8x2x2x128x64_S8x2x2x128x64_S8x2x2x128x128_d4⟩,
     ⟨S8x2x2x128x128, concatenate S8x2x2x128x128 4
        [⟨S8x2x2x128x64, broadcastInDim S8x2x2x128x64 ![] bcast_S_S8x2x2x128x64 (constant (F := Ideal) S_ .f32 0x00000000#32 : Vec Ideal S_ .f32)⟩,
         ⟨S8x2x2x128x64, shapeCast S8x2x2x128x64 (extractStridedSlice S8x2x2x1x128x64 ![0, 0, 0, 1, 0, 0] (heads x) slices_S8x2x2x2x128x64_S8x2x2x1x128x64_0_0_0_1_0_0) shapeCasts_S8x2x2x1x128x64_S8x2x2x128x64⟩] concatenates_S8x2x2x128x64_S8x2x2x128x64_S8x2x2x128x128_d4⟩]
    concatenates_S8x2x2x128x128_S8x2x2x128x128_S8x2x2x256x128_d3
/-- The two words that say where rows are set. -/
def spot (p o : BitVec 32) : IVec S2 32 :=
  concatenate S2 0 [⟨S1, (broadcastInDim S1 ![] bcast_S_S1 (constantI S_ 32 p : S_.Idx → BitVec 32) : S1.Idx → BitVec 32)⟩, ⟨S1, broadcastInDim S1 ![] bcast_S_S1 (constantI S_ 32 o)⟩] concatenates_S1_S1_S2_d0
/-- The up-projection in its frame of zeros. -/
def framed (x : Vec Ideal S2x16x256 .f32) : Vec Ideal S2x128x256 .f32 :=
  Host.scatter scatter_S2x128x256_S2_S16x256_01_0_01_0 (fun _ b => b)
    (Host.scatter scatter_S2x128x256_S2_S16x256_01_0_01_0 (fun _ b => b)
      (broadcastInDim S2x128x256 ![] bcast_S_S2x128x256 (constant (F := Ideal) S_ .f32 0x00000000#32 : Vec Ideal S_ .f32) : Vec Ideal S2x128x256 .f32) (spot 0#32 0#32)
      (shapeCast S16x256 (extractStridedSlice S1x16x256 ![0, 0, 0] x slices_S2x16x256_S1x16x256_0_0_0) shapeCasts_S1x16x256_S16x256))
    (spot 1#32 16#32)
    (shapeCast S16x256 (extractStridedSlice S1x16x256 ![1, 0, 0] x slices_S2x16x256_S1x16x256_1_0_0) shapeCasts_S1x16x256_S16x256)

theorem spot_0 (p o : BitVec 32) : spot p o (ix1 (0 : Fin 2)) = p := by
  pointwise [spot]
theorem spot_1 (p o : BitVec 32) : spot p o (ix1 (1 : Fin 2)) = o := by
  pointwise [spot]

theorem framed_at (x : Vec Ideal S2x16x256 .f32) (d : Fin 2) (r : Fin 128) (col : Fin 256) : framed x (ix3 d r col)
    = if h : 16 * d.val ≤ r.val ∧ r.val < 16 * d.val + 16 then x (ix3 d ⟨r.val - 16 * d.val, by omega⟩ col) else 0 := by
  rw [framed, set_rows _ _ _ 1 16 (by rw [spot_0]; rfl) (by rw [spot_1]; rfl), set_rows _ _ _ 0 0 (by rw [spot_0]; rfl) (by rw [spot_1]; rfl)]
  obtain rfl | rfl : d = 0 ∨ d = 1 := by omega
  · rw [dif_neg (fun q => absurd q.1 (by decide))]
    by_cases h : r.val < 16
    · rw [dif_pos ⟨rfl, by omega, by omega⟩, dif_pos ⟨by show 16 * 0 ≤ r.val; omega, by show r.val < 16 * 0 + 16; omega⟩]
      pointwise
    · rw [dif_neg (by omega), dif_neg (fun q => h (by have := q.2; change r.val < 16 * 0 + 16 at this; omega))]
      pointwise
  · by_cases h : 16 ≤ r.val ∧ r.val < 32
    · rw [dif_pos ⟨rfl, by omega, by omega⟩, dif_pos ⟨by show 16 * 1 ≤ r.val; omega, by show r.val < 16 * 1 + 16; omega⟩]
      pointwise
    · rw [dif_neg (by omega), dif_neg (by intro q; exact absurd q.1 (by decide)), dif_neg (fun q => h (by have := q.1; have := q.2; change r.val < 16 * 1 + 16 at this; change 16 * 1 ≤ r.val at *; omega))]
      pointwise

theorem packed_at (x : Vec Ideal S8x2x4x64x128 .f32) (b : Fin 8) (d hp h : Fin 2) (cc : Fin 128) (h' : Fin 2) (κ : Fin 64) :
    packed x (ix5 b d hp (vcol h cc) (lane h' κ)) = if h' = h then x (ix5 b d ⟨2 * hp.val + h.val, by omega⟩ κ cc) else 0 := by
  obtain rfl | rfl : h = 0 ∨ h = 1 := by omega
  · obtain rfl | rfl : h' = 0 ∨ h' = 1 := by omega
    · pointwise [packed, heads, vcol, lane]
      exact congrArg (fun z : Fin 4 => x (ix5 b d z κ cc)) (Fin.ext (Nat.mul_comm ..))
    · pointwise [packed, heads, vcol, lane]
  · obtain rfl | rfl : h' = 0 ∨ h' = 1 := by omega
    · pointwise [packed, heads, vcol, lane]
    · pointwise [packed, heads, vcol, lane]
      exact congrArg (fun z : Fin 4 => x (ix5 b d z κ cc)) (Fin.ext (congrArg (· + 1) (Nat.mul_comm ..)))

/-- The up-projection as the scan reads it. -/
theorem up_val : (V m c main_v13 : Vec Ideal S2x128x256 .bf16) = (truncf (F := Ideal) .bf16 (framed (m ((c.tc : Thread nD τ).loc main_arg1)) : FVec Ideal S2x128x256 .f32) bitsLt_bf16_f32 : FVec Ideal S2x128x256 .bf16) := by
  unfold V
  after_reads_simp
  rfl

theorem state_val : V m c main_v25 = packed (m ((c.tc : Thread nD τ).loc main_arg3)) := by
  unfold V
  after_reads_simp
  rfl

end Cert.Gla
-- ==== Proof.ScanSeq.lean ====
/-
  The sequences that the scan runs over: for a batch, a direction and a head, the token rows in the direction's order.
-/
module

public import proofs.«01_k».proof.Proof.ScanCum

@[expose] public section

noncomputable section

namespace Cert.Gla

open Idealize.ShloMosaic Cert.KernelIdeal

/-- The position that a direction meets `p`-th. -/
def pos (d : Fin 2) (p : ℕ) : Fin 4096 := ⟨(if d.val = 0 then p else 4095 - p) % 4096, Nat.mod_lt _ (by decide)⟩

/-- The sequence of batch `b`, direction `d` and head `hd`. -/
def seqOf (A0 : Vec Ideal S8x4096x1664 .f32) (A1 : Vec Ideal S2x16x256 .f32) (A2 : Vec Ideal S2x256 .f32) (A3 : Vec Ideal S8x2x4x64x128 .f32)
    (b : Fin 8) (d : Fin 2) (hd : Fin 4) : Seq where
  q p κ := A0 (ix3 b (pos d p) ⟨64 * hd.val + κ.val, by omega⟩) * scaleC
  k p κ := A0 (ix3 b (pos d p) ⟨256 + (64 * hd.val + κ.val), by omega⟩)
  v p c := A0 (ix3 b (pos d p) ⟨512 + (128 * hd.val + c.val), by omega⟩)
  g p κ := lsig ((∑ x : Fin 16, A0 (ix3 b (pos d p) ⟨1536 + (16 * d.val + x.val), by omega⟩) * A1 (ix3 d x ⟨64 * hd.val + κ.val, by omega⟩))
    + A2 (ix2 d ⟨64 * hd.val + κ.val, by omega⟩)) * normC
  s0 κ c := A3 (ix5 b d hd κ c)

end Cert.Gla
-- ==== Proof.ScanGrid.lean ====
/-
  The scan over the grid: each batch's eight blocks in turn carry the state of every head, and the outputs are the
  sequence's.
-/
module

public import proofs.«01_k».proof.Proof.ScanPack
public import proofs.«01_k».proof.Proof.ScanSeq

@[expose] public section

set_option maxRecDepth 16384

noncomputable section

namespace Cert.Gla

open Idealize.ShloMosaic Idealize.ShloMosaic.TcCoe Cert.KernelIdeal Cert.KernelIdeal.Gen

variable (m : (ℓ : Loc nD τ sig) → Buf (Elt Ideal) ℓ) (c : Dev nD)

/-- The number of head `h` of pair `hp`. -/
def hd (hp h : Fin 2) : Fin 4 := ⟨2 * hp.val + h.val, by omega⟩

/-- The sequences of the launch's arrays. -/
def sq (b : Fin 8) (d : Fin 2) (n : Fin 4) : Seq :=
  seqOf (m ((c.tc : Thread nD τ).loc main_arg0)) (m ((c.tc : Thread nD τ).loc main_arg1)) (m ((c.tc : Thread nD τ).loc main_arg2))
    (m ((c.tc : Thread nD τ).loc main_arg3)) b d n

/-- The blocks that each grid point reads. -/
theorem idx : ∀ t : Fin cfg0.grid.N, win0_0.index t = ![t.val / 8, t.val % 8, 0] ∧ win0_1.index t = ![t.val / 8, 7 - t.val % 8, 0]
    ∧ win0_2.index t = ![0, 0, 0] ∧ win0_3.index t = ![0, 0] ∧ win0_4.index t = ![t.val / 8, 0, 0, 0, 0]
    ∧ win0_5.index t = ![t.val / 8, t.val % 8, 0] ∧ win0_6.index t = ![t.val / 8, 7 - t.val % 8, 0] := by
  decide +kernel

section Reads

variable (t : Fin cfg0.N)

/-- The batch of a grid point. -/
def bat : Fin 8 := ⟨t.val / 8, by have := t.isLt; change t.val < 64 at this; omega⟩

theorem read_fwd (r : Fin 512) (col : Fin 1664) :
    (iblk m c 0 t : S1x512x1664.Idx → EReal) (ix3 0 r col)
      = (m ((c.tc : Thread nD τ).loc main_arg0) : S8x4096x1664.Idx → EReal) (ix3 (bat t) ⟨512 * (t.val % 8) + r.val, by omega⟩ col) := by
  blk_ext [iblk, V, idx t, bat]

theorem read_bwd (r : Fin 512) (col : Fin 1664) :
    (iblk m c 1 t : S1x512x1664.Idx → EReal) (ix3 0 r col)
      = (m ((c.tc : Thread nD τ).loc main_arg0) : S8x4096x1664.Idx → EReal) (ix3 (bat t) ⟨512 * (7 - t.val % 8) + r.val, by omega⟩ col) := by
  blk_ext [iblk, V, idx t, bat]

theorem read_up (d : Fin 2) (x : Fin 128) (col : Fin 256) :
    (iblk m c 2 t : S2x128x256.Idx → EReal) (ix3 d x col)
      = if h : 16 * d.val ≤ x.val ∧ x.val < 16 * d.val + 16 then
          (m ((c.tc : Thread nD τ).loc main_arg1) : S2x16x256.Idx → EReal) (ix3 d ⟨x.val - 16 * d.val, by omega⟩ col) else (0 : EReal) := by
  have e : (win0_2.blk t).view.emb (ix3 d x col) = ix3 d x col := by blk_ext [idx t]
  change V m c main_v13 ((win0_2.blk t).view.emb (ix3 d x col)) = _
  rw [e, up_val, ← framed_at]
  rfl

theorem read_bias (d : Fin 2) (col : Fin 256) :
    (iblk m c 3 t : S2x256.Idx → EReal) (ix2 d col) = (m ((c.tc : Thread nD τ).loc main_arg2) : S2x256.Idx → EReal) (ix2 d col) := by
  blk_ext [iblk, V, idx t]

theorem read_state (d hp h : Fin 2) (cc : Fin 128) (h' : Fin 2) (κ : Fin 64) :
    (iblk m c 4 t : S1x2x2x256x128.Idx → EReal) (stIx d hp h cc (lane h' κ)) = if h' = h then (sq m c (bat t) d (hd hp h)).state 0 κ cc else 0 := by
  have e : (win0_4.blk t).view.emb (ix5 0 d hp (vcol h cc) (lane h' κ)) = ix5 (bat t) d hp (vcol h cc) (lane h' κ) := by
    blk_ext [idx t, bat]
  change V m c main_v25 ((win0_4.blk t).view.emb (ix5 0 d hp (vcol h cc) (lane h' κ))) = _
  rw [e, state_val, packed_at]
  rfl

theorem tok (d : Fin 2) (ch : ℕ) (hch : ch < 8) (l : Fin 64) (col : Fin 1664) :
    tokB (iblk m c 0 t) (iblk m c 1 t) d (ix3 0 (brow d ch l) col)
      = (m ((c.tc : Thread nD τ).loc main_arg0) : S8x4096x1664.Idx → EReal)
          (ix3 (bat t) (pos d (64 * (8 * (t.val % 8) + ch) + l.val)) col) := by
  have hl := l.isLt
  obtain rfl | rfl : d = 0 ∨ d = 1 := by omega
  · refine (read_fwd m c t _ col).trans (congrArg (fun r : Fin 4096 => (m ((c.tc : Thread nD τ).loc main_arg0) : S8x4096x1664.Idx → EReal) (ix3 (bat t) r col)) (Fin.ext ?_))
    show 512 * (t.val % 8) + (64 * (ch % 8) + l.val) = (64 * (8 * (t.val % 8) + ch) + l.val) % 4096
    omega
  · have hr : (rowOf 1 l).val = 63 - l.val := by
      show (Fin.rev l).val = _
      rw [Fin.val_rev]; omega
    refine (read_bwd m c t _ col).trans (congrArg (fun r : Fin 4096 => (m ((c.tc : Thread nD τ).loc main_arg0) : S8x4096x1664.Idx → EReal) (ix3 (bat t) r col)) (Fin.ext ?_))
    show 512 * (7 - t.val % 8) + (64 * (7 - ch % 8) + (rowOf 1 l).val) = (4095 - (64 * (8 * (t.val % 8) + ch) + l.val)) % 4096
    omega

variable (d hp h : Fin 2) (ch : ℕ) (hch : ch < 8)

include hch in
theorem qB_eq : qB (iblk m c 0 t) (iblk m c 1 t) d hp h ch = (sq m c (bat t) d (hd hp h)).qs (8 * (t.val % 8) + ch) := by
  funext l κ
  rw [qB, tok m c t d ch hch l]
  refine congrArg (fun z : Fin 1664 => HMul.hMul (α := EReal) ((m ((c.tc : Thread nD τ).loc main_arg0) : S8x4096x1664.Idx → EReal) (ix3 (bat t) (pos d (64 * (8 * (t.val % 8) + ch) + l.val)) z)) scaleC) (Fin.ext ?_)
  show 128 * hp.val + (64 * h.val + κ.val) = 64 * (2 * hp.val + h.val) + κ.val
  omega

include hch in
theorem kB_eq : kB (iblk m c 0 t) (iblk m c 1 t) d hp h ch = (sq m c (bat t) d (hd hp h)).ks (8 * (t.val % 8) + ch) := by
  funext l κ
  rw [kB, tok m c t d ch hch l]
  refine congrArg (fun z : Fin 1664 => (m ((c.tc : Thread nD τ).loc main_arg0) : S8x4096x1664.Idx → EReal) (ix3 (bat t) _ z)) (Fin.ext ?_)
  show 256 + 128 * hp.val + (64 * h.val + κ.val) = 256 + (64 * (2 * hp.val + h.val) + κ.val)
  omega

include hch in
theorem vB_eq : vB (iblk m c 0 t) (iblk m c 1 t) d hp h ch = (sq m c (bat t) d (hd hp h)).vs (8 * (t.val % 8) + ch) := by
  funext l j
  rw [vB, tok m c t d ch hch l]
  refine congrArg (fun z : Fin 1664 => (m ((c.tc : Thread nD τ).loc main_arg0) : S8x4096x1664.Idx → EReal) (ix3 (bat t) _ z)) (Fin.ext ?_)
  show 512 + 256 * hp.val + 128 * h.val + j.val = 512 + (128 * (2 * hp.val + h.val) + j.val)
  omega

include hch in
theorem gB_eq (l κ : Fin 64) :
    gB (iblk m c 0 t) (iblk m c 1 t) (iblk m c 2 t) (iblk m c 3 t) d ⟨128 * hp.val + (lane h κ).val, by omega⟩ (brow d ch l)
      = (sq m c (bat t) d (hd hp h)).g (64 * (8 * (t.val % 8) + ch) + l.val) κ := by
  have hz : (⟨128 * hp.val + (lane h κ).val, by omega⟩ : Fin 256) = ⟨64 * (hd hp h).val + κ.val, by omega⟩ := Fin.ext (by
    show 128 * hp.val + (64 * h.val + κ.val) = 64 * (2 * hp.val + h.val) + κ.val
    omega)
  rw [gB, hz]
  simp only [tok m c t d ch hch l, read_up, read_bias]
  rw [sum_frame (fun x : Fin 128 => (m ((c.tc : Thread nD τ).loc main_arg0) : S8x4096x1664.Idx → EReal)
        (ix3 (bat t) (pos d (64 * (8 * (t.val % 8) + ch) + l.val)) ⟨1536 + x.val, by omega⟩))
      (fun x : Fin 16 => (m ((c.tc : Thread nD τ).loc main_arg1) : S2x16x256.Idx → EReal) (ix3 d x ⟨64 * (hd hp h).val + κ.val, by omega⟩)) d]
  rfl

include hch in
theorem cG_eq : cG (iblk m c 0 t) (iblk m c 1 t) (iblk m c 2 t) (iblk m c 3 t) d hp h ch
    = (sq m c (bat t) d (hd hp h)).cum (8 * (t.val % 8) + ch) := by
  funext l κ
  rw [cG, Seq.cum]
  refine Finset.sum_congr rfl fun l' _ => ?_
  rw [gB_eq m c t d hp h ch hch]

omit hch in
theorem stG_eq : ∀ n ≤ 8, stG (iblk m c 0 t) (iblk m c 1 t) (iblk m c 2 t) (iblk m c 3 t) ((sq m c (bat t) d (hd hp h)).state (8 * (t.val % 8))) d hp h n
    = (sq m c (bat t) d (hd hp h)).state (8 * (t.val % 8) + n)
  | 0, _ => rfl
  | n + 1, hn => by
    rw [stG, stG_eq n (by omega), cG_eq m c t d hp h n (by omega), kB_eq m c t d hp h n (by omega), vB_eq m c t d hp h n (by omega)]
    rfl

include hch in
theorem yG_eq : yG (iblk m c 0 t) (iblk m c 1 t) (iblk m c 2 t) (iblk m c 3 t) ((sq m c (bat t) d (hd hp h)).state (8 * (t.val % 8))) d hp h ch
    = (sq m c (bat t) d (hd hp h)).out (8 * (t.val % 8) + ch) := by
  rw [yG, stG_eq m c t d hp h ch (by omega), cG_eq m c t d hp h ch hch, kB_eq m c t d hp h ch hch, vB_eq m c t d hp h ch hch, qB_eq m c t d hp h ch hch]
  rfl

end Reads

/-- What a grid point leaves: the state after its eight chunks, and both directions' outputs. -/
structure Leaves (t : Fin cfg0.N) : Prop where
  st : ∀ d hp h cc h' κ, (outsAt0 m c t.val t.isLt).2.2 (stIx d hp h cc (lane h' κ))
    = if h' = h then (sq m c (bat t) d (hd hp h)).state (8 * (t.val % 8) + 8) κ cc else 0
  y5 : ∀ hp h ch, ch < 8 → ∀ l cc, (outsAt0 m c t.val t.isLt).1 (yIx 0 hp h ch l cc) = (sq m c (bat t) 0 (hd hp h)).out (8 * (t.val % 8) + ch) l cc
  y6 : ∀ hp h ch, ch < 8 → ∀ l cc, (outsAt0 m c t.val t.isLt).2.1 (yIx 1 hp h ch l cc) = (sq m c (bat t) 1 (hd hp h)).out (8 * (t.val % 8) + ch) l cc

/-- The states that a grid point starts from. -/
def incoming (t : Fin cfg0.N) (d hp h : Fin 2) : Fin 64 → Fin 128 → EReal := (sq m c (bat t) d (hd hp h)).state (8 * (t.val % 8))

theorem leaves_first (t : Fin cfg0.N) (h0 : t.val % 8 = 0) : Leaves m c t := by
  have hX : ∀ d hp h cc h' κ, (iblk m c 4 t : S1x2x2x256x128.Idx → EReal) (stIx d hp h cc (lane h' κ))
      = if h' = h then incoming m c t d hp h κ cc else 0 := by
    intro d hp h cc h' κ
    rw [read_state, incoming, h0]
  constructor
  · intro d hp h cc h' κ
    rw [outsAt0_A m c t h0]
    dsimp only
    refine (st_A (c := c) (i := grid0.coords t) (x0 := iblk m c 0 t) (x1 := iblk m c 1 t) (x2 := iblk m c 2 t) (x3 := iblk m c 3 t) (x4 := iblk m c 4 t) (incoming m c t) hX ((hcond0_0 t).mpr h0) d hp h cc h' κ).trans ?_
    rw [incoming, stG_eq m c t d hp h 8 le_rfl]
  · intro hp h ch hch l cc
    rw [outsAt0_A m c t h0]
    dsimp only
    refine (y5_A (c := c) (i := grid0.coords t) (x0 := iblk m c 0 t) (x1 := iblk m c 1 t) (x2 := iblk m c 2 t) (x3 := iblk m c 3 t) (x4 := iblk m c 4 t) (incoming m c t) hX ((hcond0_0 t).mpr h0) hp h ch hch l cc).trans ?_
    rw [incoming, yG_eq m c t 0 hp h ch hch]
  · intro hp h ch hch l cc
    rw [outsAt0_A m c t h0]
    dsimp only
    refine (y6_A (c := c) (i := grid0.coords t) (x0 := iblk m c 0 t) (x1 := iblk m c 1 t) (x2 := iblk m c 2 t) (x3 := iblk m c 3 t) (x4 := iblk m c 4 t) (incoming m c t) hX ((hcond0_0 t).mpr h0) hp h ch hch l cc).trans ?_
    rw [incoming, yG_eq m c t 1 hp h ch hch]

theorem leaves_later (t t' : Fin cfg0.N) (h0 : ¬t.val % 8 = 0) (ht : t'.val = t.val - 1) (ih : Leaves m c t') : Leaves m c t := by
  have hX : ∀ d hp h cc h' κ, (outsAt0 m c (t.val - 1) (by have := t.isLt; omega)).2.2 (stIx d hp h cc (lane h' κ))
      = if h' = h then incoming m c t d hp h κ cc else 0 := by
    intro d hp h cc h' κ
    have e := ih.st d hp h cc h' κ
    rw [show bat t' = bat t from Fin.ext (by show t'.val / 8 = t.val / 8; omega), show 8 * (t'.val % 8) + 8 = 8 * (t.val % 8) by omega] at e
    obtain ⟨n, hn⟩ := t'
    obtain rfl : n = t.val - 1 := ht
    exact e
  constructor
  · intro d hp h cc h' κ
    rw [outsAt0_B m c t h0]
    dsimp only
    refine (st_B (c := c) (i := grid0.coords t) (x0 := iblk m c 0 t) (x1 := iblk m c 1 t) (x2 := iblk m c 2 t) (x3 := iblk m c 3 t) (x4 := iblk m c 4 t) (xo7 := (outsAt0 m c (t.val - 1) (by have := t.isLt; omega)).2.2) (incoming m c t) hX (fun h => h0 ((hcond0_0 t).mp h)) d hp h cc h' κ).trans ?_
    rw [incoming, stG_eq m c t d hp h 8 le_rfl]
  · intro hp h ch hch l cc
    rw [outsAt0_B m c t h0]
    dsimp only
    refine (y5_B (c := c) (i := grid0.coords t) (x0 := iblk m c 0 t) (x1 := iblk m c 1 t) (x2 := iblk m c 2 t) (x3 := iblk m c 3 t) (x4 := iblk m c 4 t) (xo7 := (outsAt0 m c (t.val - 1) (by have := t.isLt; omega)).2.2) (incoming m c t) hX (fun h => h0 ((hcond0_0 t).mp h)) hp h ch hch l cc).trans ?_
    rw [incoming, yG_eq m c t 0 hp h ch hch]
  · intro hp h ch hch l cc
    rw [outsAt0_B m c t h0]
    dsimp only
    refine (y6_B (c := c) (i := grid0.coords t) (x0 := iblk m c 0 t) (x1 := iblk m c 1 t) (x2 := iblk m c 2 t) (x3 := iblk m c 3 t) (x4 := iblk m c 4 t) (xo7 := (outsAt0 m c (t.val - 1) (by have := t.isLt; omega)).2.2) (incoming m c t) hX (fun h => h0 ((hcond0_0 t).mp h)) hp h ch hch l cc).trans ?_
    rw [incoming, yG_eq m c t 1 hp h ch hch]

theorem leaves : ∀ (n : ℕ) (hn : n < cfg0.N), Leaves m c ⟨n, hn⟩
  | 0, hn => leaves_first m c _ rfl
  | n + 1, hn => by
    by_cases h0 : (n + 1) % 8 = 0
    · exact leaves_first m c _ h0
    · exact leaves_later m c _ ⟨n, by omega⟩ h0 rfl (leaves n (by omega))

/-- A sequence's output, by position and column. -/
def seqOut (A0 : Vec Ideal S8x4096x1664 .f32) (A1 : Vec Ideal S2x16x256 .f32) (A2 : Vec Ideal S2x256 .f32) (A3 : Vec Ideal S8x2x4x64x128 .f32)
    (d : Fin 2) (b : Fin 8) (p : Fin 4096) (j : Fin 512) : EReal :=
  (seqOf A0 A1 A2 A3 b d ⟨j.val / 128, by omega⟩).out ((pos d p.val).val / 64) ⟨(pos d p.val).val % 64, Nat.mod_lt _ (by decide)⟩ ⟨j.val % 128, Nat.mod_lt _ (by decide)⟩

/-- A place of an output block, by chunk and head. -/
theorem place (d : Fin 2) (r j : Fin 512) : ∃ (hp h : Fin 2) (ch : ℕ) (_ : ch < 8) (l : Fin 64) (cc : Fin 128),
    (ix3 0 r j : S1x512x512.Idx) = yIx d hp h ch l cc ∧ j.val = 128 * (hd hp h).val + cc.val
      ∧ r.val = (if d.val = 0 then 64 * ch + l.val else 64 * (7 - ch) + (63 - l.val)) := by
  obtain rfl | rfl : d = 0 ∨ d = 1 := by omega
  · refine ⟨⟨j.val / 256, by omega⟩, ⟨j.val / 128 % 2, by omega⟩, r.val / 64, by omega, ⟨r.val % 64, by omega⟩, ⟨j.val % 128, by omega⟩, ?_, ?_, ?_⟩
    · unfold yIx
      congr 1 <;> apply Fin.ext
      · show r.val = 64 * (r.val / 64 % 8) + r.val % 64
        omega
      · show j.val = 256 * (j.val / 256) + (128 * (j.val / 128 % 2) + j.val % 128)
        omega
    · show j.val = 128 * (2 * (j.val / 256) + j.val / 128 % 2) + j.val % 128
      omega
    · show r.val = 64 * (r.val / 64) + r.val % 64
      omega
  · refine ⟨⟨j.val / 256, by omega⟩, ⟨j.val / 128 % 2, by omega⟩, 7 - r.val / 64, by omega, ⟨63 - r.val % 64, by omega⟩, ⟨j.val % 128, by omega⟩, ?_, ?_, ?_⟩
    · unfold yIx
      congr 1 <;> apply Fin.ext
      · have hr : (rowOf 1 ⟨63 - r.val % 64, by omega⟩).val = 63 - (63 - r.val % 64) := by
          show (Fin.rev _).val = _
          rw [Fin.val_rev]; show 64 - (63 - r.val % 64 + 1) = _; omega
        show r.val = 64 * (7 - (7 - r.val / 64) % 8) + (rowOf 1 ⟨63 - r.val % 64, by omega⟩).val
        omega
      · show j.val = 256 * (j.val / 256) + (128 * (j.val / 128 % 2) + j.val % 128)
        omega
    · show j.val = 128 * (2 * (j.val / 256) + j.val / 128 % 2) + j.val % 128
      omega
    · show r.val = 64 * (7 - (7 - r.val / 64)) + (63 - (63 - r.val % 64))
      omega

/-- The forward outputs' array. -/
theorem array5 : (dats m 0 c).arrAt 5 cfg0.N = fun y : S8x4096x512.Idx =>
    seqOut (m ((c.tc : Thread nD τ).loc main_arg0)) (m ((c.tc : Thread nD τ).loc main_arg1)) (m ((c.tc : Thread nD τ).loc main_arg2))
      (m ((c.tc : Thread nD τ).loc main_arg3)) 0 (y 0) (y 1) (y 2) := by
  refine (dats m 0 c).arrAt_eq_of_covers 5 _ (by decide +kernel) fun t hf y => ?_
  blk_simp
  rw [after0_5]
  obtain ⟨a, r, j, rfl⟩ : ∃ (a : Fin 1) (r j : Fin 512), y = ix3 a r j := ⟨y 0, y 1, y 2, eq_ix3 y⟩
  obtain rfl : a = 0 := Subsingleton.elim _ _
  obtain ⟨hp, h, ch, hch, l, cc, e, hj, hr⟩ := place 0 r j
  rw [show ((View.whole main_v26_0).slice (win0_5.rect t)).emb (ix3 0 r j) = ix3 (bat t) ⟨512 * (t.val % 8) + r.val, by omega⟩ j from by
    blk_ext [idx t, bat]]
  rw [e, (leaves m c t.val t.isLt).y5 hp h ch hch l cc]
  have hl := l.isLt
  have hc := cc.isLt
  change r.val = 64 * ch + l.val at hr
  show (sq m c (bat t) 0 (hd hp h)).out _ l cc = (sq m c (bat t) 0 ⟨j.val / 128, _⟩).out ((512 * (t.val % 8) + r.val) % 4096 / 64) ⟨(512 * (t.val % 8) + r.val) % 4096 % 64, _⟩ ⟨j.val % 128, _⟩
  congr 1
  · congr 1
    apply Fin.ext; show _ = j.val / 128; omega
  · show 8 * (t.val % 8) + ch = _; omega
  · apply Fin.ext; show l.val = (512 * (t.val % 8) + r.val) % 4096 % 64; omega
  · apply Fin.ext; show cc.val = j.val % 128; omega

/-- The backward outputs' array. -/
theorem array6 : (dats m 0 c).arrAt 6 cfg0.N = fun y : S8x4096x512.Idx =>
    seqOut (m ((c.tc : Thread nD τ).loc main_arg0)) (m ((c.tc : Thread nD τ).loc main_arg1)) (m ((c.tc : Thread nD τ).loc main_arg2))
      (m ((c.tc : Thread nD τ).loc main_arg3)) 1 (y 0) (y 1) (y 2) := by
  refine (dats m 0 c).arrAt_eq_of_covers 6 _ (by decide +kernel) fun t hf y => ?_
  blk_simp
  rw [after0_6]
  obtain ⟨a, r, j, rfl⟩ : ∃ (a : Fin 1) (r j : Fin 512), y = ix3 a r j := ⟨y 0, y 1, y 2, eq_ix3 y⟩
  obtain rfl : a = 0 := Subsingleton.elim _ _
  obtain ⟨hp, h, ch, hch, l, cc, e, hj, hr⟩ := place 1 r j
  rw [show ((View.whole main_v26_1).slice (win0_6.rect t)).emb (ix3 0 r j) = ix3 (bat t) ⟨512 * (7 - t.val % 8) + r.val, by omega⟩ j from by
    blk_ext [idx t, bat]]
  rw [e, (leaves m c t.val t.isLt).y6 hp h ch hch l cc]
  have hl := l.isLt
  have hc := cc.isLt
  change r.val = 64 * (7 - ch) + (63 - l.val) at hr
  show (sq m c (bat t) 1 (hd hp h)).out _ l cc = (sq m c (bat t) 1 ⟨j.val / 128, _⟩).out ((4095 - (512 * (7 - t.val % 8) + r.val)) % 4096 / 64) ⟨(4095 - (512 * (7 - t.val % 8) + r.val)) % 4096 % 64, _⟩ ⟨j.val % 128, _⟩
  congr 1
  · congr 1
    apply Fin.ext; show _ = j.val / 128; omega
  · show 8 * (t.val % 8) + ch = _; omega
  · apply Fin.ext; show l.val = (4095 - (512 * (7 - t.val % 8) + r.val)) % 4096 % 64; omega
  · apply Fin.ext; show cc.val = j.val % 128; omega

end Cert.Gla
-- ==== Proof.ScanHost.lean ====
/-
  What the reference's host code hands its loop: both directions' sequences as 16 batches, cut into 64 chunks of 64 rows.
-/
module

public import proofs.«01_k».proof.Proof.ScanSeq
public import proofs.«01_k».proof.Proof.Gen.ReferenceIdeal.Run
public import Idealize.ShloMosaic.Lib.Pipeline.ValueKit
public import Idealize.ShloMosaic.Lib.Pointwise
public import Idealize.ShloMosaic.Lib.StableHlo.RunRead

@[expose] public section

set_option maxRecDepth 16384

noncomputable section

namespace Cert.Gla

open Idealize.ShloMosaic Idealize.ShloMosaic.TcCoe Cert.ReferenceIdeal Cert.ReferenceIdeal.Gen Cert.ReferenceIdeal.Value

/-! ## The host code's terms -/

/-- The two directions of an array of rows of 64, as 16 batches of 64 chunks. -/
def both64 (x y : Vec Ideal S8x4096x4x64 .f32) : Vec Ideal S64x16x64x4x64 .f32 :=
  transpose S64x16x64x4x64 [1, 0, 2, 3, 4] (shapeCast S16x64x64x4x64 (concatenate S16x4096x4x64 0 [⟨S8x4096x4x64, x⟩, ⟨S8x4096x4x64, Host.reverse [1] y⟩] concatenates_S8x4096x4x64_S8x4096x4x64_S16x4096x4x64_d0) shapeCasts_S16x4096x4x64_S16x64x64x4x64) transposes_S16x64x64x4x64_S64x16x64x4x64_1_0_2_3_4

/-- The same for rows of 128. -/
def both128 (x y : Vec Ideal S8x4096x4x128 .f32) : Vec Ideal S64x16x64x4x128 .f32 :=
  transpose S64x16x64x4x128 [1, 0, 2, 3, 4] (shapeCast S16x64x64x4x128 (concatenate S16x4096x4x128 0 [⟨S8x4096x4x128, x⟩, ⟨S8x4096x4x128, Host.reverse [1] y⟩] concatenates_S8x4096x4x128_S8x4096x4x128_S16x4096x4x128_d0) shapeCasts_S16x4096x4x128_S16x64x64x4x128) transposes_S16x64x64x4x128_S64x16x64x4x128_1_0_2_3_4

def hostQ (A0 : Vec Ideal S8x4096x1664 .f32) : Vec Ideal S8x4096x4x64 .f32 :=
  mulf (shapeCast S8x4096x4x64 (extractStridedSlice S8x4096x256 ![0, 0, 0] A0 slices_S8x4096x1664_S8x4096x256_0_0_0) shapeCasts_S8x4096x256_S8x4096x4x64) (broadcastInDim S8x4096x4x64 ![] bcast_S_S8x4096x4x64 (constant (F := Ideal) S_ .f32 0x3E000000#32))

def hostK (A0 : Vec Ideal S8x4096x1664 .f32) : Vec Ideal S8x4096x4x64 .f32 :=
  shapeCast S8x4096x4x64 (extractStridedSlice S8x4096x256 ![0, 0, 256] A0 slices_S8x4096x1664_S8x4096x256_0_0_256) shapeCasts_S8x4096x256_S8x4096x4x64

def hostV (A0 : Vec Ideal S8x4096x1664 .f32) : Vec Ideal S8x4096x4x128 .f32 :=
  shapeCast S8x4096x4x128 (extractStridedSlice S8x4096x512 ![0, 0, 512] A0 slices_S8x4096x1664_S8x4096x512_0_0_512) shapeCasts_S8x4096x512_S8x4096x4x128

/-- The up-projected gates. -/
def hostUp (A0 : Vec Ideal S8x4096x1664 .f32) (A1 : Vec Ideal S2x16x256 .f32) (A2 : Vec Ideal S2x256 .f32) : FVec Ideal S8x4096x2x256 .f32 :=
  addf (transpose S8x4096x2x256 [2, 3, 0, 1] (Host.dotGeneral (F := Ideal) (φ₁ := .f32) (φ₂ := .f32) dot_S2x16x256_S8x4096x2x16_S2x256x8x4096_1_3_2_01_0_2 none (A1 : FVec Ideal S2x16x256 .f32) (shapeCast S8x4096x2x16 (extractStridedSlice S8x4096x32 ![0, 0, 1536] A0 slices_S8x4096x1664_S8x4096x32_0_0_1536) shapeCasts_S8x4096x32_S8x4096x2x16)) transposes_S2x256x8x4096_S8x4096x2x256_2_3_0_1)
    (broadcastInDim S8x4096x2x256 ![0, 1, 2, 3] bcast_S1x1x2x256_S8x4096x2x256_0_1_2_3 (broadcastInDim S1x1x2x256 ![2, 3] bcast_S2x256_S1x1x2x256_2_3 A2))

def zeros : FVec Ideal S8x4096x2x256 .f32 := broadcastInDim S8x4096x2x256 ![] bcast_S_S8x4096x2x256 (constant S_ .f32 0x00000000#32)

/-- Minus the softplus of `-x`, over 16. -/
def hostLog (x : FVec Ideal S8x4096x2x256 .f32) : FVec Ideal S8x4096x2x256 .f32 :=
  Host.divf (Host.negf (select (cmpf .une (subf (Host.negf x) zeros) (subf (Host.negf x) zeros)) (addf (Host.negf x) zeros)
    (addf (maximumf (Host.negf x) zeros) (Host.log1p (Host.exp (Host.negf (Host.absf (subf (Host.negf x) zeros))))))))
    (broadcastInDim S8x4096x2x256 ![] bcast_S_S8x4096x2x256 (constant S_ .f32 0x41800000#32))

/-- One direction's gates. -/
def gates (x : FVec Ideal S8x4096x2x256 .f32) : Vec Ideal S8x4096x2x4x64 .f32 := shapeCast S8x4096x2x4x64 x shapeCasts_S8x4096x2x256_S8x4096x2x4x64
def gates0 (x : FVec Ideal S8x4096x2x256 .f32) : Vec Ideal S8x4096x4x64 .f32 :=
  shapeCast S8x4096x4x64 (extractStridedSlice S8x4096x1x4x64 ![0, 0, 0, 0, 0] (gates x) slices_S8x4096x2x4x64_S8x4096x1x4x64_0_0_0_0_0) shapeCasts_S8x4096x1x4x64_S8x4096x4x64
def gates1 (x : FVec Ideal S8x4096x2x256 .f32) : Vec Ideal S8x4096x4x64 .f32 :=
  shapeCast S8x4096x4x64 (extractStridedSlice S8x4096x1x4x64 ![0, 0, 1, 0, 0] (gates x) slices_S8x4096x2x4x64_S8x4096x1x4x64_0_0_1_0_0) shapeCasts_S8x4096x1x4x64_S8x4096x4x64

/-- The incoming states, the directions' one after the other. -/
def hostState (A3 : Vec Ideal S8x2x4x64x128 .f32) : Vec Ideal S16x4x64x128 .f32 :=
  concatenate S16x4x64x128 0 [⟨S8x4x64x128, shapeCast S8x4x64x128 (extractStridedSlice S8x1x4x64x128 ![0, 0, 0, 0, 0] A3 slices_S8x2x4x64x128_S8x1x4x64x128_0_0_0_0_0) shapeCasts_S8x1x4x64x128_S8x4x64x128⟩,
    ⟨S8x4x64x128, shapeCast S8x4x64x128 (extractStridedSlice S8x1x4x64x128 ![0, 1, 0, 0, 0] A3 slices_S8x2x4x64x128_S8x1x4x64x128_0_1_0_0_0) shapeCasts_S8x1x4x64x128_S8x4x64x128⟩] concatenates_S8x4x64x128_S8x4x64x128_S16x4x64x128_d0

/-- The lower triangle. -/
def hostMask : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

end Cert.Gla
-- ==== Proof.ScanEntry.lean ====
/-
  What the reference's loop starts from.
-/
module

public import proofs.«01_k».proof.Proof.ScanHost

@[expose] public section

set_option maxRecDepth 16384

noncomputable section

namespace Cert.Gla

open Idealize.ShloMosaic Idealize.ShloMosaic.TcCoe Cert.ReferenceIdeal Cert.ReferenceIdeal.Gen Cert.ReferenceIdeal.Value Idealize.ShloMosaic.StableHlo

/-! ## The loop's entry holds them -/

section Entry

variable (m : (ℓ : Loc nD τ sig) → Buf (Elt Ideal) ℓ) (c : Dev nD)

abbrev a0 : Vec Ideal S8x4096x1664 .f32 := m ((c.tc : Thread nD τ).loc main_arg0)
abbrev a1 : Vec Ideal S2x16x256 .f32 := m ((c.tc : Thread nD τ).loc main_arg1)
abbrev a2 : Vec Ideal S2x256 .f32 := m ((c.tc : Thread nD τ).loc main_arg2)
abbrev a3 : Vec Ideal S8x2x4x64x128 .f32 := m ((c.tc : Thread nD τ).loc main_arg3)

theorem entry_q : entryContents preI m c (Proc.devRef .tc main_v48_0) = both64 (hostQ (a0 m c)) (hostQ (a0 m c)) := by
  simp only [entryContents, afterL_cons, afterL_nil]
  after_reads_simp
  rfl
theorem entry_k : entryContents preI m c (Proc.devRef .tc main_v48_1) = both64 (hostK (a0 m c)) (hostK (a0 m c)) := by
  simp only [entryContents, afterL_cons, afterL_nil]
  after_reads_simp
  rfl
theorem entry_v : entryContents preI m c (Proc.devRef .tc main_v48_2) = both128 (hostV (a0 m c)) (hostV (a0 m c)) := by
  simp only [entryContents, afterL_cons, afterL_nil]
  after_reads_simp
  rfl
set_option maxHeartbeats 4000000 in
theorem entry_g : entryContents preI m c (Proc.devRef .tc main_v48_3)
    = both64 (gates0 (hostLog (hostUp (a0 m c) (a1 m c) (a2 m c)))) (gates1 (hostLog (hostUp (a0 m c) (a1 m c) (a2 m c)))) := by
  simp only [entryContents, afterL_cons, afterL_nil]
  after_reads_simp
  rfl
theorem entry_mask : entryContents preI m c (Proc.devRef .tc main_v48_4) = hostMask := by
  simp only [entryContents, afterL_cons, afterL_nil]
  after_reads_simp
  rfl
theorem entry_state : entryContents preI m c (Proc.devRef .tc main_v48_6) = hostState (a3 m c) := by
  simp only [entryContents, afterL_cons, afterL_nil]
  after_reads_simp
  rfl

end Entry

end Cert.Gla
-- ==== Proof.ScanHostAt.lean ====
/-
  The elements of what the reference's host code hands its loop.
-/
module

public import proofs.«01_k».proof.Proof.ScanEntry

@[expose] public section

set_option maxRecDepth 16384

noncomputable section

namespace Cert.Gla

open Idealize.ShloMosaic Idealize.ShloMosaic.TcCoe Cert.ReferenceIdeal Cert.ReferenceIdeal.Gen Cert.ReferenceIdeal.Value

/-! ## Their elements -/

/-- The batch and the direction of a row of 16. -/
def rowBatch (B : Fin 16) : Fin 8 := ⟨B.val % 8, by omega⟩
def rowDir (B : Fin 16) : Fin 2 := ⟨B.val / 8, by omega⟩

theorem pos_fwd (B : Fin 16) (h : B.val < 8) (n l : Fin 64) : pos (rowDir B) (64 * n.val + l.val) = ⟨64 * n.val + l.val, by omega⟩ := by
  apply Fin.ext
  show (if B.val / 8 = 0 then _ else _) % 4096 = 64 * n.val + l.val
  rw [if_pos (by omega)]; omega
theorem pos_bwd (B : Fin 16) (h : ¬B.val < 8) (n l : Fin 64) : pos (rowDir B) (64 * n.val + l.val) = ⟨4095 - (64 * n.val + l.val), by omega⟩ := by
  apply Fin.ext
  show (if B.val / 8 = 0 then _ else _) % 4096 = 4095 - (64 * n.val + l.val)
  rw [if_neg (by omega)]; omega

theorem turned64 (y : Vec Ideal S8x4096x4x64 .f32) (b : Fin 8) (t : Fin 4096) (hd : Fin 4) (κ : Fin 64) : Host.reverse [1] y (ix4 b t hd κ) = y (ix4 b t.rev hd κ) :=
  congrArg y (funext fun a => match a with
    | ⟨0, _⟩ => rfl
    | ⟨1, _⟩ => rfl
    | ⟨2, _⟩ => rfl
    | ⟨3, _⟩ => rfl)

theorem cut64 (x : Vec Ideal S16x4096x4x64 .f32) (n : Fin 64) (B : Fin 16) (l : Fin 64) (hd : Fin 4) (κ : Fin 64) :
    transpose S64x16x64x4x64 [1, 0, 2, 3, 4] (shapeCast S16x64x64x4x64 x shapeCasts_S16x4096x4x64_S16x64x64x4x64) transposes_S16x64x64x4x64_S64x16x64x4x64_1_0_2_3_4 (ix5 n B l hd κ)
      = x (ix4 B ⟨64 * n.val + l.val, by omega⟩ hd κ) := by
  pointwise
  exact congrArg (fun z : Fin 4096 => x (ix4 B z hd κ)) (Fin.ext (congrArg (· + l.val) (Nat.mul_comm _ _)))

theorem joined64 (x y : Vec Ideal S8x4096x4x64 .f32) (B : Fin 16) (t : Fin 4096) (hd : Fin 4) (κ : Fin 64) :
    concatenate S16x4096x4x64 0 [⟨S8x4096x4x64, x⟩, ⟨S8x4096x4x64, y⟩] concatenates_S8x4096x4x64_S8x4096x4x64_S16x4096x4x64_d0 (ix4 B t hd κ)
      = if B.val < 8 then x (ix4 (rowBatch B) t hd κ) else y (ix4 (rowBatch B) t hd κ) := by
  have hB := B.isLt
  pointwise
  by_cases h : B.val < 8
  · rw [dif_pos h, if_pos h]
    exact congrArg (fun z : Fin 8 => x (ix4 z t hd κ)) (Fin.ext (by show B.val = B.val % 8; omega))
  · rw [dif_neg h, if_neg h]
    exact congrArg (fun z : Fin 8 => y (ix4 z t hd κ)) (Fin.ext (by show B.val - 8 = B.val % 8; omega))

theorem both64_at (x y : Vec Ideal S8x4096x4x64 .f32) (n : Fin 64) (B : Fin 16) (l : Fin 64) (hd : Fin 4) (κ : Fin 64) :
    both64 x y (ix5 n B l hd κ) = if B.val < 8 then x (ix4 (rowBatch B) (pos (rowDir B) (64 * n.val + l.val)) hd κ) else y (ix4 (rowBatch B) (pos (rowDir B) (64 * n.val + l.val)) hd κ) := by
  refine (cut64 _ n B l hd κ).trans ((joined64 x _ B _ hd κ).trans ?_)
  by_cases h : B.val < 8
  · rw [if_pos h, if_pos h, pos_fwd B h]
  · rw [if_neg h, if_neg h, pos_bwd B h, turned64]
    exact congrArg (fun z : Fin 4096 => y (ix4 (rowBatch B) z hd κ)) (Fin.ext (by rw [Fin.val_rev]; dsimp only; omega))

theorem turned128 (y : Vec Ideal S8x4096x4x128 .f32) (b : Fin 8) (t : Fin 4096) (hd : Fin 4) (κ : Fin 128) : Host.reverse [1] y (ix4 b t hd κ) = y (ix4 b t.rev hd κ) :=
  congrArg y (funext fun a => match a with
    | ⟨0, _⟩ => rfl
    | ⟨1, _⟩ => rfl
    | ⟨2, _⟩ => rfl
    | ⟨3, _⟩ => rfl)

theorem cut128 (x : Vec Ideal S16x4096x4x128 .f32) (n : Fin 64) (B : Fin 16) (l : Fin 64) (hd : Fin 4) (κ : Fin 128) :
    transpose S64x16x64x4x128 [1, 0, 2, 3, 4] (shapeCast S16x64x64x4x128 x shapeCasts_S16x4096x4x128_S16x64x64x4x128) transposes_S16x64x64x4x128_S64x16x64x4x128_1_0_2_3_4 (ix5 n B l hd κ)
      = x (ix4 B ⟨64 * n.val + l.val, by omega⟩ hd κ) := by
  pointwise
  exact congrArg (fun z : Fin 4096 => x (ix4 B z hd κ)) (Fin.ext (congrArg (· + l.val) (Nat.mul_comm _ _)))

theorem joined128 (x y : Vec Ideal S8x4096x4x128 .f32) (B : Fin 16) (t : Fin 4096) (hd : Fin 4) (κ : Fin 128) :
    concatenate S16x4096x4x128 0 [⟨S8x4096x4x128, x⟩, ⟨S8x4096x4x128, y⟩] concatenates_S8x4096x4x128_S8x4096x4x128_S16x4096x4x128_d0 (ix4 B t hd κ)
      = if B.val < 8 then x (ix4 (rowBatch B) t hd κ) else y (ix4 (rowBatch B) t hd κ) := by
  have hB := B.isLt
  pointwise
  by_cases h : B.val < 8
  · rw [dif_pos h, if_pos h]
    exact congrArg (fun z : Fin 8 => x (ix4 z t hd κ)) (Fin.ext (by show B.val = B.val % 8; omega))
  · rw [dif_neg h, if_neg h]
    exact congrArg (fun z : Fin 8 => y (ix4 z t hd κ)) (Fin.ext (by show B.val - 8 = B.val % 8; omega))

theorem both128_at (x y : Vec Ideal S8x4096x4x128 .f32) (n : Fin 64) (B : Fin 16) (l : Fin 64) (hd : Fin 4) (κ : Fin 128) :
    both128 x y (ix5 n B l hd κ) = if B.val < 8 then x (ix4 (rowBatch B) (pos (rowDir B) (64 * n.val + l.val)) hd κ) else y (ix4 (rowBatch B) (pos (rowDir B) (64 * n.val + l.val)) hd κ) := by
  refine (cut128 _ n B l hd κ).trans ((joined128 x _ B _ hd κ).trans ?_)
  by_cases h : B.val < 8
  · rw [if_pos h, if_pos h, pos_fwd B h]
  · rw [if_neg h, if_neg h, pos_bwd B h, turned128]
    exact congrArg (fun z : Fin 4096 => y (ix4 (rowBatch B) z hd κ)) (Fin.ext (by rw [Fin.val_rev]; dsimp only; omega))

theorem hostQ_at (A0 : Vec Ideal S8x4096x1664 .f32) (b : Fin 8) (t : Fin 4096) (hd : Fin 4) (κ : Fin 64) :
    hostQ A0 (ix4 b t hd κ) = A0 (ix3 b t ⟨64 * hd.val + κ.val, by omega⟩) * scaleC := by
  pointwise [hostQ, scaleC]
  exact congrArg (fun z : Fin 1664 => HMul.hMul (α := EReal) (A0 (ix3 b t z)) (Ideal.ofBits .f32 0x3E000000#32)) (Fin.ext (by dsimp only; omega))

theorem hostK_at (A0 : Vec Ideal S8x4096x1664 .f32) (b : Fin 8) (t : Fin 4096) (hd : Fin 4) (κ : Fin 64) :
    hostK A0 (ix4 b t hd κ) = A0 (ix3 b t ⟨256 + (64 * hd.val + κ.val), by omega⟩) := by
  pointwise [hostK]
  exact congrArg (fun z : Fin 1664 => A0 (ix3 b t z)) (Fin.ext (by dsimp only; omega))

theorem hostV_at (A0 : Vec Ideal S8x4096x1664 .f32) (b : Fin 8) (t : Fin 4096) (hd : Fin 4) (κ : Fin 128) :
    hostV A0 (ix4 b t hd κ) = A0 (ix3 b t ⟨512 + (128 * hd.val + κ.val), by omega⟩) := by
  pointwise [hostV]
  exact congrArg (fun z : Fin 1664 => A0 (ix3 b t z)) (Fin.ext (by dsimp only; omega))

theorem hostUp_at (A0 : Vec Ideal S8x4096x1664 .f32) (A1 : Vec Ideal S2x16x256 .f32) (A2 : Vec Ideal S2x256 .f32) (b : Fin 8) (t : Fin 4096) (d : Fin 2) (j : Fin 256) :
    hostUp A0 A1 A2 (ix4 b t d j) = (∑ x : Fin 16, A0 (ix3 b t ⟨1536 + (16 * d.val + x.val), by omega⟩) * A1 (ix3 d x j)) + A2 (ix2 d j) := by
  pointwise [hostUp]
  refine congrArg (fun z : EReal => HAdd.hAdd (α := EReal) z (A2 (ix2 d j))) (Finset.sum_congr rfl fun x _ => (mul_comm _ _).trans ?_)
  exact congrArg (fun z : Fin 1664 => HMul.hMul (α := EReal) (A0 (ix3 b t z)) (A1 (ix3 d x j))) (Fin.ext (by dsimp only; omega))

theorem sixteen : Ideal.ofBits .f32 0x41800000#32 = ((16 : ℝ) : EReal) := by
  simp [Ideal.ofBits, Ideal.ieee, -EReal.coe_mul]; norm_num

theorem normC_eq : normC = ((1 / 16 : ℝ) : EReal) := by
  show Ideal.ofBits .f32 0x3D800000#32 = _
  simp [Ideal.ofBits, Ideal.ieee, -EReal.coe_mul]; norm_num

theorem hostLog_at (x : FVec Ideal S8x4096x2x256 .f32) (j : S8x4096x2x256.Idx) : hostLog x j = lsig (x j) * normC := by
  pointwise [hostLog, zeros]
  rw [if_neg (fun h => h rfl), sixteen, Ideal.div_coe (by norm_num), ← normC_eq]
  refine congrArg (· * normC) ?_
  rw [← neg_softplus, sub_zero]
  rfl

theorem gates0_at (x : FVec Ideal S8x4096x2x256 .f32) (b : Fin 8) (t : Fin 4096) (hd : Fin 4) (κ : Fin 64) :
    gates0 x (ix4 b t hd κ) = x (ix4 b t 0 ⟨64 * hd.val + κ.val, by omega⟩) := by
  pointwise [gates0, gates]
  exact congrArg (fun z : Fin 256 => x (ix4 b t 0 z)) (Fin.ext (by dsimp only; omega))

theorem gates1_at (x : FVec Ideal S8x4096x2x256 .f32) (b : Fin 8) (t : Fin 4096) (hd : Fin 4) (κ : Fin 64) :
    gates1 x (ix4 b t hd κ) = x (ix4 b t 1 ⟨64 * hd.val + κ.val, by omega⟩) := by
  pointwise [gates1, gates]
  exact congrArg (fun z : Fin 256 => x (ix4 b t 1 z)) (Fin.ext (by dsimp only; omega))

theorem hostState_at (A3 : Vec Ideal S8x2x4x64x128 .f32) (B : Fin 16) (hd : Fin 4) (κ : Fin 64) (c : Fin 128) :
    hostState A3 (ix4 B hd κ c) = A3 (ix5 (rowBatch B) (rowDir B) hd κ c) := by
  have hB := B.isLt
  pointwise [hostState]
  by_cases h : B.val < 8
  · rw [dif_pos h]
    exact congrArg₂ (fun (z : Fin 8) (w : Fin 2) => A3 (ix5 z w hd κ c)) (Fin.ext (by show B.val = B.val % 8; omega)) (Fin.ext (by show 0 = B.val / 8; omega))
  · rw [dif_neg h]
    exact congrArg₂ (fun (z : Fin 8) (w : Fin 2) => A3 (ix5 z w hd κ c)) (Fin.ext (by show B.val - 8 = B.val % 8; omega)) (Fin.ext (by show 1 = B.val / 8; omega))

theorem hostMask_at (l s : Fin 64) : hostMask (ix2 l s) = if s ≤ l then 1#1 else 0#1 := by
  revert l s
  decide

/-! ## The sequences -/

section Entry

open Idealize.ShloMosaic.StableHlo

variable (m : (ℓ : Loc nD τ sig) → Buf (Elt Ideal) ℓ) (c : Dev nD)

/-- The sequence of a row of 16 and a head. -/
def rowSeq (B : Fin 16) (hd : Fin 4) : Seq := seqOf (a0 m c) (a1 m c) (a2 m c) (a3 m c) (rowBatch B) (rowDir B) hd

theorem start_q (n : Fin 64) (B : Fin 16) (l : Fin 64) (hd : Fin 4) (κ : Fin 64) :
    entryContents preI m c (Proc.devRef .tc main_v48_0) (ix5 n B l hd κ) = (rowSeq m c B hd).qs n.val l κ :=
  (congrFun (entry_q m c) _).trans ((both64_at _ _ n B l hd κ).trans ((ite_self _).trans (hostQ_at _ _ _ _ _)))

theorem start_k (n : Fin 64) (B : Fin 16) (l : Fin 64) (hd : Fin 4) (κ : Fin 64) :
    entryContents preI m c (Proc.devRef .tc main_v48_1) (ix5 n B l hd κ) = (rowSeq m c B hd).ks n.val l κ :=
  (congrFun (entry_k m c) _).trans ((both64_at _ _ n B l hd κ).trans ((ite_self _).trans (hostK_at _ _ _ _ _)))

theorem start_v (n : Fin 64) (B : Fin 16) (l : Fin 64) (hd : Fin 4) (cc : Fin 128) :
    entryContents preI m c (Proc.devRef .tc main_v48_2) (ix5 n B l hd cc) = (rowSeq m c B hd).vs n.val l cc :=
  (congrFun (entry_v m c) _).trans ((both128_at _ _ n B l hd cc).trans ((ite_self _).trans (hostV_at _ _ _ _ _)))

theorem start_g (n : Fin 64) (B : Fin 16) (l : Fin 64) (hd : Fin 4) (κ : Fin 64) :
    entryContents preI m c (Proc.devRef .tc main_v48_3) (ix5 n B l hd κ) = (rowSeq m c B hd).g (64 * n.val + l.val) κ := by
  refine (congrFun (entry_g m c) _).trans ((both64_at _ _ n B l hd κ).trans ?_)
  by_cases h : B.val < 8
  · rw [if_pos h, gates0_at, hostLog_at, hostUp_at]
    have e : rowDir B = 0 := Fin.ext (by show B.val / 8 = 0; omega)
    show _ = lsig (_ + _) * normC
    rw [e]
  · rw [if_neg h, gates1_at, hostLog_at, hostUp_at]
    have e : rowDir B = 1 := Fin.ext (by show B.val / 8 = 1; omega)
    show _ = lsig (_ + _) * normC
    rw [e]

theorem start_mask (l s : Fin 64) : entryContents preI m c (Proc.devRef .tc main_v48_4) (ix2 l s) = if s ≤ l then 1#1 else 0#1 :=
  (congrFun (entry_mask m c) _).trans (hostMask_at l s)

theorem start_state (B : Fin 16) (hd : Fin 4) (κ : Fin 64) (cc : Fin 128) :
    entryContents preI m c (Proc.devRef .tc main_v48_6) (ix4 B hd κ cc) = (rowSeq m c B hd).state 0 κ cc :=
  (congrFun (entry_state m c) _).trans (hostState_at _ B hd κ cc)

end Entry

end Cert.Gla
-- ==== Proof.ScanStep.lean ====
/-
  One trip of the reference's loop: chunk `n`'s outputs are stored, and the state moves past the chunk.
-/
module

public import proofs.«01_k».proof.Proof.ScanSeq
public import proofs.«01_k».proof.Proof.Gen.ReferenceIdeal.Run
public import Idealize.ShloMosaic.Lib.Pipeline.ValueKit
public import Idealize.ShloMosaic.Lib.Pointwise
public import Idealize.ShloMosaic.Lib.StableHlo.RunRead
public import Idealize.ShloMosaic.Lib.WordCmp

@[expose] public section

set_option maxRecDepth 16384

noncomputable section

namespace Cert.Gla

open Idealize.ShloMosaic Idealize.ShloMosaic.TcCoe Cert.ReferenceIdeal Cert.ReferenceIdeal.Gen Cert.ReferenceIdeal.Value

/-! ## The running sum -/

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The window's positions are its 64 rows. -/
theorem sum_rows (f : Fin 64 → EReal) (F : (⟨4, ![1, 64, 1, 1]⟩ : Shape).Idx → EReal) (h : ∀ w, F w = f (w 1)) : ∑ w, F w = ∑ r, f r := by
  refine Fintype.sum_equiv ⟨fun w => w 1, fun r => ix4 0 r 0 0, fun w => ?_, fun r => rfl⟩ _ _ h
  funext a
  match a with
  | ⟨0, _⟩ => exact Subsingleton.elim (α := Fin 1) _ _
  | ⟨1, _⟩ => rfl
  | ⟨2, _⟩ => exact Subsingleton.elim (α := Fin 1) _ _
  | ⟨3, _⟩ => exact Subsingleton.elim (α := Fin 1) _ _

theorem window_at (x : Vec Ideal S16x64x4x64 .f32) (init : Vec Ideal S_ .f32) (hi : init ix0 = 0) (B : Fin 16) (l : Fin 64) (hd : Fin 4) (κ : Fin 64) :
    Host.reduceWindowAdd (F := Ideal) (φ := .f32) ![1, 64, 1, 1] ![1, 1, 1, 1] ![0, 63, 0, 0] ![0, 0, 0, 0] x init
      reduceWindows_S16x64x4x64_S16x64x4x64_w1s1p0_0_w64s1p63_0_w1s1p0_0_w1s1p0_0 h_S_ (ix4 B l hd κ)
      = ∑ l' : Fin 64, if l' ≤ l then x (ix4 B l' hd κ) else 0 := by
  have hz : init (Shape.Idx.first h_S_) = 0 := (congrArg init (Subsingleton.elim _ _)).trans hi
  have hl := l.isLt
  have e := backSum_eq (fun p => if h : p < 64 then x (ix4 B ⟨p, h⟩ hd κ) else 0) 0 l
  have e' : (∑ l' : Fin 64, if l' ≤ l then (fun p => if h : p < 64 then x (ix4 B ⟨p, h⟩ hd κ) else (0 : EReal)) (64 * 0 + l'.val) else 0)
      = ∑ l' : Fin 64, if l' ≤ l then x (ix4 B l' hd κ) else 0 := by
    refine Finset.sum_congr rfl fun l' _ => ?_
    have : 64 * 0 + l'.val = l'.val := by omega
    dsimp only
    simp only [this, l'.isLt, dif_pos]
  refine Eq.trans ?_ (e.trans e')
  show Host.reduceWindow (· + ·) ![1, 64, 1, 1] ![1, 1, 1, 1] ![0, 63, 0, 0] ![0, 0, 0, 0] x (fun _ : (⟨0, ![]⟩ : Shape).Idx => init (Shape.Idx.first h_S_))
    reduceWindows_S16x64x4x64_S16x64x4x64_w1s1p0_0_w64s1p63_0_w1s1p0_0_w1s1p0_0 (by decide) (ix4 B l hd κ) = _
  rw [hz]
  unfold Host.reduceWindow
  refine (foldl_add _ _ _).trans ?_
  rw [zero_add, ← Fin.sum_univ_def]
  refine (Finset.sum_congr rfl fun n _ => ?_ : _ = ∑ n, (fun w : (⟨4, ![1, 64, 1, 1]⟩ : Shape).Idx =>
    if 63 ≤ l.val + (w 1).val then (if h : l.val + (w 1).val - 63 < 64 then x (ix4 B ⟨l.val + (w 1).val - 63, h⟩ hd κ) else 0) else 0)
      ((⟨4, ![1, 64, 1, 1]⟩ : Shape).rowMajor.symm n)).trans ((Equiv.sum_comp (⟨4, ![1, 64, 1, 1]⟩ : Shape).rowMajor.symm _).trans
    ((sum_rows (fun r => if 63 ≤ l.val + r.val then (if h : l.val + r.val - 63 < 64 then x (ix4 B ⟨l.val + r.val - 63, h⟩ hd κ) else 0) else 0) _ (fun _ => rfl)).trans ?_))
  rotate_left
  · rw [backSum, Finset.sum_range, ← Equiv.sum_comp Fin.revPerm]
    refine Finset.sum_congr rfl fun r _ => ?_
    have hr := r.isLt
    have hv : (Fin.revPerm r).val = 63 - r.val := by
      show (Fin.rev r).val = _
      rw [Fin.val_rev]; omega
    rw [hv]
    by_cases h : r.val ≤ l.val
    · rw [if_pos (by omega), if_pos (by omega), dif_pos (by omega), dif_pos (by omega)]
      exact congrArg (fun z : Fin 64 => x (ix4 B z hd κ)) (Fin.ext (by dsimp only; omega))
    · rw [if_neg (by omega), if_neg (by omega)]
  · have w0 : ((⟨4, ![1, 64, 1, 1]⟩ : Shape).rowMajor.symm n 0).val = 0 := Nat.lt_one_iff.mp ((⟨4, ![1, 64, 1, 1]⟩ : Shape).rowMajor.symm n 0).isLt
    have w2 : ((⟨4, ![1, 64, 1, 1]⟩ : Shape).rowMajor.symm n 2).val = 0 := Nat.lt_one_iff.mp ((⟨4, ![1, 64, 1, 1]⟩ : Shape).rowMajor.symm n 2).isLt
    have w3 : ((⟨4, ![1, 64, 1, 1]⟩ : Shape).rowMajor.symm n 3).val = 0 := Nat.lt_one_iff.mp ((⟨4, ![1, 64, 1, 1]⟩ : Shape).rowMajor.symm n 3).isLt
    have w1 : ((⟨4, ![1, 64, 1, 1]⟩ : Shape).rowMajor.symm n 1).val < 64 := ((⟨4, ![1, 64, 1, 1]⟩ : Shape).rowMajor.symm n 1).isLt
    have hB := B.isLt
    have hh := hd.isLt
    have hk := κ.isLt
    dsimp only
    by_cases h : 63 ≤ l.val + ((⟨4, ![1, 64, 1, 1]⟩ : Shape).rowMajor.symm n 1).val
    · refine (dif_pos (fun a => ?_)).trans ?_
      · match a with
        | ⟨0, _⟩ => show 0 ≤ B.val * 1 + ((⟨4, ![1, 64, 1, 1]⟩ : Shape).rowMajor.symm n 0).val ∧ B.val * 1 + ((⟨4, ![1, 64, 1, 1]⟩ : Shape).rowMajor.symm n 0).val - 0 < 16; omega
        | ⟨1, _⟩ => show 63 ≤ l.val * 1 + ((⟨4, ![1, 64, 1, 1]⟩ : Shape).rowMajor.symm n 1).val ∧ l.val * 1 + ((⟨4, ![1, 64, 1, 1]⟩ : Shape).rowMajor.symm n 1).val - 63 < 64; omega
        | ⟨2, _⟩ => show 0 ≤ hd.val * 1 + ((⟨4, ![1, 64, 1, 1]⟩ : Shape).rowMajor.symm n 2).val ∧ hd.val * 1 + ((⟨4, ![1, 64, 1, 1]⟩ : Shape).rowMajor.symm n 2).val - 0 < 4; omega
        | ⟨3, _⟩ => show 0 ≤ κ.val * 1 + ((⟨4, ![1, 64, 1, 1]⟩ : Shape).rowMajor.symm n 3).val ∧ κ.val * 1 + ((⟨4, ![1, 64, 1, 1]⟩ : Shape).rowMajor.symm n 3).val - 0 < 64; omega
      rw [if_pos h, dif_pos (by omega)]
      refine congrArg x (funext fun a => Fin.ext ?_)
      match a with
      | ⟨0, _⟩ => show B.val * 1 + ((⟨4, ![1, 64, 1, 1]⟩ : Shape).rowMajor.symm n 0).val - 0 = B.val; omega
      | ⟨1, _⟩ => show l.val * 1 + ((⟨4, ![1, 64, 1, 1]⟩ : Shape).rowMajor.symm n 1).val - 63 = l.val + ((⟨4, ![1, 64, 1, 1]⟩ : Shape).rowMajor.symm n 1).val - 63; omega
      | ⟨2, _⟩ => show hd.val * 1 + ((⟨4, ![1, 64, 1, 1]⟩ : Shape).rowMajor.symm n 2).val - 0 = hd.val; omega
      | ⟨3, _⟩ => show κ.val * 1 + ((⟨4, ![1, 64, 1, 1]⟩ : Shape).rowMajor.symm n 3).val - 0 = κ.val; omega
    · refine (dif_neg (fun q => h (by
        have := (q 1).1
        change 63 ≤ l.val * 1 + ((⟨4, ![1, 64, 1, 1]⟩ : Shape).rowMajor.symm n 1).val at this
        omega))).trans ?_
      rw [if_neg h]

/-! ## Chunk `n` of the carried arrays -/

theorem chunk64 (x : Vec Ideal S64x16x64x4x64 .f32) (c : IVec S_ 32) (n : Fin 64) (hc : c = fun _ => BitVec.ofNat 32 n.val)
    (B : Fin 16) (l : Fin 64) (hd : Fin 4) (κ : Fin 64) :
    shapeCast S16x64x4x64 (Host.dynamicSlice S1x16x64x4x64 x (fun k => (((![c, constantI S_ 32 0#32, constantI S_ 32 0#32, constantI S_ 32 0#32, constantI S_ 32 0#32] : Fin 5 → IVec S_ 32)) k (Shape.Idx.first h_S_)).toInt) sliceFits_S64x16x64x4x64_S1x16x64x4x64) shapeCasts_S1x16x64x4x64_S16x64x4x64 (ix4 B l hd κ)
      = x (ix5 n B l hd κ) := by
  have hn := n.isLt
  have hs : S64x16x64x4x64.Slices ![n.val, 0, 0, 0, 0] S1x16x64x4x64 := ⟨rfl, fun a => by fin_cases a <;> simp [S64x16x64x4x64, S1x16x64x4x64] <;> omega⟩
  rw [WordCmp.dynamicSlice_eq_extract _ x _ _ ![n.val, 0, 0, 0, 0] hs (fun a => by
    subst hc
    fin_cases a
    · show (BitVec.ofNat 32 n.val).toInt = (n.val : Int)
      exact WordCmp.toInt_ofNat_of_lt (by omega)
    all_goals rfl)]
  pointwise

theorem chunk128 (x : Vec Ideal S64x16x64x4x128 .f32) (c : IVec S_ 32) (n : Fin 64) (hc : c = fun _ => BitVec.ofNat 32 n.val)
    (B : Fin 16) (l : Fin 64) (hd : Fin 4) (κ : Fin 128) :
    shapeCast S16x64x4x128 (Host.dynamicSlice S1x16x64x4x128 x (fun k => (((![c, constantI S_ 32 0#32, constantI S_ 32 0#32, constantI S_ 32 0#32, constantI S_ 32 0#32] : Fin 5 → IVec S_ 32)) k (Shape.Idx.first h_S_)).toInt) sliceFits_S64x16x64x4x128_S1x16x64x4x128) shapeCasts_S1x16x64x4x128_S16x64x4x128 (ix4 B l hd κ)
      = x (ix5 n B l hd κ) := by
  have hn := n.isLt
  have hs : S64x16x64x4x128.Slices ![n.val, 0, 0, 0, 0] S1x16x64x4x128 := ⟨rfl, fun a => by fin_cases a <;> simp [S64x16x64x4x128, S1x16x64x4x128] <;> omega⟩
  rw [WordCmp.dynamicSlice_eq_extract _ x _ _ ![n.val, 0, 0, 0, 0] hs (fun a => by
    subst hc
    fin_cases a
    · show (BitVec.ofNat 32 n.val).toInt = (n.val : Int)
      exact WordCmp.toInt_ofNat_of_lt (by omega)
    all_goals rfl)]
  pointwise

/-! ## The trip's products -/

theorem inter_at (x : Vec Ideal S16x64x4x64 .f32) (y : Vec Ideal S16x64x4x64 .f32) (B : Fin 16) (hd : Fin 4) (l s : Fin 64) :
    Host.dotGeneral (F := Ideal) (φ₁ := .f32) (φ₂ := .f32) dot_S16x64x4x64_S16x64x4x64_S16x4x64x64_3_3_1_1_02_02 none x y (ix4 B hd l s)
      = ∑ κ : Fin 64, x (ix4 B l hd κ) * y (ix4 B s hd κ) := by
  pointwise

theorem intra_at (x : Vec Ideal S16x64x4x128 .f32) (y : Vec Ideal S16x4x64x64 .f32) (B : Fin 16) (l : Fin 64) (hd : Fin 4) (c : Fin 128) :
    transpose S16x64x4x128 [0, 3, 1, 2] (Host.dotGeneral (F := Ideal) (φ₁ := .f32) (φ₂ := .f32) dot_S16x64x4x128_S16x4x64x64_S16x4x128x64_1_3_3_2_02_01 none x y) transposes_S16x4x128x64_S16x64x4x128_0_3_1_2 (ix4 B l hd c)
      = ∑ s : Fin 64, x (ix4 B s hd c) * y (ix4 B hd l s) := by
  pointwise

theorem carry_at (x : Vec Ideal S16x4x64x128 .f32) (y : Vec Ideal S16x64x4x64 .f32) (B : Fin 16) (l : Fin 64) (hd : Fin 4) (c : Fin 128) :
    transpose S16x64x4x128 [0, 3, 1, 2] (Host.dotGeneral (F := Ideal) (φ₁ := .f32) (φ₂ := .f32) dot_S16x4x64x128_S16x64x4x64_S16x4x128x64_2_3_3_1_01_02 none x y) transposes_S16x4x128x64_S16x64x4x128_0_3_1_2 (ix4 B l hd c)
      = ∑ κ : Fin 64, x (ix4 B hd κ c) * y (ix4 B l hd κ) := by
  pointwise

theorem gain_at (x : Vec Ideal S16x64x4x64 .f32) (y : Vec Ideal S16x64x4x128 .f32) (B : Fin 16) (hd : Fin 4) (κ : Fin 64) (c : Fin 128) :
    Host.dotGeneral (F := Ideal) (φ₁ := .f32) (φ₂ := .f32) dot_S16x64x4x64_S16x64x4x128_S16x4x64x128_1_1_3_3_02_02 none x y (ix4 B hd κ c)
      = ∑ s : Fin 64, x (ix4 B s hd κ) * y (ix4 B s hd c) := by
  pointwise

/-- The state past the chunk. -/
theorem past_at (S : FVec Ideal S16x4x64x128 .f32) (k cum : FVec Ideal S16x64x4x64 .f32) (v : FVec Ideal S16x64x4x128 .f32) (top : FVec Ideal S16x4x64 .f32)
    (B : Fin 16) (hd : Fin 4) (κ : Fin 64) (c : Fin 128) :
    (addf (mulf S (broadcastInDim S16x4x64x128 ![0, 1, 2, 3] bcast_S16x4x64x1_S16x4x64x128_0_1_2_3 (broadcastInDim S16x4x64x1 ![0, 1, 2] bcast_S16x4x64_S16x4x64x1_0_1_2 (Host.exp top)))) (Host.dotGeneral (F := Ideal) (φ₁ := .f32) (φ₂ := .f32) dot_S16x64x4x64_S16x64x4x128_S16x4x64x128_1_1_3_3_02_02 none (mulf k (Host.exp (subf (broadcastInDim S16x64x4x64 ![0, 1, 2, 3] bcast_S16x1x4x64_S16x64x4x64_0_1_2_3 (broadcastInDim S16x1x4x64 ![0, 2, 3] bcast_S16x4x64_S16x1x4x64_0_2_3 top)) cum))) v)) (ix4 B hd κ c)
      = S (ix4 B hd κ c) * Ideal.exp (top (ix3 B hd κ)) + ∑ s : Fin 64, v (ix4 B s hd c) * (k (ix4 B s hd κ) * Ideal.exp (top (ix3 B hd κ) - cum (ix4 B s hd κ))) := by
  pointwise
  exact congrArg (_ + ·) (Finset.sum_congr rfl fun s _ => mul_comm _ _)

/-- The chunk's outputs. -/
def chunkRows (M : IVec S64x64 1) (S : FVec Ideal S16x4x64x128 .f32) (q k cum : FVec Ideal S16x64x4x64 .f32) (v : FVec Ideal S16x64x4x128 .f32)
    (mid : FVec Ideal S16x1x4x64 .f32) : FVec Ideal S16x64x4x128 .f32 :=
  addf (transpose S16x64x4x128 [0, 3, 1, 2] (Host.dotGeneral (F := Ideal) (φ₁ := .f32) (φ₂ := .f32) dot_S16x64x4x128_S16x4x64x64_S16x4x128x64_1_3_3_2_02_01 none v (select (broadcastInDim S16x4x64x64 ![2, 3] bcast_S64x64_S16x4x64x64_2_3 M) (Host.dotGeneral (F := Ideal) (φ₁ := .f32) (φ₂ := .f32) dot_S16x64x4x64_S16x64x4x64_S16x4x64x64_3_3_1_1_02_02 none (mulf q (Host.exp (subf cum (broadcastInDim S16x64x4x64 ![0, 1, 2, 3] bcast_S16x1x4x64_S16x64x4x64_0_1_2_3 mid)))) (mulf k (Host.exp (subf (broadcastInDim S16x64x4x64 ![0, 1, 2, 3] bcast_S16x1x4x64_S16x64x4x64_0_1_2_3 mid) cum)))) (broadcastInDim S16x4x64x64 ![] bcast_S_S16x4x64x64 (id (constant S_ .f32 0x00000000#32))))) transposes_S16x4x128x64_S16x64x4x128_0_3_1_2)
    (transpose S16x64x4x128 [0, 3, 1, 2] (Host.dotGeneral (F := Ideal) (φ₁ := .f32) (φ₂ := .f32) dot_S16x4x64x128_S16x64x4x64_S16x4x128x64_2_3_3_1_01_02 none S (mulf q (Host.exp cum))) transposes_S16x4x128x64_S16x64x4x128_0_3_1_2)

theorem chunkRows_at (M : IVec S64x64 1) (hM : ∀ l s, M (ix2 l s) = if s ≤ l then 1#1 else 0#1) (S : FVec Ideal S16x4x64x128 .f32) (q k cum : FVec Ideal S16x64x4x64 .f32) (v : FVec Ideal S16x64x4x128 .f32)
    (mid : FVec Ideal S16x1x4x64 .f32) (hm : ∀ B hd κ, mid (ix4 B 0 hd κ) = cum (ix4 B 32 hd κ)) (B : Fin 16) (l : Fin 64) (hd : Fin 4) (c : Fin 128) :
    chunkRows M S q k cum v mid (ix4 B l hd c)
      = chunkOut (fun l κ => cum (ix4 B l hd κ)) (fun l κ => q (ix4 B l hd κ)) (fun l κ => k (ix4 B l hd κ)) (fun l c => v (ix4 B l hd c)) (fun κ c => S (ix4 B hd κ c)) l c := by
  pointwise [chunkRows]
  unfold chunkOut
  simp only [hM, hm]
  refine congrArg₂ (fun a b : EReal => a + b) (Finset.sum_congr rfl fun x _ => (mul_comm _ _).trans (congrArg (fun z : EReal => z * v (ix4 B x hd c)) ?_))
    (Finset.sum_congr rfl fun κ _ => mul_comm _ _)
  by_cases h : x ≤ l
  · rw [if_pos h, if_pos h]
    rfl
  · rw [if_neg h, if_neg h]
    exact Ideal.ofBits_zero .f32

/-! ## A trip -/

/-- Before trip `n`: the chunks are the sequences', the state is the one before chunk `n`, and the earlier chunks' outputs are stored. -/
structure Before (s : Fin 16 → Fin 4 → Seq) (V0 : Valuation τ sig (Elt Ideal)) (n : ℕ) : Prop where
  q : ∀ (r : Fin 64) (B : Fin 16) (l : Fin 64) (hd : Fin 4) (κ : Fin 64), V0 (Proc.devRef .tc main_v48_0) (ix5 r B l hd κ) = (s B hd).qs r.val l κ
  k : ∀ (r : Fin 64) (B : Fin 16) (l : Fin 64) (hd : Fin 4) (κ : Fin 64), V0 (Proc.devRef .tc main_v48_1) (ix5 r B l hd κ) = (s B hd).ks r.val l κ
  v : ∀ (r : Fin 64) (B : Fin 16) (l : Fin 64) (hd : Fin 4) (c : Fin 128), V0 (Proc.devRef .tc main_v48_2) (ix5 r B l hd c) = (s B hd).vs r.val l c
  g : ∀ (r : Fin 64) (B : Fin 16) (l : Fin 64) (hd : Fin 4) (κ : Fin 64), V0 (Proc.devRef .tc main_v48_3) (ix5 r B l hd κ) = (s B hd).g (64 * r.val + l.val) κ
  mask : ∀ l s : Fin 64, V0 (Proc.devRef .tc main_v48_4) (ix2 l s) = if s ≤ l then 1#1 else 0#1
  ctr : V0 (Proc.devRef .tc main_v48_5) = fun _ => BitVec.ofNat 32 n
  state : ∀ (B : Fin 16) (hd : Fin 4) (κ : Fin 64) (c : Fin 128), V0 (Proc.devRef .tc main_v48_6) (ix4 B hd κ c) = (s B hd).state n κ c
  out : ∀ (r : Fin 64), r.val < n → ∀ (B : Fin 16) (l : Fin 64) (hd : Fin 4) (c : Fin 128), V0 (Proc.devRef .tc main_v48_7) (ix5 r B l hd c) = (s B hd).out r.val l c

section Trip

variable {s : Fin 16 → Fin 4 → Seq} {V0 : Valuation τ sig (Elt Ideal)} {n : Fin 64} (h : Before s V0 n.val)
include h

theorem trip_q_at (B : Fin 16) (l : Fin 64) (hd : Fin 4) (κ : Fin 64) : res_main_while0b_v55 V0 (ix4 B l hd κ) = (s B hd).qs n.val l κ :=
  (chunk64 _ _ n h.ctr B l hd κ).trans (h.q n B l hd κ)
theorem trip_k_at (B : Fin 16) (l : Fin 64) (hd : Fin 4) (κ : Fin 64) : res_main_while0b_v56 V0 (ix4 B l hd κ) = (s B hd).ks n.val l κ :=
  (chunk64 _ _ n h.ctr B l hd κ).trans (h.k n B l hd κ)
theorem trip_v_at (B : Fin 16) (l : Fin 64) (hd : Fin 4) (c : Fin 128) : res_main_while0b_v57 V0 (ix4 B l hd c) = (s B hd).vs n.val l c :=
  (chunk128 _ _ n h.ctr B l hd c).trans (h.v n B l hd c)
theorem trip_cum_at (B : Fin 16) (l : Fin 64) (hd : Fin 4) (κ : Fin 64) : res_main_while0b_v59 V0 (ix4 B l hd κ) = (s B hd).cum n.val l κ := by
  refine (window_at _ _ (by pointwise) B l hd κ).trans (Finset.sum_congr rfl fun l' _ => ?_)
  exact congrArg (fun z : EReal => if l' ≤ l then z else 0) ((chunk64 _ _ n h.ctr B l' hd κ).trans (h.g n B l' hd κ))
theorem trip_mid_at (B : Fin 16) (hd : Fin 4) (κ : Fin 64) : res_main_while0b_v60 V0 (ix4 B 0 hd κ) = res_main_while0b_v59 V0 (ix4 B 32 hd κ) := by
  pointwise [res_main_while0b_v60]
theorem trip_top_at (B : Fin 16) (hd : Fin 4) (κ : Fin 64) : res_main_while0b_v79 V0 (ix3 B hd κ) = (s B hd).cum n.val 63 κ := by
  refine Eq.trans ?_ (trip_cum_at h B 63 hd κ)
  pointwise [res_main_while0b_v79]

theorem state_next (B : Fin 16) (hd : Fin 4) (κ : Fin 64) (c : Fin 128) : step_main_v48_6 V0 (ix4 B hd κ c) = (s B hd).state (n.val + 1) κ c := by
  refine (past_at (V0 (Proc.devRef .tc main_v48_6)) (res_main_while0b_v56 V0) (res_main_while0b_v59 V0) (res_main_while0b_v57 V0) (res_main_while0b_v79 V0) B hd κ c).trans ?_
  simp only [trip_top_at h, trip_cum_at h, trip_k_at h, trip_v_at h]
  exact congrArg (fun z : EReal => z * _ + _) (h.state B hd κ c)

theorem trip_rows_at (B : Fin 16) (l : Fin 64) (hd : Fin 4) (c : Fin 128) :
    chunkRows (V0 (Proc.devRef .tc main_v48_4)) (V0 (Proc.devRef .tc main_v48_6)) (res_main_while0b_v55 V0) (res_main_while0b_v56 V0) (res_main_while0b_v59 V0) (res_main_while0b_v57 V0) (res_main_while0b_v60 V0) (ix4 B l hd c)
      = (s B hd).out n.val l c := by
  refine (chunkRows_at _ h.mask _ _ _ _ _ _ (trip_mid_at h) B l hd c).trans ?_
  simp only [trip_cum_at h, trip_q_at h, trip_k_at h, trip_v_at h]
  exact congrArg (fun z => chunkOut _ _ _ _ z l c) (funext fun κ => funext fun c => h.state B hd κ c)

theorem out_next (r : Fin 64) (hr : r.val < n.val + 1) (B : Fin 16) (l : Fin 64) (hd : Fin 4) (c : Fin 128) :
    step_main_v48_7 V0 (ix5 r B l hd c) = (s B hd).out r.val l c := by
  have hn := n.isLt
  have hs : S64x16x64x4x128.Slices ![n.val, 0, 0, 0, 0] S1x16x64x4x128 := ⟨rfl, fun a => by fin_cases a <;> simp [S64x16x64x4x128, S1x16x64x4x128] <;> omega⟩
  unfold step_main_v48_7
  rw [WordCmp.dynamicUpdateSlice_eq_update _ _ _ _ ![n.val, 0, 0, 0, 0] hs (fun a => by
    rw [h.ctr]
    fin_cases a
    · show (BitVec.ofNat 32 n.val).toInt = (n.val : Int)
      exact WordCmp.toInt_ofNat_of_lt (by omega)
    all_goals rfl)]
  show updateSlice (V0 (Proc.devRef .tc main_v48_7)) (broadcastInDim S1x16x64x4x128 ![1, 2, 3, 4] bcast_S16x64x4x128_S1x16x64x4x128_1_2_3_4 (chunkRows (V0 (Proc.devRef .tc main_v48_4)) (V0 (Proc.devRef .tc main_v48_6)) (res_main_while0b_v55 V0) (res_main_while0b_v56 V0) (res_main_while0b_v59 V0) (res_main_while0b_v57 V0) (res_main_while0b_v60 V0))) ![n.val, 0, 0, 0, 0] hs (ix5 r B l hd c) = _
  have hq := trip_rows_at h B l hd c
  revert hq
  generalize chunkRows (V0 (Proc.devRef .tc main_v48_4)) (V0 (Proc.devRef .tc main_v48_6)) (res_main_while0b_v55 V0) (res_main_while0b_v56 V0) (res_main_while0b_v59 V0) (res_main_while0b_v57 V0) (res_main_while0b_v60 V0) = y
  intro hq
  pointwise
  have hB := B.isLt
  have hl := l.isLt
  have hh := hd.isLt
  have hc := c.isLt
  by_cases e : r = n
  · subst e
    refine (dif_pos ?_).trans hq
    show ∀ a : Fin 5, _
    intro a
    match a with
    | ⟨0, _⟩ => show r.val ≤ r.val ∧ r.val < r.val + 1; omega
    | ⟨1, _⟩ => show 0 ≤ B.val ∧ B.val < 0 + 16; omega
    | ⟨2, _⟩ => show 0 ≤ l.val ∧ l.val < 0 + 64; omega
    | ⟨3, _⟩ => show 0 ≤ hd.val ∧ hd.val < 0 + 4; omega
    | ⟨4, _⟩ => show 0 ≤ c.val ∧ c.val < 0 + 128; omega
  · have hne : r.val ≠ n.val := fun q => e (Fin.ext q)
    refine (dif_neg fun q => ?_).trans (h.out r (by omega) B l hd c)
    have := (q (0 : Fin 5)).1
    change n.val ≤ r.val at this
    omega

theorem next : Before s (STEP V0) (n.val + 1) where
  q r B l hd κ := (congrFun (STEP_main_v48_0 V0) _).trans (h.q r B l hd κ)
  k r B l hd κ := (congrFun (STEP_main_v48_1 V0) _).trans (h.k r B l hd κ)
  v r B l hd c := (congrFun (STEP_main_v48_2 V0) _).trans (h.v r B l hd c)
  g r B l hd κ := (congrFun (STEP_main_v48_3 V0) _).trans (h.g r B l hd κ)
  mask l s := (congrFun (STEP_main_v48_4 V0) _).trans (h.mask l s)
  ctr := (STEP_main_v48_5 V0).trans (by
    show addi (V0 (Proc.devRef .tc main_v48_5)) (constantI S_ 32 1#32) = _
    rw [h.ctr]
    funext _
    show BitVec.ofNat 32 n.val + 1#32 = _
    rw [BitVec.ofNat_add])
  state B hd κ c := (congrFun (STEP_main_v48_6 V0) _).trans (state_next h B hd κ c)
  out r hr B l hd c := (congrFun (STEP_main_v48_7 V0) _).trans (out_next h r hr B l hd c)

end Trip

/-- After `k` trips. -/
theorem iterated {s : Fin 16 → Fin 4 → Seq} {V0 : Valuation τ sig (Elt Ideal)} (h : Before s V0 0) : ∀ k : ℕ, k ≤ 64 → Before s (STEP^[k] V0) k
  | 0, _ => h
  | k + 1, hk => by
    rw [Function.iterate_succ_apply']
    exact next (n := ⟨k, hk⟩) (iterated h k (Nat.le_of_succ_le hk))

end Cert.Gla
-- ==== Proof.Scan.lean ====
/-
  The two scans leave the same arrays.
-/
module

public import proofs.«01_k».proof.Defs
public import proofs.«01_k».proof.Proof.ScanGrid
public import proofs.«01_k».proof.Proof.ScanHostAt
public import proofs.«01_k».proof.Proof.ScanStep

@[expose] public section

set_option maxRecDepth 16384

noncomputable section

namespace Cert.Gla

open Idealize.ShloMosaic Idealize.ShloMosaic.TcCoe Idealize.SL.Sem

section Reference

open Cert.ReferenceIdeal Cert.ReferenceIdeal.Gen Cert.ReferenceIdeal.Value Idealize.ShloMosaic.StableHlo

/-- A place of the forward result, by batch, chunk, row and head. -/
theorem fwd_place (V0 : Valuation τ sig (Elt Ideal)) (b : Fin 8) (p : Fin 4096) (j : Fin 512) :
    out_main_v52 V0 (ix3 b p j) = V0 (Proc.devRef .tc main_v48_7)
      (ix5 ⟨p.val / 64, by omega⟩ ⟨b.val, by omega⟩ ⟨p.val % 64, Nat.mod_lt _ (by decide)⟩ ⟨j.val / 128, by omega⟩ ⟨j.val % 128, Nat.mod_lt _ (by decide)⟩) := by
  unfold out_main_v52
  generalize V0 (Proc.devRef .tc main_v48_7) = x
  change Vec Ideal S64x16x64x4x128 .f32 at x
  pointwise

theorem turned (x : Vec Ideal S8x4096x512 .f32) (b : Fin 8) (p : Fin 4096) (j : Fin 512) :
    Host.reverse [1] x (ix3 b p j) = x (ix3 b ⟨4095 - p.val, by omega⟩ j) :=
  congrArg x (funext fun a => match a with
    | ⟨0, _⟩ => rfl
    | ⟨1, _⟩ => Fin.ext (show (Fin.rev p).val = 4095 - p.val by rw [Fin.val_rev]; omega)
    | ⟨2, _⟩ => rfl)

/-- A place of the backward result: the rows come last first, from the upper batches. -/
theorem bwd_place (V0 : Valuation τ sig (Elt Ideal)) (b : Fin 8) (p : Fin 4096) (j : Fin 512) :
    out_main_v54 V0 (ix3 b p j) = V0 (Proc.devRef .tc main_v48_7)
      (ix5 ⟨(4095 - p.val) / 64, by omega⟩ ⟨8 + b.val, by omega⟩ ⟨(4095 - p.val) % 64, Nat.mod_lt _ (by decide)⟩ ⟨j.val / 128, by omega⟩ ⟨j.val % 128, Nat.mod_lt _ (by decide)⟩) := by
  have hp := p.isLt
  unfold out_main_v54
  generalize V0 (Proc.devRef .tc main_v48_7) = x
  change Vec Ideal S64x16x64x4x128 .f32 at x
  refine (turned _ b p j).trans ?_
  pointwise

variable (m : (ℓ : Loc nD τ sig) → Buf (Elt Ideal) ℓ) (c : Dev nD)

/-- What the loop starts from. -/
theorem before : Before (rowSeq m c) (entryContents preI m c) 0 where
  q := start_q m c
  k := start_k m c
  v := start_v m c
  g := start_g m c
  mask := start_mask m c
  ctr := ctr_entry m c
  state := start_state m c
  out r hr := absurd hr (Nat.not_lt_zero _)

theorem fwd_at (b : Fin 8) (p : Fin 4096) (j : Fin 512) :
    out_main_v52 (STEP^[64] (entryContents preI m c)) (ix3 b p j) = seqOut (a0 m c) (a1 m c) (a2 m c) (a3 m c) 0 b p j := by
  have hp := p.isLt
  refine (fwd_place _ b p j).trans (((iterated (before m c) 64 le_rfl).out _ (by dsimp only; omega) _ _ _ _).trans ?_)
  have e : (pos 0 p.val).val = p.val := by
    show (if (0 : ℕ) = 0 then p.val else 4095 - p.val) % 4096 = p.val
    rw [if_pos rfl]; omega
  unfold seqOut rowSeq
  rw [show rowBatch ⟨b.val, by omega⟩ = b from Fin.ext (by show b.val % 8 = b.val; omega),
    show rowDir ⟨b.val, by omega⟩ = 0 from Fin.ext (by show b.val / 8 = 0; omega)]
  simp only [e]

theorem bwd_at (b : Fin 8) (p : Fin 4096) (j : Fin 512) :
    out_main_v54 (STEP^[64] (entryContents preI m c)) (ix3 b p j) = seqOut (a0 m c) (a1 m c) (a2 m c) (a3 m c) 1 b p j := by
  have hp := p.isLt
  refine (bwd_place _ b p j).trans (((iterated (before m c) 64 le_rfl).out _ (by dsimp only; omega) _ _ _ _).trans ?_)
  have e : (pos 1 p.val).val = 4095 - p.val := by
    show (if (1 : ℕ) = 0 then p.val else 4095 - p.val) % 4096 = 4095 - p.val
    rw [if_neg (by decide)]; omega
  unfold seqOut rowSeq
  rw [show rowBatch ⟨8 + b.val, by omega⟩ = b from Fin.ext (by show (8 + b.val) % 8 = b.val; omega),
    show rowDir ⟨8 + b.val, by omega⟩ = 1 from Fin.ext (by show (8 + b.val) / 8 = 1; omega)]
  simp only [e]

end Reference

/-- The kernel and the reference leave the same arrays. -/
theorem algebraic : Cert.algebraic_KernelIdeal_ReferenceIdeal := by
  intro m g m' g' _ hm
  refine ⟨fun c => (KernelIdeal.Gen.dats m 0 c).arrAt 5 KernelIdeal.cfg0.N, fun c => (KernelIdeal.Gen.dats m 0 c).arrAt 6 KernelIdeal.cfg0.N,
    (θ_run _ _ _).mono (fun r h c => ⟨(h c).1, (h c).2.1, (h c).2.2.2⟩) (KernelIdeal.Value.run_blocks m g),
    (θ_run _ _ _).mono (fun r h c => ⟨(h c).1.trans ?_, (h c).2.1.trans ?_, (h c).2.2⟩) (ReferenceIdeal.Value.run m' g')⟩
  · obtain ⟨h0, h1, h2, h3⟩ := hm c
    refine Eq.trans ?_ (array5 m c).symm
    funext y
    refine (congrArg _ (eq_ix3 y)).trans ((fwd_at m' c (y 0) (y 1) (y 2)).trans ?_)
    unfold a0 a1 a2 a3
    rw [h0, h1, h2, h3]
  · obtain ⟨h0, h1, h2, h3⟩ := hm c
    refine Eq.trans ?_ (array6 m c).symm
    funext y
    refine (congrArg _ (eq_ix3 y)).trans ((bwd_at m' c (y 0) (y 1) (y 2)).trans ?_)
    unfold a0 a1 a2 a3
    rw [h0, h1, h2, h3]

end Cert.Gla

end
-- ==== Proof.lean ====
/- The certificate's theorem. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame.Runs
public import proofs.«01_k».proof.Proof.Gen.Kernel3Ideal.Frame.Runs
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Ffn
public import proofs.«01_k».proof.Proof.FfnPlain
public import proofs.«01_k».proof.Proof.Inproj
public import proofs.«01_k».proof.Proof.MergeFrame
public import proofs.«01_k».proof.Proof.MergeBits
public import proofs.«01_k».proof.Proof.Merge
public import proofs.«01_k».proof.Proof.Mods
public import proofs.«01_k».proof.Proof.Scan
public import Idealize.ShloMosaic.Adequacy
public import Idealize.ShloMosaic.Init

@[expose] public section

noncomputable section

namespace Cert.Proof

open Idealize.ShloMosaic Idealize.SL.Sem

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_reference4 : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel.Gen.facts, Cert.KernelIdeal.Gen.facts, Cert.ReferenceIdeal.Gen.facts,
    fun m ρ _ => Cert.Kernel2.Gen.frame m ρ, fun m ρ _ => Cert.Kernel2Ideal.Gen.frame m ρ, frame_reference2,
    Cert.Merge.frame_bits, fun m ρ _ => Cert.Merge.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel.Gen.frame m ρ, fun m ρ _ => Cert.KernelIdeal.Gen.frame m ρ, frame_reference,
    trivial, Cert.Ffn.algebraic, trivial, Cert.Merge.algebraic, trivial, Cert.Inproj.algebraic, trivial, Cert.Mods.algebraic, trivial, Cert.FfnPlain.algebraic,
    trivial, Cert.Gla.algebraic⟩

end Cert.Proof

end
